-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S24x256x4096 : Shape := ⟨3, ![24, 256, 4096]⟩
abbrev S24x256x128 : Shape := ⟨3, ![24, 256, 128]⟩
abbrev S16384x2048 : Shape := ⟨2, ![16384, 2048]⟩
abbrev S16384x128 : Shape := ⟨2, ![16384, 128]⟩
abbrev S24x256 : Shape := ⟨2, ![24, 256]⟩
abbrev S_ : Shape := ⟨0, ![]⟩

class Facts : Prop where
  bcast_S_S24x256x128 : S_.BroadcastsInDim S24x256x128 (![] : Fin 0 → Fin S24x256x128.rank)
  reducesTo_S24x256x128_S_d0_1_2 : S24x256x128.ReducesTo [0, 1, 2] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S24x256 : S_.BroadcastsInDim S24x256 (![] : Fin 0 → Fin S24x256.rank)
  reducesTo_S24x256_S_d0_1 : S24x256.ReducesTo [0, 1] S_

variable [Facts]

def fn_part1 {F : FTy → Type} [FloatOps F] (main_arg4 : FVec F S24x256 .f32) (main_v12 : IVec S_ 1) (main_v14 : IVec S24x256 1) (main_v15 : FVec F S24x256 .f32) : IVec S_ 1 :=
  let main_v16 : IVec S24x256 1 := cmpf .olt main_arg4 main_v15
  let main_v17 : IVec S24x256 1 := andi main_v14 main_v16
  let main_c_6 : IVec S_ 1 := constantI S_ 1 1#1
  let main_v18 : IVec S_ 1 := (fun x v => Host.reduce IntOp.andi x v reducesTo_S24x256_S_d0_1 h_S_) main_v17 main_c_6
  let main_v19 : IVec S_ 1 := andi main_v12 main_v18
  main_v19

def fn {F : FTy → Type} [FloatOps F] (main_arg0 : FVec F S24x256x4096 .fp8e4m3) (main_arg1 : IVec S24x256x128 8) (main_arg2 : IVec S16384x2048 8) (main_arg3 : IVec S16384x128 8) (main_arg4 : FVec F S24x256 .f32) (main_arg5 : FVec F S24x256 .f32) : IVec S_ 1 :=
  let main_c : IVec S_ 8 := constantI S_ 8 1#8
  let main_v0 : IVec S24x256x128 8 := broadcastInDim S24x256x128 ![] bcast_S_S24x256x128 main_c
  let main_v1 : IVec S24x256x128 1 := cmpi .uge main_arg1 main_v0
  let main_c_0 : IVec S_ 8 := constantI S_ 8 254#8
  let main_v2 : IVec S24x256x128 8 := broadcastInDim S24x256x128 ![] bcast_S_S24x256x128 main_c_0
  let main_v3 : IVec S24x256x128 1 := cmpi .ule main_arg1 main_v2
  let main_v4 : IVec S24x256x128 1 := andi main_v1 main_v3
  let main_c_1 : IVec S_ 1 := constantI S_ 1 1#1
  let main_v5 : IVec S_ 1 := (fun x v => Host.reduce IntOp.andi x v reducesTo_S24x256x128_S_d0_1_2 h_S_) main_v4 main_c_1
  let main_c_2 : IVec S_ 8 := constantI S_ 8 1#8
  let main_v6 : IVec S16384x128 8 := broadcastInDim S16384x128 ![] bcast_S_S16384x128 main_c_2
  let main_v7 : IVec S16384x128 1 := cmpi .uge main_arg3 main_v6
  let main_c_3 : IVec S_ 8 := constantI S_ 8 254#8
  let main_v8 : IVec S16384x128 8 := broadcastInDim S16384x128 ![] bcast_S_S16384x128 main_c_3
  let main_v9 : IVec S16384x128 1 := cmpi .ule main_arg3 main_v8
  let main_v10 : IVec S16384x128 1 := andi main_v7 main_v9
  let main_c_4 : IVec S_ 1 := constantI S_ 1 1#1
  let main_v11 : IVec S_ 1 := (fun x v => Host.reduce IntOp.andi x v reducesTo_S16384x128_S_d0_1 h_S_) main_v10 main_c_4
  let main_v12 : IVec S_ 1 := andi main_v5 main_v11
  let main_cst : FVec F S_ .f32 := constant S_ .f32 0x00000000#32
  let main_v13 : FVec F S24x256 .f32 := broadcastInDim S24x256 ![] bcast_S_S24x256 main_cst
  let main_v14 : IVec S24x256 1 := cmpf .ogt main_arg4 main_v13
  let main_cst_5 : FVec F S_ .f32 := constant S_ .f32 0x7F800000#32
  let main_v15 : FVec F S24x256 .f32 := broadcastInDim S24x256 ![] bcast_S_S24x256 main_cst_5
  fn_part1 (F := F) main_arg4 main_v12 main_v14 main_v15
-- ==== Kernel.lean ====
abbrev S24x256x4096 : Shape := ⟨3, ![24, 256, 4096]⟩
abbrev S24x256x128 : Shape := ⟨3, ![24, 256, 128]⟩
abbrev S16384x2048 : Shape := ⟨2, ![16384, 2048]⟩
abbrev S16384x128 : Shape := ⟨2, ![16384, 128]⟩
abbrev S24x256 : Shape := ⟨2, ![24, 256]⟩
abbrev S6144x4096 : Shape := ⟨2, ![6144, 4096]⟩
abbrev S6144x128 : Shape := ⟨2, ![6144, 128]⟩
abbrev S6144x1 : Shape := ⟨2, ![6144, 1]⟩
abbrev S16384x4096 : Shape := ⟨2, ![16384, 4096]⟩
abbrev S256x2048 : Shape := ⟨2, ![256, 2048]⟩
abbrev S256x128 : Shape := ⟨2, ![256, 128]⟩
abbrev S256x4096 : Shape := ⟨2, ![256, 4096]⟩
abbrev S64x128 : Shape := ⟨2, ![64, 128]⟩
abbrev S64x128x1 : Shape := ⟨3, ![64, 128, 1]⟩
abbrev S256x128x1 : Shape := ⟨3, ![256, 128, 1]⟩
abbrev S6144x16384 : Shape := ⟨2, ![6144, 16384]⟩
abbrev S512x4096 : Shape := ⟨2, ![512, 4096]⟩
abbrev S512x1 : Shape := ⟨2, ![512, 1]⟩
abbrev S512x512 : Shape := ⟨2, ![512, 512]⟩
abbrev S32x512x512 : Shape := ⟨3, ![32, 512, 512]⟩
abbrev S512x128 : Shape := ⟨2, ![512, 128]⟩
abbrev S3x512x128 : Shape := ⟨3, ![3, 512, 128]⟩
abbrev S1x512x512 : Shape := ⟨3, ![1, 512, 512]⟩
abbrev S64 : Shape := ⟨1, ![64]⟩
abbrev S64x1 : Shape := ⟨2, ![64, 1]⟩
abbrev S1x64x128 : Shape := ⟨3, ![1, 64, 128]⟩
abbrev S1x512x128 : Shape := ⟨3, ![1, 512, 128]⟩
abbrev S24x256x16384 : Shape := ⟨3, ![24, 256, 16384]⟩

abbrev nBuf : Space → Nat
  | .hbm => 19
  | .vmem => 29
  | .smem => 0
  | _ => 0

abbrev bufTy : (tb : Table) → Fin (tcTables nBuf tb) → BufTy
  | .hbm, ⟨0, _⟩ => ⟨S24x256x4096, .fp8e4m3⟩
  | .hbm, ⟨1, _⟩ => ⟨S24x256x128, .i8⟩
  | .hbm, ⟨2, _⟩ => ⟨S16384x2048, .i8⟩
  | .hbm, ⟨3, _⟩ => ⟨S16384x128, .i8⟩
  | .hbm, ⟨4, _⟩ => ⟨S24x256, .f32⟩
  | .hbm, ⟨5, _⟩ => ⟨S24x256, .f32⟩
  | .hbm, ⟨6, _⟩ => ⟨S6144x4096, .fp8e4m3⟩
  | .hbm, ⟨7, _⟩ => ⟨S6144x128, .i8⟩
  | .hbm, ⟨8, _⟩ => ⟨S6144x1, .f32⟩
  | .hbm, ⟨9, _⟩ => ⟨S24x256, .f32⟩
  | .hbm, ⟨10, _⟩ => ⟨S6144x1, .f32⟩
  | .hbm, ⟨11, _⟩ => ⟨S16384x4096, .bf16⟩
  | .hbm, ⟨12, _⟩ => ⟨S6144x4096, .bf16⟩
  | .hbm, ⟨13, _⟩ => ⟨S6144x16384, .bf16⟩
  | .hbm, ⟨14, _⟩ => ⟨S6144x1, .f32⟩
  | .hbm, ⟨15, _⟩ => ⟨S6144x1, .f32⟩
  | .hbm, ⟨16, _⟩ => ⟨S24x256x16384, .bf16⟩
  | .hbm, ⟨17, _⟩ => ⟨S24x256, .f32⟩
  | .hbm, ⟨18, _⟩ => ⟨S24x256, .f32⟩
  | .local _ .vmem, ⟨0, _⟩ => ⟨S256x2048, .i8⟩
  | .local _ .vmem, ⟨1, _⟩ => ⟨S256x2048, .i8⟩
  | .local _ .vmem, ⟨2, _⟩ => ⟨S256x128, .i8⟩
  | .local _ .vmem, ⟨3, _⟩ => ⟨S256x128, .i8⟩
  | .local _ .vmem, ⟨4, _⟩ => ⟨S256x4096, .bf16⟩
  | .local _ .vmem, ⟨5, _⟩ => ⟨S256x4096, .bf16⟩
  | .local _ .vmem, ⟨6, _⟩ => ⟨S256x4096, .fp8e4m3⟩
  | .local _ .vmem, ⟨7, _⟩ => ⟨S256x4096, .fp8e4m3⟩
  | .local _ .vmem, ⟨8, _⟩ => ⟨S256x128, .i8⟩
  | .local _ .vmem, ⟨9, _⟩ => ⟨S256x128, .i8⟩
  | .local _ .vmem, ⟨10, _⟩ => ⟨S256x4096, .bf16⟩
  | .local _ .vmem, ⟨11, _⟩ => ⟨S256x4096, .bf16⟩
  | .local _ .vmem, ⟨12, _⟩ => ⟨S512x4096, .bf16⟩
  | .local _ .vmem, ⟨13, _⟩ => ⟨S512x4096, .bf16⟩
  | .local _ .vmem, ⟨14, _⟩ => ⟨S512x4096, .bf16⟩
  | .local _ .vmem, ⟨15, _⟩ => ⟨S512x4096, .bf16⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x512, .bf16⟩
  | .local _ .vmem, ⟨21, _⟩ => ⟨S512x512, .bf16⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | .local _ .vmem, ⟨26, _⟩ => ⟨S32x512x512, .f32⟩
  | .local _ .vmem, ⟨27, _⟩ => ⟨S512x128, .f32⟩
  | .local _ .vmem, ⟨28, _⟩ => ⟨S3x512x128, .f32⟩
  | _, _ => ⟨S24x256x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_scratch0 : Ref sig .tc := ⟨.vmem, 26, rfl⟩
abbrev cc2_scratch1 : Ref sig .tc := ⟨.vmem, 27, rfl⟩
abbrev cc2_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![12, 64], ![false, false]⟩

def k2_cond2 (i : grid2.Coords) : BitVec 1 :=
  let arg1 : BitVec 32 := BitVec.ofNat 32 (i 1).val
  let c32_i32 : BitVec 32 := 32#32
  let v3 : BitVec 1 := Scalar.cmpi .slt arg1 c32_i32
  let v4 : BitVec 32 := Scalar.extui v3
  let c0_i32_1 : BitVec 32 := 0#32
  let v5 : BitVec 1 := Scalar.cmpi .ne v4 c0_i32_1
  v5

def k2_off1 (i : grid2.Coords) : Fin 3 → Nat :=
  let arg1 : BitVec 32 := BitVec.ofNat 32 (i 1).val
  let v17 : Index := Scalar.indexCast arg1
  let c0_8 : Index := 0#32
  let c0_9 : Index := 0#32
  ![v17.toNat, 0, 0]
def k2_cond3 (i : grid2.Coords) : BitVec 1 :=
  let arg1 : BitVec 32 := BitVec.ofNat 32 (i 1).val
  let c31_i32 : BitVec 32 := 31#32
  let v6 : BitVec 1 := Scalar.cmpi .eq arg1 c31_i32
  let v7 : BitVec 32 := Scalar.extui v6
  let c0_i32_2 : BitVec 32 := 0#32
  let v8 : BitVec 1 := Scalar.cmpi .ne v7 c0_i32_2
  v8

@[reducible] def k2_t1_loop : Scf.Loop 32 :=
  let c0_i32_5 : BitVec 32 := 0#32
  let c8_i32 : BitVec 32 := 8#32
  let v12 : BitVec 32 := Scalar.addi c0_i32_5 c8_i32
  let c1_i32 : BitVec 32 := 1#32
  ⟨c0_i32_5, v12, c1_i32⟩
def k2_off2 (k2_t1 : Fin k2_t1_loop.trips) : Fin 2 → Nat :=
  let c0_i32_5 : BitVec 32 := 0#32
  let c1_i32 : BitVec 32 := 1#32
  let arg12 : BitVec 32 := Scf.iv c0_i32_5 c1_i32 k2_t1
  let c64_i32 : BitVec 32 := 64#32
  let v13 : BitVec 32 := Scalar.muli arg12 c64_i32
  let v14 : Index := Scalar.indexCast v13
  let c0 : Index := 0#32
  ![v14.toNat, 0]
def k2_off3 (k2_t1 : Fin k2_t1_loop.trips) : Fin 2 → Nat :=
  let c0_i32_5 : BitVec 32 := 0#32
  let c1_i32 : BitVec 32 := 1#32
  let arg12 : BitVec 32 := Scf.iv c0_i32_5 c1_i32 k2_t1
  let c64_i32 : BitVec 32 := 64#32
  let v13 : BitVec 32 := Scalar.muli arg12 c64_i32
  let v18 : Index := Scalar.indexCast v13
  let c0_7 : Index := 0#32
  ![v18.toNat, 0]
@[reducible] def k2_t2_loop : Scf.Loop 32 :=
  let c0_i32_14 : BitVec 32 := 0#32
  let c32_i32_15 : BitVec 32 := 32#32
  let v34 : BitVec 32 := Scalar.addi c0_i32_14 c32_i32_15
  let c1_i32_16 : BitVec 32 := 1#32
  ⟨c0_i32_14, v34, c1_i32_16⟩
def k2_off4 (k2_t1 : Fin k2_t1_loop.trips) (k2_t2 : Fin k2_t2_loop.trips) : Fin 3 → Nat :=
  let c0_i32_14 : BitVec 32 := 0#32
  let c1_i32_16 : BitVec 32 := 1#32
  let arg13 : BitVec 32 := Scf.iv c0_i32_14 c1_i32_16 k2_t2
  let v70 : Index := Scalar.indexCast arg13
  let c0_i32_5 : BitVec 32 := 0#32
  let c1_i32 : BitVec 32 := 1#32
  let arg12 : BitVec 32 := Scf.iv c0_i32_5 c1_i32 k2_t1
  let c64_i32 : BitVec 32 := 64#32
  let v13 : BitVec 32 := Scalar.muli arg12 c64_i32
  let v71 : Index := Scalar.indexCast v13
  let c0_27 : Index := 0#32
  ![v70.toNat, v71.toNat, 0]
def k2_off5 (k2_t1 : Fin k2_t1_loop.trips) (k2_t2 : Fin k2_t2_loop.trips) : Fin 3 → Nat :=
  let c0_i32_14 : BitVec 32 := 0#32
  let c1_i32_16 : BitVec 32 := 1#32
  let arg13 : BitVec 32 := Scf.iv c0_i32_14 c1_i32_16 k2_t2
  let v89 : Index := Scalar.indexCast arg13
  let c0_i32_5 : BitVec 32 := 0#32
  let c1_i32 : BitVec 32 := 1#32
  let arg12 : BitVec 32 := Scf.iv c0_i32_5 c1_i32 k2_t1
  let c64_i32 : BitVec 32 := 64#32
  let v13 : BitVec 32 := Scalar.muli arg12 c64_i32
  let v90 : Index := Scalar.indexCast v13
  let c128 : Index := 128#32
  ![v89.toNat, v90.toNat, 128]
def k2_off6 (k2_t1 : Fin k2_t1_loop.trips) (k2_t2 : Fin k2_t2_loop.trips) : Fin 3 → Nat :=
  let c0_i32_14 : BitVec 32 := 0#32
  let c1_i32_16 : BitVec 32 := 1#32
  let arg13 : BitVec 32 := Scf.iv c0_i32_14 c1_i32_16 k2_t2
  let v108 : Index := Scalar.indexCast arg13
  let c0_i32_5 : BitVec 32 := 0#32
  let c1_i32 : BitVec 32 := 1#32
  let arg12 : BitVec 32 := Scf.iv c0_i32_5 c1_i32 k2_t1
  let c64_i32 : BitVec 32 := 64#32
  let v13 : BitVec 32 := Scalar.muli arg12 c64_i32
  let v109 : Index := Scalar.indexCast v13
  let c256 : Index := 256#32
  ![v108.toNat, v109.toNat, 256]
def k2_off7 (k2_t1 : Fin k2_t1_loop.trips) (k2_t2 : Fin k2_t2_loop.trips) : Fin 3 → Nat :=
  let c0_i32_14 : BitVec 32 := 0#32
  let c1_i32_16 : BitVec 32 := 1#32
  let arg13 : BitVec 32 := Scf.iv c0_i32_14 c1_i32_16 k2_t2
  let v127 : Index := Scalar.indexCast arg13
  let c0_i32_5 : BitVec 32 := 0#32
  let c1_i32 : BitVec 32 := 1#32
  let arg12 : BitVec 32 := Scf.iv c0_i32_5 c1_i32 k2_t1
  let c64_i32 : BitVec 32 := 64#32
  let v13 : BitVec 32 := Scalar.muli arg12 c64_i32
  let v128 : Index := Scalar.indexCast v13
  let c384 : Index := 384#32
  ![v127.toNat, v128.toNat, 384]
def k2_off8 (k2_t1 : Fin k2_t1_loop.trips) : Fin 3 → Nat :=
  let c0_23 : Index := 0#32
  let c0_i32_5 : BitVec 32 := 0#32
  let c1_i32 : BitVec 32 := 1#32
  let arg12 : BitVec 32 := Scf.iv c0_i32_5 c1_i32 k2_t1
  let c64_i32 : BitVec 32 := 64#32
  let v13 : BitVec 32 := Scalar.muli arg12 c64_i32
  let v51 : Index := Scalar.indexCast v13
  let c0_24 : Index := 0#32
  ![0, v51.toNat, 0]
def k2_off9 (k2_t1 : Fin k2_t1_loop.trips) : Fin 3 → Nat :=
  let c1 : Index := 1#32
  let c0_i32_5 : BitVec 32 := 0#32
  let c1_i32 : BitVec 32 := 1#32
  let arg12 : BitVec 32 := Scf.iv c0_i32_5 c1_i32 k2_t1
  let c64_i32 : BitVec 32 := 64#32
  let v13 : BitVec 32 := Scalar.muli arg12 c64_i32
  let v60 : Index := Scalar.indexCast v13
  let c0_25 : Index := 0#32
  ![1, v60.toNat, 0]
def k2_off10 (k2_t1 : Fin k2_t1_loop.trips) : Fin 3 → Nat :=
  let c2 : Index := 2#32
  let c0_i32_5 : BitVec 32 := 0#32
  let c1_i32 : BitVec 32 := 1#32
  let arg12 : BitVec 32 := Scf.iv c0_i32_5 c1_i32 k2_t1
  let c64_i32 : BitVec 32 := 64#32
  let v13 : BitVec 32 := Scalar.muli arg12 c64_i32
  let v66 : Index := Scalar.indexCast v13
  let c0_26 : Index := 0#32
  ![2, v66.toNat, 0]
def k2_cond4 (i : grid2.Coords) : BitVec 1 :=
  let arg1 : BitVec 32 := BitVec.ofNat 32 (i 1).val
  let c32_i32_3 : BitVec 32 := 32#32
  let v9 : BitVec 1 := Scalar.cmpi .sge arg1 c32_i32_3
  let v10 : BitVec 32 := Scalar.extui v9
  let c0_i32_4 : BitVec 32 := 0#32
  let v11 : BitVec 1 := Scalar.cmpi .ne v10 c0_i32_4
  v11

def k2_off11 (i : grid2.Coords) : Fin 3 → Nat :=
  let arg1 : BitVec 32 := BitVec.ofNat 32 (i 1).val
  let c32_i32_11 : BitVec 32 := 32#32
  let v18 : BitVec 32 := Scalar.subi arg1 c32_i32_11
  let v19 : Index := Scalar.indexCast v18
  let c0_12 : Index := 0#32
  let c0_13 : Index := 0#32
  ![v19.toNat, 0, 0]
def k2_off12 (i : grid2.Coords) : Fin 3 → Nat :=
  let arg1 : BitVec 32 := BitVec.ofNat 32 (i 1).val
  let c32_i32_16 : BitVec 32 := 32#32
  let v29 : BitVec 32 := Scalar.subi arg1 c32_i32_16
  let v30 : Index := Scalar.indexCast v29
  let c0_17 : Index := 0#32
  let c128 : Index := 128#32
  ![v30.toNat, 0, 128]
def k2_off13 (i : grid2.Coords) : Fin 3 → Nat :=
  let arg1 : BitVec 32 := BitVec.ofNat 32 (i 1).val
  let c32_i32_21 : BitVec 32 := 32#32
  let v40 : BitVec 32 := Scalar.subi arg1 c32_i32_21
  let v41 : Index := Scalar.indexCast v40
  let c0_22 : Index := 0#32
  let c256 : Index := 256#32
  ![v41.toNat, 0, 256]
def k2_off14 (i : grid2.Coords) : Fin 3 → Nat :=
  let arg1 : BitVec 32 := BitVec.ofNat 32 (i 1).val
  let c32_i32_26 : BitVec 32 := 32#32
  let v51 : BitVec 32 := Scalar.subi arg1 c32_i32_26
  let v52 : Index := Scalar.indexCast v51
  let c0_27 : Index := 0#32
  let c384 : Index := 384#32
  ![v52.toNat, 0, 384]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  ![arg0.toNat, v1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S512x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]
-- ==== ReferenceIdeal.lean ====
abbrev S24x256x4096 : Shape := ⟨3, ![24, 256, 4096]⟩
abbrev S24x256x128 : Shape := ⟨3, ![24, 256, 128]⟩
abbrev S16384x2048 : Shape := ⟨2, ![16384, 2048]⟩
abbrev S16384x128 : Shape := ⟨2, ![16384, 128]⟩
abbrev S24x256 : Shape := ⟨2, ![24, 256]⟩
abbrev S2 : Shape := ⟨1, ![2]⟩
abbrev S_ : Shape := ⟨0, ![]⟩
abbrev S24x256x128x32 : Shape := ⟨4, ![24, 256, 128, 32]⟩
abbrev S24x256x128x1 : Shape := ⟨4, ![24, 256, 128, 1]⟩
abbrev S24x256x2048x2 : Shape := ⟨4, ![24, 256, 2048, 2]⟩
abbrev S24x256x2x2048 : Shape := ⟨4, ![24, 256, 2, 2048]⟩
abbrev S16384x1x2048 : Shape := ⟨3, ![16384, 1, 2048]⟩
abbrev S1x2x1 : Shape := ⟨3, ![1, 2, 1]⟩
abbrev S16384x2x2048 : Shape := ⟨3, ![16384, 2, 2048]⟩
abbrev S16384x2x128x16 : Shape := ⟨4, ![16384, 2, 128, 16]⟩
abbrev S16384x1x128x1 : Shape := ⟨4, ![16384, 1, 128, 1]⟩
abbrev S16384x4096 : Shape := ⟨2, ![16384, 4096]⟩
abbrev S24x256x16384 : Shape := ⟨3, ![24, 256, 16384]⟩
abbrev S24x256x1 : Shape := ⟨3, ![24, 256, 1]⟩

abbrev nBuf : Space → Nat
  | .hbm => 150
  | .vmem => 2
  | .smem => 0
  | _ => 0

abbrev hbmTy0_0 (i : Nat) : BufTy := match i % 128 with
  | 0 => ⟨S24x256x4096, .fp8e4m3⟩
  | 1 => ⟨S24x256x128, .i8⟩
  | 2 => ⟨S16384x2048, .i8⟩
  | 3 => ⟨S16384x128, .i8⟩
  | 4 => ⟨S24x256, .f32⟩
  | 5 => ⟨S24x256, .f32⟩
  | 6 => ⟨S2, .i32⟩
  | 7 => ⟨S24x256x4096, .bf16⟩
  | 8 => ⟨S_, .f32⟩
  | 9 => ⟨S_, .f32⟩
  | 10 => ⟨S_, .bf16⟩
  | 11 => ⟨S24x256x4096, .bf16⟩
  | 12 => ⟨S24x256x4096, .bf16⟩
  | 13 => ⟨S_, .bf16⟩
  | 14 => ⟨S24x256x4096, .bf16⟩
  | 15 => ⟨S24x256x4096, .bf16⟩
  | 16 => ⟨S24x256x128x32, .bf16⟩
  | 17 => ⟨S24x256x128, .i32⟩
  | 18 => ⟨S_, .i32⟩
  | 19 => ⟨S24x256x128, .i32⟩
  | 20 => ⟨S24x256x128, .i32⟩
  | 21 => ⟨S24x256x128, .f32⟩
  | 22 => ⟨S_, .f32⟩
  | 23 => ⟨S24x256x128, .f32⟩
  | 24 => ⟨S24x256x128, .f32⟩
  | 25 => ⟨S24x256x128, .bf16⟩
  | 26 => ⟨S24x256x128x1, .bf16⟩
  | 27 => ⟨S24x256x128x32, .bf16⟩
  | 28 => ⟨S24x256x128x32, .bf16⟩
  | 29 => ⟨S24x256x2048x2, .bf16⟩
  | 30 => ⟨S24x256x2x2048, .bf16⟩
  | 31 => ⟨S24x256x4096, .bf16⟩
  | 32 => ⟨S16384x2048, .i32⟩
  | 33 => ⟨S16384x1x2048, .i32⟩
  | 34 => ⟨S1x2x1, .i32⟩
  | 35 => ⟨S16384x2x2048, .i32⟩
  | 36 => ⟨S16384x2x2048, .i32⟩
  | 37 => ⟨S16384x2x2048, .i32⟩
  | 38 => ⟨S_, .i32⟩
  | 39 => ⟨S16384x2x2048, .i32⟩
  | 40 => ⟨S16384x2x2048, .i32⟩
  | 41 => ⟨S_, .i32⟩
  | 42 => ⟨S16384x2x2048, .i32⟩
  | 43 => ⟨S16384x2x2048, .i32⟩
  | 44 => ⟨S_, .i32⟩
  | 45 => ⟨S16384x2x2048, .i32⟩
  | 46 => ⟨S16384x2x2048, .i1⟩
  | 47 => ⟨S_, .i32⟩
  | 48 => ⟨S16384x2x2048, .i32⟩
  | 49 => ⟨S16384x2x2048, .i32⟩
  | 50 => ⟨S_, .i32⟩
  | 51 => ⟨S16384x2x2048, .i32⟩
  | 52 => ⟨S16384x2x2048, .i1⟩
  | 53 => ⟨S_, .i32⟩
  | 54 => ⟨S16384x2x2048, .i32⟩
  | 55 => ⟨S16384x2x2048, .i32⟩
  | 56 => ⟨S_, .i32⟩
  | 57 => ⟨S16384x2x2048, .i32⟩
  | 58 => ⟨S16384x2x2048, .i1⟩
  | 59 => ⟨S_, .i32⟩
  | 60 => ⟨S16384x2x2048, .i32⟩
  | 61 => ⟨S16384x2x2048, .i32⟩
  | 62 => ⟨S_, .i32⟩
  | 63 => ⟨S16384x2x2048, .i32⟩
  | 64 => ⟨S16384x2x2048, .i1⟩
  | 65 => ⟨S_, .f32⟩
  | 66 => ⟨S_, .f32⟩
  | 67 => ⟨S16384x2x2048, .f32⟩
  | 68 => ⟨S16384x2x2048, .f32⟩
  | 69 => ⟨S16384x2x2048, .f32⟩
  | 70 => ⟨S_, .f32⟩
  | 71 => ⟨S_, .f32⟩
  | 72 => ⟨S16384x2x2048, .f32⟩
  | 73 => ⟨S16384x2x2048, .f32⟩
  | 74 => ⟨S16384x2x2048, .f32⟩
  | 75 => ⟨S16384x2x2048, .f32⟩
  | 76 => ⟨S_, .f32⟩
  | 77 => ⟨S_, .f32⟩
  | 78 => ⟨S16384x2x2048, .f32⟩
  | 79 => ⟨S16384x2x2048, .f32⟩
  | 80 => ⟨S16384x2x2048, .f32⟩
  | 81 => ⟨S_, .f32⟩
  | 82 => ⟨S_, .f32⟩
  | 83 => ⟨S16384x2x2048, .f32⟩
  | 84 => ⟨S16384x2x2048, .f32⟩
  | 85 => ⟨S16384x2x2048, .f32⟩
  | 86 => ⟨S16384x2x2048, .f32⟩
  | 87 => ⟨S16384x2x2048, .f32⟩
  | 88 => ⟨S16384x2x2048, .bf16⟩
  | 89 => ⟨S16384x2x2048, .bf16⟩
  | 90 => ⟨S16384x2x2048, .bf16⟩
  | 91 => ⟨S16384x2x128x16, .bf16⟩
  | 92 => ⟨S16384x128, .i32⟩
  | 93 => ⟨S_, .i32⟩
  | 94 => ⟨S16384x128, .i32⟩
  | 95 => ⟨S16384x128, .i32⟩
  | 96 => ⟨S16384x128, .f32⟩
  | 97 => ⟨S_, .f32⟩
  | 98 => ⟨S16384x128, .f32⟩
  | 99 => ⟨S16384x128, .f32⟩
  | 100 => ⟨S16384x128, .bf16⟩
  | 101 => ⟨S16384x1x128x1, .bf16⟩
  | 102 => ⟨S16384x2x128x16, .bf16⟩
  | 103 => ⟨S16384x2x128x16, .bf16⟩
  | 104 => ⟨S16384x4096, .bf16⟩
  | 105 => ⟨S24x256x16384, .f32⟩
  | 106 => ⟨S24x256x1, .f32⟩
  | 107 => ⟨S24x256x16384, .f32⟩
  | 108 => ⟨S24x256x16384, .f32⟩
  | 109 => ⟨S_, .f32⟩
  | 110 => ⟨S24x256, .f32⟩
  | 111 => ⟨S24x256x1, .f32⟩
  | 112 => ⟨S24x256x1, .f32⟩
  | 113 => ⟨S24x256x16384, .f32⟩
  | 114 => ⟨S24x256x16384, .f32⟩
  | 115 => ⟨S24x256x16384, .f32⟩
  | 116 => ⟨S_, .f32⟩
  | 117 => ⟨S24x256, .f32⟩
  | 118 => ⟨S24x256x1, .f32⟩
  | 119 => ⟨S24x256x1, .f32⟩
  | 120 => ⟨S24x256x1, .f32⟩
  | 121 => ⟨S24x256, .f32⟩
  | 122 => ⟨S24x256x1, .f32⟩
  | 123 => ⟨S24x256x1, .f32⟩
  | 124 => ⟨S24x256x1, .f32⟩
  | 125 => ⟨S24x256, .f32⟩
  | 126 => ⟨S24x256x16384, .f32⟩
  | 127 => ⟨S24x256x16384, .f32⟩
  | _ => ⟨S24x256x4096, .fp8e4m3⟩

abbrev hbmTy0_1 (i : Nat) : BufTy := match i % 128 with
  | 0 => ⟨S_, .f32⟩
  | 1 => ⟨S24x256x16384, .f32⟩
  | 2 => ⟨S24x256x16384, .i1⟩
  | 3 => ⟨S_, .f32⟩
  | 4 => ⟨S_, .f32⟩
  | 5 => ⟨S24x256x16384, .f32⟩
  | 6 => ⟨S24x256x16384, .f32⟩
  | 7 => ⟨S_, .f32⟩
  | 8 => ⟨S24x256, .f32⟩
  | 9 => ⟨S24x256x1, .f32⟩
  | 10 => ⟨S24x256x1, .f32⟩
  | 11 => ⟨S24x256x1, .f32⟩
  | 12 => ⟨S24x256x16384, .f32⟩
  | 13 => ⟨S24x256x16384, .f32⟩
  | 14 => ⟨S_, .f32⟩
  | 15 => ⟨S_, .f32⟩
  | 16 => ⟨S24x256x16384, .f32⟩
  | 17 => ⟨S24x256x16384, .f32⟩
  | 18 => ⟨S24x256x16384, .bf16⟩
  | 19 => ⟨S24x256x16384, .f32⟩
  | 20 => ⟨S_, .f32⟩
  | 21 => ⟨S24x256, .f32⟩
  | _ => ⟨S24x256x4096, .fp8e4m3⟩

abbrev hbmTy (i : Nat) : BufTy := match i / 128 with
  | 0 => hbmTy0_0 i
  | 1 => hbmTy0_1 i
  | _ => ⟨S24x256x4096, .fp8e4m3⟩

abbrev bufTy : (tb : Table) → Fin (tcTables nBuf tb) → BufTy
  | .hbm, ⟨i, _⟩ => hbmTy i
  | .local _ .vmem, ⟨0, _⟩ => ⟨S24x256x4096, .fp8e4m3⟩
  | .local _ .vmem, ⟨1, _⟩ => ⟨S24x256x4096, .bf16⟩
  | _, _ => ⟨S24x256x4096, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_c_11 : Ref sig .tc := ⟨.hbm, 62, rfl⟩
abbrev main_v38 : Ref sig .tc := ⟨.hbm, 63, rfl⟩
abbrev main_v39 : Ref sig .tc := ⟨.hbm, 64, rfl⟩
abbrev main_cst_12 : Ref sig .tc := ⟨.hbm, 65, rfl⟩
abbrev main_cst_13 : Ref sig .tc := ⟨.hbm, 66, rfl⟩
abbrev main_call1_v0 : Ref sig .tc := ⟨.hbm, 67, rfl⟩
abbrev main_call1_v1 : Ref sig .tc := ⟨.hbm, 68, rfl⟩
abbrev main_v40 : Ref sig .tc := ⟨.hbm, 69, rfl⟩
abbrev main_cst_14 : Ref sig .tc := ⟨.hbm, 70, rfl⟩
abbrev main_cst_15 : Ref sig .tc := ⟨.hbm, 71, rfl⟩
abbrev main_call2_v0 : Ref sig .tc := ⟨.hbm, 72, rfl⟩
abbrev main_call2_v1 : Ref sig .tc := ⟨.hbm, 73, rfl⟩
abbrev main_v41 : Ref sig .tc := ⟨.hbm, 74, rfl⟩
abbrev main_v42 : Ref sig .tc := ⟨.hbm, 75, rfl⟩
abbrev main_cst_16 : Ref sig .tc := ⟨.hbm, 76, rfl⟩
abbrev main_cst_17 : Ref sig .tc := ⟨.hbm, 77, rfl⟩
abbrev main_call4_v0 : Ref sig .tc := ⟨.hbm, 78, rfl⟩
abbrev main_call4_v1 : Ref sig .tc := ⟨.hbm, 79, rfl⟩
abbrev main_v43 : Ref sig .tc := ⟨.hbm, 80, rfl⟩
abbrev main_cst_18 : Ref sig .tc := ⟨.hbm, 81, rfl⟩
abbrev main_cst_19 : Ref sig .tc := ⟨.hbm, 82, rfl⟩
abbrev main_call5_v0 : Ref sig .tc := ⟨.hbm, 83, rfl⟩
abbrev main_call5_v1 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_c_20 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_21 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_22 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_23 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_24 : Ref sig .tc := ⟨.hbm, 128, rfl⟩
abbrev main_v83 : Ref sig .tc := ⟨.hbm, 129, rfl⟩
abbrev main_v84 : Ref sig .tc := ⟨.hbm, 130, rfl⟩
abbrev main_cst_25 : Ref sig .tc := ⟨.hbm, 131, rfl⟩
abbrev main_call9_v0 : Ref sig .tc := ⟨.hbm, 132, rfl⟩
abbrev main_call9_v1 : Ref sig .tc := ⟨.hbm, 133, rfl⟩
abbrev main_v85 : Ref sig .tc := ⟨.hbm, 134, rfl⟩
abbrev main_cst_26 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_27 : Ref sig .tc := ⟨.hbm, 142, rfl⟩
abbrev main_call10_v0 : Ref sig .tc := ⟨.hbm, 143, rfl⟩
abbrev main_call10_v1 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_28 : Ref sig .tc := ⟨.hbm, 148, rfl⟩
abbrev main_v95 : Ref sig .tc := ⟨.hbm, 149, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S24x256x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.PrepVals.lean ====
/- What the two decoding regions write, one function for every chunk: the block scales spread over a chunk's lanes, the
   decoded 4-bit weights, and the rows of the 8-bit operand split into even and odd elements. -/
module

public import proofs.«01_k».proof.Proof.Gen.Kernel.Skeleton

@[expose] public section

set_option maxRecDepth 16384

noncomputable section

namespace Cert.Kernel

open Cert.Kernel.Gen
open Idealize.ShloMosaic Idealize.ShloMosaic.TcCoe Idealize.ShloMosaic.Tactic

variable {F : FTy → Type} [FloatOps F]

/-- The lane's number divided by 16, rounded towards minus infinity. -/
def lane16 : IVec S64x128 32 :=
  select (andi k1_pay8 (cmpi .ne (remsi (iota .tc S64x128 32 [1] iota_S64x128_d1_w32) (broadcast S64x128 16#32)) (broadcast S64x128 0#32)))
    (subi k1_pay7 (broadcast S64x128 1#32)) k1_pay7

/-- The scale bytes a chunk's lanes read, four rows to a word: lane `l` reads column `l / 16 + c8`. -/
def scaleWord (sc : IVec S64x128 32) (c8 : BitVec 32) : IVec S64x128 32 :=
  dynamicGather 1 sc (shapeCast S64x128 (shapeCast S64x128x1
    (select (cmpi .slt (addi lane16 (broadcast S64x128 c8)) (broadcast S64x128 0#32))
      (addi (addi lane16 (broadcast S64x128 c8)) (broadcast S64x128 128#32)) (addi lane16 (broadcast S64x128 c8)))
    shapeCasts_S64x128_S64x128x1) shapeCasts_S64x128x1_S64x128)

/-- The scales of a chunk's lanes: each byte put at a bf16 word's exponent. -/
def scaleAt (sc : IVec S64x128 32) (c8 : BitVec 32) : FVec F S256x128 .bf16 :=
  bitcastToFloat .bf16 (shli (extui 16 (bitcast S256x128 8 (scaleWord sc c8) bitcasts_S64x128_w32_S256x128_w8) natLt_8_16) (broadcast S256x128 7#16))

/-- The low nibbles of a chunk's bytes as 8-bit float words. -/
def wlo (w : IVec S64x128 32) : IVec S64x128 32 :=
  ori (andi (shli w (broadcast S64x128 2#32)) (broadcast S64x128 471604252#32)) (andi (shli w (broadcast S64x128 4#32)) (broadcast S64x128 2155905152#32))

/-- The high nibbles of a chunk's bytes as 8-bit float words. -/
def whi (w : IVec S64x128 32) : IVec S64x128 32 :=
  ori (andi (shrsi w (broadcast S64x128 2#32)) (broadcast S64x128 471604252#32)) (andi w (broadcast S64x128 2155905152#32))

/-- The 8-bit float words as numbers times 64, times the scales. -/
def wmul (v : IVec S64x128 32) (s : FVec F S256x128 .bf16) : FVec F S256x128 .bf16 :=
  mulf (mulf (extf .bf16 (bitcastToFloat .fp8e4m3 (bitcast S256x128 8 v bitcasts_S64x128_w32_S256x128_w8)) bitsLt_fp8e4m3_bf16)
    (broadcast S256x128 (Scalar.ofBits .bf16 0x4280#16))) s

/-- A chunk's low nibbles decoded and scaled. -/
def wOutLo (x1 : Vec F S256x128 .i8) (wc : Vec F S256x128 .i8) (c8 : BitVec 32) : FVec F S256x128 .bf16 :=
  wmul (wlo (bitcast S64x128 32 wc bitcasts_S256x128_w8_S64x128_w32)) (scaleAt (bitcast S64x128 32 x1 bitcasts_S256x128_w8_S64x128_w32) c8)

/-- A chunk's high nibbles decoded and scaled. -/
def wOutHi (x1 : Vec F S256x128 .i8) (wc : Vec F S256x128 .i8) (c8 : BitVec 32) : FVec F S256x128 .bf16 :=
  wmul (whi (bitcast S64x128 32 wc bitcasts_S256x128_w8_S64x128_w32)) (scaleAt (bitcast S64x128 32 x1 bitcasts_S256x128_w8_S64x128_w32) c8)

/-- The lanes a half of a chunk reads: `2 * lane mod 128 + h`. -/
def xidx (h : BitVec 32) : IVec S256x128 32 :=
  shapeCast S256x128 (shapeCast S256x128x1
    (select (cmpi .slt (addi k1_pay3 (broadcast S256x128 h)) (broadcast S256x128 0#32))
      (addi (addi k1_pay3 (broadcast S256x128 h)) (broadcast S256x128 128#32)) (addi k1_pay3 (broadcast S256x128 h)))
    shapeCasts_S256x128_S256x128x1) shapeCasts_S256x128x1_S256x128

/-- The even (`h = 0`) or odd (`h = 1`) elements of a chunk, times the scales. -/
def xOut (x1 : Vec F S256x128 .i8) (a b : Vec F S256x128 .fp8e4m3) (h c8 : BitVec 32) : FVec F S256x128 .bf16 :=
  mulf (truncf .bf16 (select k1_pay4 (dynamicGather 1 (k1_pay5 a) (xidx h)) (dynamicGather 1 (k1_pay5 b) (xidx h))) bitsLt_bf16_f32)
    (scaleAt (k1_pay2 x1) c8)

end Cert.Kernel

end
-- ==== Proof.Kernel.PrepW.lean ====
/- Region 0 of the kernel, `prep_w`: its body's triple, its proof data over any contents `V` of the buffers the region is
   entered with, and the body obligation at every grid point. -/
module

public import proofs.«01_k».proof.Proof.Gen.Kernel.Regions
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.Kernel.PrepVals

@[expose] public section

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of each core's buffers when the region is entered.
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S256x128 := Rect.unit (s := S256x128) ![0, 0] S256x128.size inb_S256x128_S256x128_0_0
abbrev r0_1 : Rect S256x2048 := Rect.unit (s := S256x2048) ![0, 0] S256x128.size inb_S256x2048_S256x128_0_0
abbrev r0_2 : Rect S256x4096 := Rect.unit (s := S256x4096) ![0, 0] S256x128.size inb_S256x4096_S256x128_0_0
abbrev r0_3 : Rect S256x4096 := Rect.unit (s := S256x4096) ![0, 128] S256x128.size inb_S256x4096_S256x128_0_128
abbrev r0_4 : Rect S256x2048 := Rect.unit (s := S256x2048) ![0, 128] S256x128.size inb_S256x2048_S256x128_0_128
abbrev r0_5 : Rect S256x4096 := Rect.unit (s := S256x4096) ![0, 256] S256x128.size inb_S256x4096_S256x128_0_256
abbrev r0_6 : Rect S256x4096 := Rect.unit (s := S256x4096) ![0, 384] S256x128.size inb_S256x4096_S256x128_0_384
abbrev r0_7 : Rect S256x2048 := Rect.unit (s := S256x2048) ![0, 256] S256x128.size inb_S256x2048_S256x128_0_256
abbrev r0_8 : Rect S256x4096 := Rect.unit (s := S256x4096) ![0, 512] S256x128.size inb_S256x4096_S256x128_0_512
abbrev r0_9 : Rect S256x4096 := Rect.unit (s := S256x4096) ![0, 640] S256x128.size inb_S256x4096_S256x128_0_640
abbrev r0_10 : Rect S256x2048 := Rect.unit (s := S256x2048) ![0, 384] S256x128.size inb_S256x2048_S256x128_0_384
abbrev r0_11 : Rect S256x4096 := Rect.unit (s := S256x4096) ![0, 768] S256x128.size inb_S256x4096_S256x128_0_768
abbrev r0_12 : Rect S256x4096 := Rect.unit (s := S256x4096) ![0, 896] S256x128.size inb_S256x4096_S256x128_0_896
abbrev r0_13 : Rect S256x2048 := Rect.unit (s := S256x2048) ![0, 512] S256x128.size inb_S256x2048_S256x128_0_512
abbrev r0_14 : Rect S256x4096 := Rect.unit (s := S256x4096) ![0, 1024] S256x128.size inb_S256x4096_S256x128_0_1024
abbrev r0_15 : Rect S256x4096 := Rect.unit (s := S256x4096) ![0, 1152] S256x128.size inb_S256x4096_S256x128_0_1152
abbrev r0_16 : Rect S256x2048 := Rect.unit (s := S256x2048) ![0, 640] S256x128.size inb_S256x2048_S256x128_0_640
abbrev r0_17 : Rect S256x4096 := Rect.unit (s := S256x4096) ![0, 1280] S256x128.size inb_S256x4096_S256x128_0_1280
abbrev r0_18 : Rect S256x4096 := Rect.unit (s := S256x4096) ![0, 1408] S256x128.size inb_S256x4096_S256x128_0_1408
abbrev r0_19 : Rect S256x2048 := Rect.unit (s := S256x2048) ![0, 768] S256x128.size inb_S256x2048_S256x128_0_768
abbrev r0_20 : Rect S256x4096 := Rect.unit (s := S256x4096) ![0, 1536] S256x128.size inb_S256x4096_S256x128_0_1536
abbrev r0_21 : Rect S256x4096 := Rect.unit (s := S256x4096) ![0, 1664] S256x128.size inb_S256x4096_S256x128_0_1664
abbrev r0_22 : Rect S256x2048 := Rect.unit (s := S256x2048) ![0, 896] S256x128.size inb_S256x2048_S256x128_0_896
abbrev r0_23 : Rect S256x4096 := Rect.unit (s := S256x4096) ![0, 1792] S256x128.size inb_S256x4096_S256x128_0_1792
abbrev r0_24 : Rect S256x4096 := Rect.unit (s := S256x4096) ![0, 1920] S256x128.size inb_S256x4096_S256x128_0_1920
abbrev r0_25 : Rect S256x2048 := Rect.unit (s := S256x2048) ![0, 1024] S256x128.size inb_S256x2048_S256x128_0_1024
abbrev r0_26 : Rect S256x4096 := Rect.unit (s := S256x4096) ![0, 2048] S256x128.size inb_S256x4096_S256x128_0_2048
abbrev r0_27 : Rect S256x4096 := Rect.unit (s := S256x4096) ![0, 2176] S256x128.size inb_S256x4096_S256x128_0_2176
abbrev r0_28 : Rect S256x2048 := Rect.unit (s := S256x2048) ![0, 1152] S256x128.size inb_S256x2048_S256x128_0_1152
abbrev r0_29 : Rect S256x4096 := Rect.unit (s := S256x4096) ![0, 2304] S256x128.size inb_S256x4096_S256x128_0_2304
abbrev r0_30 : Rect S256x4096 := Rect.unit (s := S256x4096) ![0, 2432] S256x128.size inb_S256x4096_S256x128_0_2432
abbrev r0_31 : Rect S256x2048 := Rect.unit (s := S256x2048) ![0, 1280] S256x128.size inb_S256x2048_S256x128_0_1280
abbrev r0_32 : Rect S256x4096 := Rect.unit (s := S256x4096) ![0, 2560] S256x128.size inb_S256x4096_S256x128_0_2560
abbrev r0_33 : Rect S256x4096 := Rect.unit (s := S256x4096) ![0, 2688] S256x128.size inb_S256x4096_S256x128_0_2688
abbrev r0_34 : Rect S256x2048 := Rect.unit (s := S256x2048) ![0, 1408] S256x128.size inb_S256x2048_S256x128_0_1408
abbrev r0_35 : Rect S256x4096 := Rect.unit (s := S256x4096) ![0, 2816] S256x128.size inb_S256x4096_S256x128_0_2816
abbrev r0_36 : Rect S256x4096 := Rect.unit (s := S256x4096) ![0, 2944] S256x128.size inb_S256x4096_S256x128_0_2944
abbrev r0_37 : Rect S256x2048 := Rect.unit (s := S256x2048) ![0, 1536] S256x128.size inb_S256x2048_S256x128_0_1536
abbrev r0_38 : Rect S256x4096 := Rect.unit (s := S256x4096) ![0, 3072] S256x128.size inb_S256x4096_S256x128_0_3072
abbrev r0_39 : Rect S256x4096 := Rect.unit (s := S256x4096) ![0, 3200] S256x128.size inb_S256x4096_S256x128_0_3200
abbrev r0_40 : Rect S256x2048 := Rect.unit (s := S256x2048) ![0, 1664] S256x128.size inb_S256x2048_S256x128_0_1664
abbrev r0_41 : Rect S256x4096 := Rect.unit (s := S256x4096) ![0, 3328] S256x128.size inb_S256x4096_S256x128_0_3328
abbrev r0_42 : Rect S256x4096 := Rect.unit (s := S256x4096) ![0, 3456] S256x128.size inb_S256x4096_S256x128_0_3456
abbrev r0_43 : Rect S256x2048 := Rect.unit (s := S256x2048) ![0, 1792] S256x128.size inb_S256x2048_S256x128_0_1792
abbrev r0_44 : Rect S256x4096 := Rect.unit (s := S256x4096) ![0, 3584] S256x128.size inb_S256x4096_S256x128_0_3584
abbrev r0_45 : Rect S256x4096 := Rect.unit (s := S256x4096) ![0, 3712] S256x128.size inb_S256x4096_S256x128_0_3712
abbrev r0_46 : Rect S256x2048 := Rect.unit (s := S256x2048) ![0, 1920] S256x128.size inb_S256x2048_S256x128_0_1920
abbrev r0_47 : Rect S256x4096 := Rect.unit (s := S256x4096) ![0, 3840] S256x128.size inb_S256x4096_S256x128_0_3840
abbrev r0_48 : Rect S256x4096 := Rect.unit (s := S256x4096) ![0, 3968] S256x128.size inb_S256x4096_S256x128_0_3968

/-! ## What the body leaves in each output window's buffer -/

/-- Window 2's staging buffer after the body, from the input windows' blocks: its 32 stores as pieces, LAST
    FIRST (Lib/Pipeline/FrameBody.lean `View.canon`; the payloads are the skeleton's and the values stated above). -/
def out0_2 (x0 : Vec F S256x2048 .i8) (x1 : Vec F S256x128 .i8) : Vec F S256x4096 .bf16 :=
  View.canon [⟨r0_48, wOutHi (View.ld x1 r0_0) (View.ld x0 r0_46) 120#32⟩,
    ⟨r0_47, wOutLo (View.ld x1 r0_0) (View.ld x0 r0_46) 120#32⟩,
    ⟨r0_45, wOutHi (View.ld x1 r0_0) (View.ld x0 r0_43) 112#32⟩,
    ⟨r0_44, wOutLo (View.ld x1 r0_0) (View.ld x0 r0_43) 112#32⟩,
    ⟨r0_42, wOutHi (View.ld x1 r0_0) (View.ld x0 r0_40) 104#32⟩,
    ⟨r0_41, wOutLo (View.ld x1 r0_0) (View.ld x0 r0_40) 104#32⟩,
    ⟨r0_39, wOutHi (View.ld x1 r0_0) (View.ld x0 r0_37) 96#32⟩,
    ⟨r0_38, wOutLo (View.ld x1 r0_0) (View.ld x0 r0_37) 96#32⟩,
    ⟨r0_36, wOutHi (View.ld x1 r0_0) (View.ld x0 r0_34) 88#32⟩,
    ⟨r0_35, wOutLo (View.ld x1 r0_0) (View.ld x0 r0_34) 88#32⟩,
    ⟨r0_33, wOutHi (View.ld x1 r0_0) (View.ld x0 r0_31) 80#32⟩,
    ⟨r0_32, wOutLo (View.ld x1 r0_0) (View.ld x0 r0_31) 80#32⟩,
    ⟨r0_30, wOutHi (View.ld x1 r0_0) (View.ld x0 r0_28) 72#32⟩,
    ⟨r0_29, wOutLo (View.ld x1 r0_0) (View.ld x0 r0_28) 72#32⟩,
    ⟨r0_27, wOutHi (View.ld x1 r0_0) (View.ld x0 r0_25) 64#32⟩,
    ⟨r0_26, wOutLo (View.ld x1 r0_0) (View.ld x0 r0_25) 64#32⟩,
    ⟨r0_24, wOutHi (View.ld x1 r0_0) (View.ld x0 r0_22) 56#32⟩,
    ⟨r0_23, wOutLo (View.ld x1 r0_0) (View.ld x0 r0_22) 56#32⟩,
    ⟨r0_21, wOutHi (View.ld x1 r0_0) (View.ld x0 r0_19) 48#32⟩,
    ⟨r0_20, wOutLo (View.ld x1 r0_0) (View.ld x0 r0_19) 48#32⟩,
    ⟨r0_18, wOutHi (View.ld x1 r0_0) (View.ld x0 r0_16) 40#32⟩,
    ⟨r0_17, wOutLo (View.ld x1 r0_0) (View.ld x0 r0_16) 40#32⟩,
    ⟨r0_15, wOutHi (View.ld x1 r0_0) (View.ld x0 r0_13) 32#32⟩,
    ⟨r0_14, wOutLo (View.ld x1 r0_0) (View.ld x0 r0_13) 32#32⟩,
    ⟨r0_12, wOutHi (View.ld x1 r0_0) (View.ld x0 r0_10) 24#32⟩,
    ⟨r0_11, wOutLo (View.ld x1 r0_0) (View.ld x0 r0_10) 24#32⟩,
    ⟨r0_9, wOutHi (View.ld x1 r0_0) (View.ld x0 r0_7) 16#32⟩,
    ⟨r0_8, wOutLo (View.ld x1 r0_0) (View.ld x0 r0_7) 16#32⟩,
    ⟨r0_6, wOutHi (View.ld x1 r0_0) (View.ld x0 r0_4) 8#32⟩,
    ⟨r0_5, wOutLo (View.ld x1 r0_0) (View.ld x0 r0_4) 8#32⟩,
    ⟨r0_3, wOutHi (View.ld x1 r0_0) (View.ld x0 r0_1) 0#32⟩,
    ⟨r0_2, wOutLo (View.ld x1 r0_0) (View.ld x0 r0_1) 0#32⟩]

/-- Its stores tile the buffer (checked by evaluation), so they cover it. -/
theorem cover0_2 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (p8 : Vec F S256x128 .bf16) (p9 : Vec F S256x128 .bf16) (p10 : Vec F S256x128 .bf16) (p11 : Vec F S256x128 .bf16) (p12 : Vec F S256x128 .bf16) (p13 : Vec F S256x128 .bf16) (p14 : Vec F S256x128 .bf16) (p15 : Vec F S256x128 .bf16) (p16 : Vec F S256x128 .bf16) (p17 : Vec F S256x128 .bf16) (p18 : Vec F S256x128 .bf16) (p19 : Vec F S256x128 .bf16) (p20 : Vec F S256x128 .bf16) (p21 : Vec F S256x128 .bf16) (p22 : Vec F S256x128 .bf16) (p23 : Vec F S256x128 .bf16) (p24 : Vec F S256x128 .bf16) (p25 : Vec F S256x128 .bf16) (p26 : Vec F S256x128 .bf16) (p27 : Vec F S256x128 .bf16) (p28 : Vec F S256x128 .bf16) (p29 : Vec F S256x128 .bf16) (p30 : Vec F S256x128 .bf16) (p31 : Vec F S256x128 .bf16) (y : S256x4096.Idx) :
    ∃ pc ∈ ([⟨r0_48, p0⟩, ⟨r0_47, p1⟩, ⟨r0_45, p2⟩, ⟨r0_44, p3⟩, ⟨r0_42, p4⟩, ⟨r0_41, p5⟩, ⟨r0_39, p6⟩, ⟨r0_38, p7⟩, ⟨r0_36, p8⟩, ⟨r0_35, p9⟩, ⟨r0_33, p10⟩, ⟨r0_32, p11⟩, ⟨r0_30, p12⟩, ⟨r0_29, p13⟩, ⟨r0_27, p14⟩, ⟨r0_26, p15⟩, ⟨r0_24, p16⟩, ⟨r0_23, p17⟩, ⟨r0_21, p18⟩, ⟨r0_20, p19⟩, ⟨r0_18, p20⟩, ⟨r0_17, p21⟩, ⟨r0_15, p22⟩, ⟨r0_14, p23⟩, ⟨r0_12, p24⟩, ⟨r0_11, p25⟩, ⟨r0_9, p26⟩, ⟨r0_8, p27⟩, ⟨r0_6, p28⟩, ⟨r0_5, p29⟩, ⟨r0_3, p30⟩, ⟨r0_2, p31⟩] : List (View.Piece (Elt F) S256x4096 .bf16)), y ∈ pc.1.set :=
  View.cover_of_tiled [⟨r0_48, p0⟩, ⟨r0_47, p1⟩, ⟨r0_45, p2⟩, ⟨r0_44, p3⟩, ⟨r0_42, p4⟩, ⟨r0_41, p5⟩, ⟨r0_39, p6⟩, ⟨r0_38, p7⟩, ⟨r0_36, p8⟩, ⟨r0_35, p9⟩, ⟨r0_33, p10⟩, ⟨r0_32, p11⟩, ⟨r0_30, p12⟩, ⟨r0_29, p13⟩, ⟨r0_27, p14⟩, ⟨r0_26, p15⟩, ⟨r0_24, p16⟩, ⟨r0_23, p17⟩, ⟨r0_21, p18⟩, ⟨r0_20, p19⟩, ⟨r0_18, p20⟩, ⟨r0_17, p21⟩, ⟨r0_15, p22⟩, ⟨r0_14, p23⟩, ⟨r0_12, p24⟩, ⟨r0_11, p25⟩, ⟨r0_9, p26⟩, ⟨r0_8, p27⟩, ⟨r0_6, p28⟩, ⟨r0_5, p29⟩, ⟨r0_3, p30⟩, ⟨r0_2, p31⟩] S256x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel (c : Dev nD) (E : Set ℕ) (i : grid0.Coords) (arg1 : Memref sig .tc .vmem S256x2048 .i8) (harg1 : arg1.IsWhole) (arg2 : Memref sig .tc .vmem S256x128 .i8) (harg2 : arg2.IsWhole) (arg3 : Memref sig .tc .vmem S256x4096 .bf16) (harg3 : arg3.IsWhole)
    (x0 : Vec F S256x2048 .i8) (x1 : Vec F S256x128 .i8) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_prep_w i arg1 harg1 arg2 harg2 arg3 harg3) K := by
  simp only [cc0_prep_w_eq_skeleton]; unfold cc0_prep_w_skel
  simp only [k0_part26_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _ _ _ _ _ _ _ _ _ _ _ _ _ _ _ _ _ _ _ _ _ _ _ _ _ _ _ _ _ _ _ _)).trans ?_
  rfl

/-! ## The pipeline's proof data -/

/-- The proof data of the one pipeline on core `c`: the arrays as the region finds them (`V`); after the body at
    point `t` each input's buffer at its block and each output's at `out0_W` of the input blocks; the invariant
    the scoped buffers the pipeline does not stage, untouched; nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out0_2 (iblk V c 0 t) (iblk V c 1 t)
  Φ _ := Pipeline.scopedRest spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`, never `rfl`: Lib/Pipeline.lean `Dat`). -/
theorem after0_0 (c : Dev nD) (t : Fin cfg0.N) : (dat V c).after 0 t = iblk V c 0 t := by dsimp only [dat]
/-- What the body leaves in the window's buffer. -/
theorem after0_1 (c : Dev nD) (t : Fin cfg0.N) : (dat V c).after 1 t = iblk V c 1 t := by dsimp only [dat]
/-- What the body leaves in the window's buffer. -/
theorem after0_2 (c : Dev nD) (t : Fin cfg0.N) : (dat V c).after 2 t = out0_2 (iblk V c 0 t) (iblk V c 1 t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
/-- What the body finds in the window's buffer. -/
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Kernel.R0

end
-- ==== Proof.Kernel.PrepX.lean ====
/- Region 1 of the kernel, `prep_x`: its body's triple, its proof data over any contents `V` of the buffers the region is
   entered with, and the body obligation at every grid point. -/
module

public import proofs.«01_k».proof.Proof.Gen.Kernel.Regions
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.Kernel.PrepVals

@[expose] public section

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of each core's buffers when the region is entered.
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S256x128 := Rect.unit (s := S256x128) ![0, 0] S256x128.size inb_S256x128_S256x128_0_0
abbrev r0_1 : Rect S256x4096 := Rect.unit (s := S256x4096) ![0, 0] S256x128.size inb_S256x4096_S256x128_0_0
abbrev r0_2 : Rect S256x4096 := Rect.unit (s := S256x4096) ![0, 128] S256x128.size inb_S256x4096_S256x128_0_128
abbrev r0_3 : Rect S256x4096 := Rect.unit (s := S256x4096) ![0, 256] S256x128.size inb_S256x4096_S256x128_0_256
abbrev r0_4 : Rect S256x4096 := Rect.unit (s := S256x4096) ![0, 384] S256x128.size inb_S256x4096_S256x128_0_384
abbrev r0_5 : Rect S256x4096 := Rect.unit (s := S256x4096) ![0, 512] S256x128.size inb_S256x4096_S256x128_0_512
abbrev r0_6 : Rect S256x4096 := Rect.unit (s := S256x4096) ![0, 640] S256x128.size inb_S256x4096_S256x128_0_640
abbrev r0_7 : Rect S256x4096 := Rect.unit (s := S256x4096) ![0, 768] S256x128.size inb_S256x4096_S256x128_0_768
abbrev r0_8 : Rect S256x4096 := Rect.unit (s := S256x4096) ![0, 896] S256x128.size inb_S256x4096_S256x128_0_896
abbrev r0_9 : Rect S256x4096 := Rect.unit (s := S256x4096) ![0, 1024] S256x128.size inb_S256x4096_S256x128_0_1024
abbrev r0_10 : Rect S256x4096 := Rect.unit (s := S256x4096) ![0, 1152] S256x128.size inb_S256x4096_S256x128_0_1152
abbrev r0_11 : Rect S256x4096 := Rect.unit (s := S256x4096) ![0, 1280] S256x128.size inb_S256x4096_S256x128_0_1280
abbrev r0_12 : Rect S256x4096 := Rect.unit (s := S256x4096) ![0, 1408] S256x128.size inb_S256x4096_S256x128_0_1408
abbrev r0_13 : Rect S256x4096 := Rect.unit (s := S256x4096) ![0, 1536] S256x128.size inb_S256x4096_S256x128_0_1536
abbrev r0_14 : Rect S256x4096 := Rect.unit (s := S256x4096) ![0, 1664] S256x128.size inb_S256x4096_S256x128_0_1664
abbrev r0_15 : Rect S256x4096 := Rect.unit (s := S256x4096) ![0, 1792] S256x128.size inb_S256x4096_S256x128_0_1792
abbrev r0_16 : Rect S256x4096 := Rect.unit (s := S256x4096) ![0, 1920] S256x128.size inb_S256x4096_S256x128_0_1920
abbrev r0_17 : Rect S256x4096 := Rect.unit (s := S256x4096) ![0, 2048] S256x128.size inb_S256x4096_S256x128_0_2048
abbrev r0_18 : Rect S256x4096 := Rect.unit (s := S256x4096) ![0, 2176] S256x128.size inb_S256x4096_S256x128_0_2176
abbrev r0_19 : Rect S256x4096 := Rect.unit (s := S256x4096) ![0, 2304] S256x128.size inb_S256x4096_S256x128_0_2304
abbrev r0_20 : Rect S256x4096 := Rect.unit (s := S256x4096) ![0, 2432] S256x128.size inb_S256x4096_S256x128_0_2432
abbrev r0_21 : Rect S256x4096 := Rect.unit (s := S256x4096) ![0, 2560] S256x128.size inb_S256x4096_S256x128_0_2560
abbrev r0_22 : Rect S256x4096 := Rect.unit (s := S256x4096) ![0, 2688] S256x128.size inb_S256x4096_S256x128_0_2688
abbrev r0_23 : Rect S256x4096 := Rect.unit (s := S256x4096) ![0, 2816] S256x128.size inb_S256x4096_S256x128_0_2816
abbrev r0_24 : Rect S256x4096 := Rect.unit (s := S256x4096) ![0, 2944] S256x128.size inb_S256x4096_S256x128_0_2944
abbrev r0_25 : Rect S256x4096 := Rect.unit (s := S256x4096) ![0, 3072] S256x128.size inb_S256x4096_S256x128_0_3072
abbrev r0_26 : Rect S256x4096 := Rect.unit (s := S256x4096) ![0, 3200] S256x128.size inb_S256x4096_S256x128_0_3200
abbrev r0_27 : Rect S256x4096 := Rect.unit (s := S256x4096) ![0, 3328] S256x128.size inb_S256x4096_S256x128_0_3328
abbrev r0_28 : Rect S256x4096 := Rect.unit (s := S256x4096) ![0, 3456] S256x128.size inb_S256x4096_S256x128_0_3456
abbrev r0_29 : Rect S256x4096 := Rect.unit (s := S256x4096) ![0, 3584] S256x128.size inb_S256x4096_S256x128_0_3584
abbrev r0_30 : Rect S256x4096 := Rect.unit (s := S256x4096) ![0, 3712] S256x128.size inb_S256x4096_S256x128_0_3712
abbrev r0_31 : Rect S256x4096 := Rect.unit (s := S256x4096) ![0, 3840] S256x128.size inb_S256x4096_S256x128_0_3840
abbrev r0_32 : Rect S256x4096 := Rect.unit (s := S256x4096) ![0, 3968] S256x128.size inb_S256x4096_S256x128_0_3968

/-! ## What the body leaves in each output window's buffer -/

/-- Window 2's staging buffer after the body, from the input windows' blocks: its 32 stores as pieces, LAST
    FIRST (Lib/Pipeline/FrameBody.lean `View.canon`; the payloads are the skeleton's and the values stated above). -/
def out0_2 (x0 : Vec F S256x4096 .fp8e4m3) (x1 : Vec F S256x128 .i8) : Vec F S256x4096 .bf16 :=
  View.canon [⟨r0_32, xOut (View.ld x1 r0_0) (View.ld x0 r0_31) (View.ld x0 r0_32) 1#32 120#32⟩,
    ⟨r0_31, xOut (View.ld x1 r0_0) (View.ld x0 r0_31) (View.ld x0 r0_32) 0#32 120#32⟩,
    ⟨r0_30, xOut (View.ld x1 r0_0) (View.ld x0 r0_29) (View.ld x0 r0_30) 1#32 112#32⟩,
    ⟨r0_29, xOut (View.ld x1 r0_0) (View.ld x0 r0_29) (View.ld x0 r0_30) 0#32 112#32⟩,
    ⟨r0_28, xOut (View.ld x1 r0_0) (View.ld x0 r0_27) (View.ld x0 r0_28) 1#32 104#32⟩,
    ⟨r0_27, xOut (View.ld x1 r0_0) (View.ld x0 r0_27) (View.ld x0 r0_28) 0#32 104#32⟩,
    ⟨r0_26, xOut (View.ld x1 r0_0) (View.ld x0 r0_25) (View.ld x0 r0_26) 1#32 96#32⟩,
    ⟨r0_25, xOut (View.ld x1 r0_0) (View.ld x0 r0_25) (View.ld x0 r0_26) 0#32 96#32⟩,
    ⟨r0_24, xOut (View.ld x1 r0_0) (View.ld x0 r0_23) (View.ld x0 r0_24) 1#32 88#32⟩,
    ⟨r0_23, xOut (View.ld x1 r0_0) (View.ld x0 r0_23) (View.ld x0 r0_24) 0#32 88#32⟩,
    ⟨r0_22, xOut (View.ld x1 r0_0) (View.ld x0 r0_21) (View.ld x0 r0_22) 1#32 80#32⟩,
    ⟨r0_21, xOut (View.ld x1 r0_0) (View.ld x0 r0_21) (View.ld x0 r0_22) 0#32 80#32⟩,
    ⟨r0_20, xOut (View.ld x1 r0_0) (View.ld x0 r0_19) (View.ld x0 r0_20) 1#32 72#32⟩,
    ⟨r0_19, xOut (View.ld x1 r0_0) (View.ld x0 r0_19) (View.ld x0 r0_20) 0#32 72#32⟩,
    ⟨r0_18, xOut (View.ld x1 r0_0) (View.ld x0 r0_17) (View.ld x0 r0_18) 1#32 64#32⟩,
    ⟨r0_17, xOut (View.ld x1 r0_0) (View.ld x0 r0_17) (View.ld x0 r0_18) 0#32 64#32⟩,
    ⟨r0_16, xOut (View.ld x1 r0_0) (View.ld x0 r0_15) (View.ld x0 r0_16) 1#32 56#32⟩,
    ⟨r0_15, xOut (View.ld x1 r0_0) (View.ld x0 r0_15) (View.ld x0 r0_16) 0#32 56#32⟩,
    ⟨r0_14, xOut (View.ld x1 r0_0) (View.ld x0 r0_13) (View.ld x0 r0_14) 1#32 48#32⟩,
    ⟨r0_13, xOut (View.ld x1 r0_0) (View.ld x0 r0_13) (View.ld x0 r0_14) 0#32 48#32⟩,
    ⟨r0_12, xOut (View.ld x1 r0_0) (View.ld x0 r0_11) (View.ld x0 r0_12) 1#32 40#32⟩,
    ⟨r0_11, xOut (View.ld x1 r0_0) (View.ld x0 r0_11) (View.ld x0 r0_12) 0#32 40#32⟩,
    ⟨r0_10, xOut (View.ld x1 r0_0) (View.ld x0 r0_9) (View.ld x0 r0_10) 1#32 32#32⟩,
    ⟨r0_9, xOut (View.ld x1 r0_0) (View.ld x0 r0_9) (View.ld x0 r0_10) 0#32 32#32⟩,
    ⟨r0_8, xOut (View.ld x1 r0_0) (View.ld x0 r0_7) (View.ld x0 r0_8) 1#32 24#32⟩,
    ⟨r0_7, xOut (View.ld x1 r0_0) (View.ld x0 r0_7) (View.ld x0 r0_8) 0#32 24#32⟩,
    ⟨r0_6, xOut (View.ld x1 r0_0) (View.ld x0 r0_5) (View.ld x0 r0_6) 1#32 16#32⟩,
    ⟨r0_5, xOut (View.ld x1 r0_0) (View.ld x0 r0_5) (View.ld x0 r0_6) 0#32 16#32⟩,
    ⟨r0_4, xOut (View.ld x1 r0_0) (View.ld x0 r0_3) (View.ld x0 r0_4) 1#32 8#32⟩,
    ⟨r0_3, xOut (View.ld x1 r0_0) (View.ld x0 r0_3) (View.ld x0 r0_4) 0#32 8#32⟩,
    ⟨r0_2, xOut (View.ld x1 r0_0) (View.ld x0 r0_1) (View.ld x0 r0_2) 1#32 0#32⟩,
    ⟨r0_1, xOut (View.ld x1 r0_0) (View.ld x0 r0_1) (View.ld x0 r0_2) 0#32 0#32⟩]

/-- Its stores tile the buffer (checked by evaluation), so they cover it. -/
theorem cover0_2 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (p8 : Vec F S256x128 .bf16) (p9 : Vec F S256x128 .bf16) (p10 : Vec F S256x128 .bf16) (p11 : Vec F S256x128 .bf16) (p12 : Vec F S256x128 .bf16) (p13 : Vec F S256x128 .bf16) (p14 : Vec F S256x128 .bf16) (p15 : Vec F S256x128 .bf16) (p16 : Vec F S256x128 .bf16) (p17 : Vec F S256x128 .bf16) (p18 : Vec F S256x128 .bf16) (p19 : Vec F S256x128 .bf16) (p20 : Vec F S256x128 .bf16) (p21 : Vec F S256x128 .bf16) (p22 : Vec F S256x128 .bf16) (p23 : Vec F S256x128 .bf16) (p24 : Vec F S256x128 .bf16) (p25 : Vec F S256x128 .bf16) (p26 : Vec F S256x128 .bf16) (p27 : Vec F S256x128 .bf16) (p28 : Vec F S256x128 .bf16) (p29 : Vec F S256x128 .bf16) (p30 : Vec F S256x128 .bf16) (p31 : Vec F S256x128 .bf16) (y : S256x4096.Idx) :
    ∃ pc ∈ ([⟨r0_32, p0⟩, ⟨r0_31, p1⟩, ⟨r0_30, p2⟩, ⟨r0_29, p3⟩, ⟨r0_28, p4⟩, ⟨r0_27, p5⟩, ⟨r0_26, p6⟩, ⟨r0_25, p7⟩, ⟨r0_24, p8⟩, ⟨r0_23, p9⟩, ⟨r0_22, p10⟩, ⟨r0_21, p11⟩, ⟨r0_20, p12⟩, ⟨r0_19, p13⟩, ⟨r0_18, p14⟩, ⟨r0_17, p15⟩, ⟨r0_16, p16⟩, ⟨r0_15, p17⟩, ⟨r0_14, p18⟩, ⟨r0_13, p19⟩, ⟨r0_12, p20⟩, ⟨r0_11, p21⟩, ⟨r0_10, p22⟩, ⟨r0_9, p23⟩, ⟨r0_8, p24⟩, ⟨r0_7, p25⟩, ⟨r0_6, p26⟩, ⟨r0_5, p27⟩, ⟨r0_4, p28⟩, ⟨r0_3, p29⟩, ⟨r0_2, p30⟩, ⟨r0_1, p31⟩] : List (View.Piece (Elt F) S256x4096 .bf16)), y ∈ pc.1.set :=
  View.cover_of_tiled [⟨r0_32, p0⟩, ⟨r0_31, p1⟩, ⟨r0_30, p2⟩, ⟨r0_29, p3⟩, ⟨r0_28, p4⟩, ⟨r0_27, p5⟩, ⟨r0_26, p6⟩, ⟨r0_25, p7⟩, ⟨r0_24, p8⟩, ⟨r0_23, p9⟩, ⟨r0_22, p10⟩, ⟨r0_21, p11⟩, ⟨r0_20, p12⟩, ⟨r0_19, p13⟩, ⟨r0_18, p14⟩, ⟨r0_17, p15⟩, ⟨r0_16, p16⟩, ⟨r0_15, p17⟩, ⟨r0_14, p18⟩, ⟨r0_13, p19⟩, ⟨r0_12, p20⟩, ⟨r0_11, p21⟩, ⟨r0_10, p22⟩, ⟨r0_9, p23⟩, ⟨r0_8, p24⟩, ⟨r0_7, p25⟩, ⟨r0_6, p26⟩, ⟨r0_5, p27⟩, ⟨r0_4, p28⟩, ⟨r0_3, p29⟩, ⟨r0_2, p30⟩, ⟨r0_1, p31⟩] S256x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel (c : Dev nD) (E : Set ℕ) (i : grid1.Coords) (arg1 : Memref sig .tc .vmem S256x4096 .fp8e4m3) (harg1 : arg1.IsWhole) (arg2 : Memref sig .tc .vmem S256x128 .i8) (harg2 : arg2.IsWhole) (arg3 : Memref sig .tc .vmem S256x4096 .bf16) (harg3 : arg3.IsWhole)
    (x0 : Vec F S256x4096 .fp8e4m3) (x1 : Vec F S256x128 .i8) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc1_prep_x i arg1 harg1 arg2 harg2 arg3 harg3) K := by
  simp only [cc1_prep_x_eq_skeleton]; unfold cc1_prep_x_skel
  simp only [k1_part37_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _ _ _ _ _ _ _ _ _ _ _ _ _ _ _ _ _ _ _ _ _ _ _ _ _ _ _ _ _ _ _ _)).trans ?_
  rfl

/-! ## The pipeline's proof data -/

/-- The proof data of the one pipeline on core `c`: the arrays as the region finds them (`V`); after the body at
    point `t` each input's buffer at its block and each output's at `out0_W` of the input blocks; the invariant
    the scoped buffers the pipeline does not stage, untouched; nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out0_2 (iblk V c 0 t) (iblk V c 1 t)
  Φ _ := Pipeline.scopedRest spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- What the body leaves, window by window (the proof data's `match` reduced by `dsimp`, never `rfl`: Lib/Pipeline.lean `Dat`). -/
theorem after0_0 (c : Dev nD) (t : Fin cfg1.N) : (dat V c).after 0 t = iblk V c 0 t := by dsimp only [dat]
/-- What the body leaves in the window's buffer. -/
theorem after0_1 (c : Dev nD) (t : Fin cfg1.N) : (dat V c).after 1 t = iblk V c 1 t := by dsimp only [dat]
/-- What the body leaves in the window's buffer. -/
theorem after0_2 (c : Dev nD) (t : Fin cfg1.N) : (dat V c).after 2 t = out0_2 (iblk V c 0 t) (iblk V c 1 t) := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
/-- What the body finds in the window's buffer. -/
theorem before0_1 (c : Dev nD) (t : Fin cfg1.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks (`before0_W`), so `sound_kernel` applies; the invariant and
    the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1]
  rw [show (dat V c).Φ t.succ = (dat V c).Φ t.castSucc from rfl,
    show (dat V c).owesAt () t.succ = (dat V c).owesAt () t.castSucc from rfl,
    after0_0, after0_1, after0_2]
  iintro ⟨HΦ, Ho, ⟨%d0, H0⟩, ⟨%d1, H1⟩, ⟨%d2, H2⟩⟩
  iapply (sound_kernel c Set.univ (grid1.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.Kernel.R1

end
-- ==== Proof.Kernel.HeadLoops.lean ====
/- What the last vocabulary block's step of a row block computes: the loop over 64-row groups and, inside it, the loop over
   the stored logit blocks, each as a function of the buffers it reads, and each loop's invariant. -/
module

public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values -/

/-- A grid point at the last vocabulary block. -/
def i31 : grid2.Coords := grid2.coords ⟨31, by decide⟩
/-- A constant of the loops. -/
theorem h31 : k2_cond3 i31 = 1#1 := by decide +kernel

/-- The carried sums and minimum. -/
abbrev Acc (F : FTy → Type) := FVec F S64x128 .f32 × FVec F S64x128 .f32 × FVec F S64x128 .f32

/-- Lanes 0 to 127 of logit block `k` in the row group `r`, -/
abbrev z0 (Z : Vec F S32x512x512 .f32) (r : Fin k2_t1_loop.trips) (k : Fin k2_t2_loop.trips) : Vec F S1x64x128 .f32 :=
  View.ld Z (Rect.unit (s := S32x512x512) (k2_off4 r k) S1x64x128.size (k2_off4_inb i31 r k h31))
/-- lanes 128 to 255, -/
abbrev z1 (Z : Vec F S32x512x512 .f32) (r : Fin k2_t1_loop.trips) (k : Fin k2_t2_loop.trips) : Vec F S1x64x128 .f32 :=
  View.ld Z (Rect.unit (s := S32x512x512) (k2_off5 r k) S1x64x128.size (k2_off5_inb i31 r k h31))
/-- lanes 256 to 383 -/
abbrev z2 (Z : Vec F S32x512x512 .f32) (r : Fin k2_t1_loop.trips) (k : Fin k2_t2_loop.trips) : Vec F S1x64x128 .f32 :=
  View.ld Z (Rect.unit (s := S32x512x512) (k2_off6 r k) S1x64x128.size (k2_off6_inb i31 r k h31))
/-- and lanes 384 to 511. -/
abbrev z3 (Z : Vec F S32x512x512 .f32) (r : Fin k2_t1_loop.trips) (k : Fin k2_t2_loop.trips) : Vec F S1x64x128 .f32 :=
  View.ld Z (Rect.unit (s := S32x512x512) (k2_off7 r k) S1x64x128.size (k2_off7_inb i31 r k h31))

/-- One block's step of the carried sums and minimum, over its four lane groups. -/
def trip (v15 : Vec F S64x128 .f32) (v19 v24 v27 : Vec F S64x1 .f32) (a0 a1 a2 a3 : Vec F S1x64x128 .f32) (a : Acc F) : Acc F :=
  (k2_pay33 v15 v19 (k2_pay21 (k2_pay23 v15) (k2_pay24 v19) a.1 a0 a1 a2) a3,
   k2_pay34 v15 v19 v24 v27 (k2_pay16 (k2_pay23 v15) (k2_pay24 v19) (k2_pay26 v15 v24 v27) a.2.1 a0 a1)
     (k2_pay19 (k2_pay23 v15) (k2_pay24 v19) a2) (k2_pay20 (k2_pay26 v15 v24 v27) a2) (k2_pay22 (F := F)) a3,
   k2_pay35 v15 v24 v27 (k2_pay17 (k2_pay26 v15 v24 v27) a.2.2 a0 a1) (k2_pay20 (k2_pay26 v15 v24 v27) a2) a3)

/-- The carried values before block `k`. -/
def accs (Z : Vec F S32x512x512 .f32) (r : Fin k2_t1_loop.trips) (v15 : Vec F S64x128 .f32) (v19 v24 v27 : Vec F S64x1 .f32) : ℕ → Acc F
  | 0 => (k2_pay27 (F := F), k2_pay28 (F := F), k2_pay29 (F := F))
  | k + 1 => if h : k < k2_t2_loop.trips then
      trip v15 v19 v24 v27 (z0 Z r ⟨k, h⟩) (z1 Z r ⟨k, h⟩) (z2 Z r ⟨k, h⟩) (z3 Z r ⟨k, h⟩) (accs Z r v15 v19 v24 v27 k)
    else accs Z r v15 v19 v24 v27 k

/-- One more trip of the loop. -/
theorem accs_succ (Z : Vec F S32x512x512 .f32) (r : Fin k2_t1_loop.trips) (v15 : Vec F S64x128 .f32) (v19 v24 v27 : Vec F S64x1 .f32)
    (k : Fin k2_t2_loop.trips) :
    accs Z r v15 v19 v24 v27 (k.val + 1) = trip v15 v19 v24 v27 (z0 Z r k) (z1 Z r k) (z2 Z r k) (z3 Z r k) (accs Z r v15 v19 v24 v27 k.val) := by
  rw [accs, dif_pos k.isLt]

/-! ## The inner loop -/

/-- Before block `k`: the logits as they were, the carried values those of the blocks before. -/
def inv2 (c : Dev nD) (arg9 : Memref sig .tc .vmem S32x512x512 .f32) (f9 : BufTy.Contents (Elt F) arg9.view.ty) (r : Fin k2_t1_loop.trips)
    (v15 : Vec F S64x128 .f32) (v19 v24 v27 : Vec F S64x1 .f32) (k : ℕ) (acc : Acc F) : sProp 𝕄 :=
  iprop((arg9.view.loc (c : Thread nD τ) ↦[arg9.view.set]{fullShare} f9) ∗ ⌜acc = accs (arg9.view.read (Elt F) f9) r v15 v19 v24 v27 k⌝)

/-- The invariant's class of the inner loop. -/
abbrev Ty2 (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole) (k2_h3 : k2_cond3 i = 1#1) (c0_i32_5 : BitVec 32) (c1_i32 : BitVec 32) (k2_t1 : Fin k2_t1_loop.trips) (v13 : BitVec 32) (v15 : Vec F S64x128 .f32) (v19 : Vec F S64x1 .f32) (v24 : Vec F S64x1 .f32) (v27 : Vec F S64x1 .f32) :=
  Idealize.ShloMosaic.LoopInv (M := MT nD τ sig Unit (Elt F) ℕ (UR sig nD τ) ℕ) Idealize.ShloMosaic.frame (wpE defs₀ Variants.none (c : Thread nD τ) none) E
    k2_t2_loop.lb k2_t2_loop.ub k2_t2_loop.st (k2_t2_ok i k2_h3) (k2_pay27 (F := F), k2_pay28 (F := F), k2_pay29 (F := F)) (k2_t2_body (F := F) i arg2 harg2 arg3 harg3 arg4 harg4 arg5 harg5 arg6 harg6 arg7 harg7 arg8 harg8 arg9 harg9 arg10 harg10 arg11 harg11 k2_h3 c0_i32_5 c1_i32 k2_t1 v13 v15 v19 v24 v27)

/-- One block of the inner loop keeps the invariant. -/
@[sl_loop] def loopInv2 (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole) (k2_h3 : k2_cond3 i = 1#1) (c0_i32_5 : BitVec 32) (c1_i32 : BitVec 32) (k2_t1 : Fin k2_t1_loop.trips) (v13 : BitVec 32) (v15 : Vec F S64x128 .f32) (v19 : Vec F S64x1 .f32) (v24 : Vec F S64x1 .f32) (v27 : Vec F S64x1 .f32) (f9 : BufTy.Contents (Elt F) arg9.view.ty) :
    Ty2 (F := F) c E i arg2 harg2 arg3 harg3 arg4 harg4 arg5 harg5 arg6 harg6 arg7 harg7 arg8 harg8 arg9 harg9 arg10 harg10 arg11 harg11 k2_h3 c0_i32_5 c1_i32 k2_t1 v13 v15 v19 v24 v27 where
  inv k acc := inv2 (F := F) c arg9 f9 k2_t1 v15 v19 v24 v27 k acc
  step k acc := by
    unfold inv2 k2_t2_body
    iintro ⟨H9, %hacc⟩
    subst hacc
    sl_exec
    sl_step
    isplitl [H9]; · iexact H9
    ipureintro
    rw [accs_succ]; rfl

/-! ## A group of 64 rows -/

/-- The running maxima, -/
def gM (M : Vec F S512x128 .f32) (r : Fin k2_t1_loop.trips) : Vec F S64x128 .f32 := View.ld M (Rect.unit (s := S512x128) (k2_off2 r) S64x128.size (k2_off2_inb i31 r h31))
/-- and a column (a temperature or a threshold's logarithm) of the group's rows. -/
def gC (T : Vec F S512x1 .f32) (r : Fin k2_t1_loop.trips) : Vec F S64x1 .f32 := View.ld T (Rect.unit (s := S512x1) (k2_off3 r) S64x1.size (k2_off3_inb i31 r h31))

/-- The sums and minimum over all blocks. -/
def gAcc (Z : Vec F S32x512x512 .f32) (M : Vec F S512x128 .f32) (T L : Vec F S512x1 .f32) (r : Fin k2_t1_loop.trips) : Acc F :=
  accs Z r (gM M r) (gC T r) (gC L r) (gC T r) k2_t2_loop.trips

/-- The rows' threshold, -/
def gThr (Z : Vec F S32x512x512 .f32) (M : Vec F S512x128 .f32) (T L : Vec F S512x1 .f32) (r : Fin k2_t1_loop.trips) : Vec F S64x1 .f32 := k2_pay37 (gC L r) (gAcc Z M T L r).1
/-- margin, -/
def gMar (Z : Vec F S32x512x512 .f32) (M : Vec F S512x128 .f32) (T L : Vec F S512x1 .f32) (r : Fin k2_t1_loop.trips) : Vec F S64x1 .f32 := k2_pay38 (gC T r) (gAcc Z M T L r).2.2
/-- and the three numbers the output pass reads, spread over the lanes: the cut, -/
def gSt0 (Z : Vec F S32x512x512 .f32) (M : Vec F S512x128 .f32) (T L : Vec F S512x1 .f32) (r : Fin k2_t1_loop.trips) : Vec F S1x64x128 .f32 := k2_pay5 (k2_pay39 (gM M r) (gC L r) (gC T r))
/-- the kept mass's offset, -/
def gSt1 (Z : Vec F S32x512x512 .f32) (M : Vec F S512x128 .f32) (T L : Vec F S512x1 .f32) (r : Fin k2_t1_loop.trips) : Vec F S1x64x128 .f32 :=
  k2_pay6 (k2_pay23 (gM M r)) (k2_pay24 (gC T r)) (k2_pay36 (gAcc Z M T L r).2.1)
/-- the reciprocal temperature. -/
def gSt2 (T : Vec F S512x1 .f32) (r : Fin k2_t1_loop.trips) : Vec F S1x64x128 .f32 := k2_pay7 (k2_pay24 (gC T r))

/-- The threshold's pieces of the groups before `k`, last first, -/
def p7 (Z : Vec F S32x512x512 .f32) (M : Vec F S512x128 .f32) (T L : Vec F S512x1 .f32) : ℕ → List (View.Piece (Elt F) S512x1 .f32)
  | 0 => []
  | k + 1 => if h : k < k2_t1_loop.trips then
      ⟨(Rect.unit (s := S512x1) (k2_off3 ⟨k, h⟩) S64x1.size (k2_off3_inb i31 ⟨k, h⟩ h31)), gThr Z M T L ⟨k, h⟩⟩ :: p7 Z M T L k else p7 Z M T L k
/-- the margin's, -/
def p8 (Z : Vec F S32x512x512 .f32) (M : Vec F S512x128 .f32) (T L : Vec F S512x1 .f32) : ℕ → List (View.Piece (Elt F) S512x1 .f32)
  | 0 => []
  | k + 1 => if h : k < k2_t1_loop.trips then
      ⟨(Rect.unit (s := S512x1) (k2_off3 ⟨k, h⟩) S64x1.size (k2_off3_inb i31 ⟨k, h⟩ h31)), gMar Z M T L ⟨k, h⟩⟩ :: p8 Z M T L k else p8 Z M T L k
/-- and those of the three numbers. -/
def p11 (Z : Vec F S32x512x512 .f32) (M : Vec F S512x128 .f32) (T L : Vec F S512x1 .f32) : ℕ → List (View.Piece (Elt F) S3x512x128 .f32)
  | 0 => []
  | k + 1 => if h : k < k2_t1_loop.trips then
      ⟨(Rect.unit (s := S3x512x128) (k2_off10 ⟨k, h⟩) S1x64x128.size (k2_off10_inb i31 ⟨k, h⟩ h31)), gSt2 T ⟨k, h⟩⟩ ::
      ⟨(Rect.unit (s := S3x512x128) (k2_off9 ⟨k, h⟩) S1x64x128.size (k2_off9_inb i31 ⟨k, h⟩ h31)), gSt1 Z M T L ⟨k, h⟩⟩ ::
      ⟨(Rect.unit (s := S3x512x128) (k2_off8 ⟨k, h⟩) S1x64x128.size (k2_off8_inb i31 ⟨k, h⟩ h31)), gSt0 Z M T L ⟨k, h⟩⟩ :: p11 Z M T L k else p11 Z M T L k

/-- One more trip of the loop. -/
theorem p7_succ (Z : Vec F S32x512x512 .f32) (M : Vec F S512x128 .f32) (T L : Vec F S512x1 .f32) (r : Fin k2_t1_loop.trips) : p7 Z M T L (r.val + 1) =
    ⟨(Rect.unit (s := S512x1) (k2_off3 r) S64x1.size (k2_off3_inb i31 r h31)), gThr Z M T L r⟩ :: p7 Z M T L r.val := by rw [p7, dif_pos r.isLt]
/-- One more trip of the loop. -/
theorem p8_succ (Z : Vec F S32x512x512 .f32) (M : Vec F S512x128 .f32) (T L : Vec F S512x1 .f32) (r : Fin k2_t1_loop.trips) : p8 Z M T L (r.val + 1) =
    ⟨(Rect.unit (s := S512x1) (k2_off3 r) S64x1.size (k2_off3_inb i31 r h31)), gMar Z M T L r⟩ :: p8 Z M T L r.val := by rw [p8, dif_pos r.isLt]
/-- One more trip of the loop. -/
theorem p11_succ (Z : Vec F S32x512x512 .f32) (M : Vec F S512x128 .f32) (T L : Vec F S512x1 .f32) (r : Fin k2_t1_loop.trips) : p11 Z M T L (r.val + 1) =
      ⟨(Rect.unit (s := S3x512x128) (k2_off10 r) S1x64x128.size (k2_off10_inb i31 r h31)), gSt2 T r⟩ ::
      ⟨(Rect.unit (s := S3x512x128) (k2_off9 r) S1x64x128.size (k2_off9_inb i31 r h31)), gSt1 Z M T L r⟩ ::
      ⟨(Rect.unit (s := S3x512x128) (k2_off8 r) S1x64x128.size (k2_off8_inb i31 r h31)), gSt0 Z M T L r⟩ :: p11 Z M T L r.val := by rw [p11, dif_pos r.isLt]

/-! ## The outer loop -/

/-- Before group `k`: what the loop reads as it was, what it writes at the pieces of the groups before. -/
def inv1 (c : Dev nD) (arg4 : Memref sig .tc .vmem S512x1 .f32) (arg5 : Memref sig .tc .vmem S512x1 .f32) (arg7 : Memref sig .tc .vmem S512x1 .f32) (arg8 : Memref sig .tc .vmem S512x1 .f32) (arg9 : Memref sig .tc .vmem S32x512x512 .f32) (arg10 : Memref sig .tc .vmem S512x128 .f32) (arg11 : Memref sig .tc .vmem S3x512x128 .f32)
    (f4 : BufTy.Contents (Elt F) arg4.view.ty) (f5 : BufTy.Contents (Elt F) arg5.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (k : ℕ) : sProp 𝕄 :=
  iprop((arg4.view.loc (c : Thread nD τ) ↦[arg4.view.set]{fullShare} f4) ∗ (arg5.view.loc (c : Thread nD τ) ↦[arg5.view.set]{fullShare} f5) ∗ (arg9.view.loc (c : Thread nD τ) ↦[arg9.view.set]{fullShare} f9) ∗ (arg10.view.loc (c : Thread nD τ) ↦[arg10.view.set]{fullShare} f10)
    ∗ (arg7.view.loc (c : Thread nD τ) ↦[arg7.view.set]{fullShare} arg7.view.writes (Elt F) f7 (p7 (arg9.view.read (Elt F) f9) (arg10.view.read (Elt F) f10) (arg4.view.read (Elt F) f4) (arg5.view.read (Elt F) f5) k))
    ∗ (arg8.view.loc (c : Thread nD τ) ↦[arg8.view.set]{fullShare} arg8.view.writes (Elt F) f8 (p8 (arg9.view.read (Elt F) f9) (arg10.view.read (Elt F) f10) (arg4.view.read (Elt F) f4) (arg5.view.read (Elt F) f5) k))
    ∗ (arg11.view.loc (c : Thread nD τ) ↦[arg11.view.set]{fullShare} arg11.view.writes (Elt F) f11 (p11 (arg9.view.read (Elt F) f9) (arg10.view.read (Elt F) f10) (arg4.view.read (Elt F) f4) (arg5.view.read (Elt F) f5) k)))

/-- The invariant's class of the outer loop. -/
abbrev Ty1 (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole) (k2_h3 : k2_cond3 i = 1#1) :=
  Idealize.ShloMosaic.LoopInv (M := MT nD τ sig Unit (Elt F) ℕ (UR sig nD τ) ℕ) Idealize.ShloMosaic.frame (wpE defs₀ Variants.none (c : Thread nD τ) none) E
    k2_t1_loop.lb k2_t1_loop.ub k2_t1_loop.st (k2_t1_ok i k2_h3) () (k2_t1_body (F := F) i arg2 harg2 arg3 harg3 arg4 harg4 arg5 harg5 arg6 harg6 arg7 harg7 arg8 harg8 arg9 harg9 arg10 harg10 arg11 harg11 k2_h3)

/-- One group keeps the invariant. -/
@[sl_loop] def loopInv1 (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole) (k2_h3 : k2_cond3 i = 1#1)
    (f4 : BufTy.Contents (Elt F) arg4.view.ty) (f5 : BufTy.Contents (Elt F) arg5.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Ty1 (F := F) c E i arg2 harg2 arg3 harg3 arg4 harg4 arg5 harg5 arg6 harg6 arg7 harg7 arg8 harg8 arg9 harg9 arg10 harg10 arg11 harg11 k2_h3 where
  inv k _ := inv1 (F := F) c arg4 arg5 arg7 arg8 arg9 arg10 arg11 f4 f5 f7 f8 f9 f10 f11 k
  step k acc := by
    unfold inv1 k2_t1_body
    iintro ⟨H4, H5, H9, H10, H7, H8, H11⟩
    sl_exec
    sl_step
    rw [p7_succ, p8_succ, p11_succ]
    isplitl [H4]; · iexact H4
    isplitl [H5]; · iexact H5
    isplitl [H9]; · iexact H9
    isplitl [H10]; · iexact H10
    isplitl [H7]; · iexact H7
    isplitl [H8]; · iexact H8
    iexact H11

end Cert.Kernel.R2

end
-- ==== Proof.Kernel.HeadBody.lean ====
/- One call of `head_min_p`'s body at each kind of grid point, over any buffers: what it leaves in each. -/
module

public import proofs.«01_k».proof.Proof.Kernel.HeadLoops
public import Idealize.ShloMosaic.Lib.Pipeline.ValueKit.Basic

@[expose] public section

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the stores leave -/

/-- The rectangle of logit block `j`, where `j` is the grid's second coordinate. -/
abbrev zr (i : grid2.Coords) (h : k2_cond2 i = 1#1) : Rect S32x512x512 := Rect.unit (s := S32x512x512) (k2_off1 i) S1x512x512.size (k2_off1_inb i h)

/-- `Z'` is `Z` with block `p` stored at the grid point's logit block. -/
def Stored (i : grid2.Coords) (h : k2_cond2 i = 1#1) (p : Vec F S1x512x512 .f32) (Z Z' : Vec F S32x512x512 .f32) : Prop :=
  (∀ y, Z' ((zr i h).emb y) = p y) ∧ ∀ y, y ∉ (zr i h).set → Z' y = Z y

/-- The store of the logits. -/
theorem stored_writes (i : grid2.Coords) (h : k2_cond2 i = 1#1) (p : Vec F S1x512x512 .f32) (arg9 : Memref sig .tc .vmem S32x512x512 .f32)
    (f9 : BufTy.Contents (Elt F) arg9.view.ty) :
    Stored i h p (arg9.view.read (Elt F) f9) (arg9.view.read (Elt F) (arg9.view.writes (Elt F) f9 [⟨zr i h, p⟩])) :=
  ⟨fun y => View.read_writes_cons_emb arg9.view f9 (zr i h) p [] y, fun y hy => View.read_writes_cons_miss arg9.view f9 ⟨zr i h, p⟩ [] y hy⟩

/-- A buffer stored over whole holds what was stored last. -/
theorem read_whole {S : Shape} {e : EltTy} (v : View sig .tc .vmem S e) (f : v.ty.Contents (Elt F)) {off : Fin S.rank → Nat}
    (inb : ∀ a, off a + S.size a ≤ S.size a) (w : S.Idx → Elt F e) (Ls : List (View.Piece (Elt F) S e)) (h : ∀ a, off a = 0) :
    v.read (Elt F) (v.writes (Elt F) f (⟨Rect.unit off S.size inb, w⟩ :: Ls)) = w := by
  rw [View.read_writes_eq_canon v f _ (fun y => ⟨⟨Rect.unit off S.size inb, w⟩, List.mem_cons_self, View.mem_set_unit_zero (funext h) inb y⟩)]
  exact View.canon_cons_unit_zero (funext h) inb w Ls

/-- A whole load reads the contents. -/
theorem readAt_whole {S : Shape} {e : EltTy} (v : View sig .tc .vmem S e) (f : v.ty.Contents (Elt F)) {off : Fin S.rank → Nat}
    (inb : ∀ a, off a + S.size a ≤ S.size a) (h : ∀ a, off a = 0) :
    v.readAt (Elt F) (Rect.unit off S.size inb).toLoadRect f = v.read (Elt F) f :=
  View.ld_unit_zero (funext h) inb _

/-- A whole load of what one whole store left reads what was stored. -/
theorem readCov_whole {S : Shape} {e : EltTy} (v : View sig .tc .vmem S e) {off : Fin S.rank → Nat}
    (inb : ∀ a, off a + S.size a ≤ S.size a) (w : S.Idx → Elt F e) (h : ∀ a, off a = 0) :
    v.readCov (Val := Elt F) [⟨Rect.unit off S.size inb, w⟩] (Rect.unit off S.size inb).toLoadRect = w :=
  View.readCov_unit_zero v (funext h) inb w

/-- When an index lies in a stored piece. -/
theorem mem_unit {S : Shape} {off size : Fin S.rank → Nat} (inb : ∀ a, off a + size a ≤ S.size a) {y : S.Idx}
    (h : ∀ a, off a ≤ (y a).val ∧ (y a).val < off a + size a) : y ∈ (Rect.unit off size inb).set := Rect.mem_set_unit.2 h
/-- When an index lies in a stored piece. -/
theorem mem_head {S : Shape} {e : EltTy} {p : View.Piece (Elt F) S e} {Ls : List (View.Piece (Elt F) S e)} {y : S.Idx} (h : y ∈ p.1.set) :
    ∃ q ∈ p :: Ls, y ∈ q.1.set := ⟨p, List.mem_cons_self, h⟩
/-- When an index lies in a stored piece. -/
theorem mem_tail {S : Shape} {e : EltTy} {p : View.Piece (Elt F) S e} {Ls : List (View.Piece (Elt F) S e)} {y : S.Idx}
    (h : ∃ q ∈ Ls, y ∈ q.1.set) : ∃ q ∈ p :: Ls, y ∈ q.1.set := by
  obtain ⟨q, hq, hy⟩ := h; exact ⟨q, List.mem_cons_of_mem _ hq, hy⟩

/-- The three planes of the numbers the output pass reads. -/
abbrev s0 (St : Vec F S3x512x128 .f32) : Vec F S1x512x128 .f32 := View.ld St (Rect.unit (s := S3x512x128) ![0, 0, 0] S1x512x128.size inb_S3x512x128_S1x512x128_0_0_0)
abbrev s1 (St : Vec F S3x512x128 .f32) : Vec F S1x512x128 .f32 := View.ld St (Rect.unit (s := S3x512x128) ![1, 0, 0] S1x512x128.size inb_S3x512x128_S1x512x128_1_0_0)
abbrev s2 (St : Vec F S3x512x128 .f32) : Vec F S1x512x128 .f32 := View.ld St (Rect.unit (s := S3x512x128) ![2, 0, 0] S1x512x128.size inb_S3x512x128_S1x512x128_2_0_0)

/-- The four stores of an output block. -/
def p6 (i : grid2.Coords) (h4 : k2_cond4 i = 1#1) (Z : Vec F S32x512x512 .f32) (St : Vec F S3x512x128 .f32) : List (View.Piece (Elt F) S512x512 .bf16) :=
  [⟨Rect.unit (s := S512x512) ![0, 384] S512x128.size inb_S512x512_S512x128_0_384,
      k2_pay9 (k2_pay40 (s0 St)) (k2_pay41 (s1 St)) (k2_pay42 (s2 St)) (View.ld Z (Rect.unit (s := S32x512x512) (k2_off14 i) S1x512x128.size (k2_off14_inb i h4)))⟩,
    ⟨Rect.unit (s := S512x512) ![0, 256] S512x128.size inb_S512x512_S512x128_0_256,
      k2_pay8 (k2_pay41 (s1 St)) (k2_pay46 (s0 St) (View.ld Z (Rect.unit (s := S32x512x512) (k2_off13 i) S1x512x128.size (k2_off13_inb i h4))))
        (k2_pay47 (s2 St) (View.ld Z (Rect.unit (s := S32x512x512) (k2_off13 i) S1x512x128.size (k2_off13_inb i h4))))⟩,
    ⟨Rect.unit (s := S512x512) ![0, 128] S512x128.size inb_S512x512_S512x128_0_128,
      k2_pay44 (s0 St) (s1 St) (s2 St) (View.ld Z (Rect.unit (s := S32x512x512) (k2_off12 i) S1x512x128.size (k2_off12_inb i h4)))⟩,
    ⟨Rect.unit (s := S512x512) ![0, 0] S512x128.size inb_S512x512_S512x128_0_0,
      k2_pay43 (s0 St) (s1 St) (s2 St) (View.ld Z (Rect.unit (s := S32x512x512) (k2_off11 i) S1x512x128.size (k2_off11_inb i h4)))⟩]

/-- They cover the block. -/
theorem cover6 (i : grid2.Coords) (h4 : k2_cond4 i = 1#1) (Z : Vec F S32x512x512 .f32) (St : Vec F S3x512x128 .f32) (y : S512x512.Idx) :
    ∃ p ∈ p6 i h4 Z St, y ∈ p.1.set := by
  have h0 : (y 0).val < 512 := (y 0).isLt
  have h1 : (y 1).val < 512 := (y 1).isLt
  have key : ∀ o : ℕ, ∀ inb : (∀ a, (![0, o] : Fin 2 → ℕ) a + S512x128.size a ≤ S512x512.size a), o ≤ (y 1).val → (y 1).val < o + 128 →
      y ∈ (Rect.unit (s := S512x512) ![0, o] S512x128.size inb).set := fun o inb a b => Rect.mem_set_unit.2 fun ax => by
    match ax with
    | ⟨0, _⟩ => exact ⟨Nat.zero_le _, by show (y 0).val < 0 + 512; omega⟩
    | ⟨1, _⟩ => exact ⟨a, b⟩
  unfold p6
  by_cases c3 : 384 ≤ (y 1).val
  · exact mem_head (key 384 inb_S512x512_S512x128_0_384 c3 (by omega))
  by_cases c2 : 256 ≤ (y 1).val
  · exact mem_tail (mem_head (key 256 inb_S512x512_S512x128_0_256 c2 (by omega)))
  by_cases c1 : 128 ≤ (y 1).val
  · exact mem_tail (mem_tail (mem_head (key 128 inb_S512x512_S512x128_0_128 c1 (by omega))))
  · exact mem_tail (mem_tail (mem_tail (mem_head (key 0 inb_S512x512_S512x128_0_0 (by omega) (by omega)))))

/-- A constant of the loops. -/
theorem trips1 : k2_t1_loop.trips = 8 := by decide +kernel

/-- The groups' pieces cover the rows before group `k`. -/
theorem cover7 (Z : Vec F S32x512x512 .f32) (M : Vec F S512x128 .f32) (T L : Vec F S512x1 .f32) : ∀ (k : ℕ), k ≤ 8 → ∀ y : S512x1.Idx, (y 0).val < 64 * k → ∃ p ∈ p7 Z M T L k, y ∈ p.1.set
  | 0, _, y, h => by omega
  | k + 1, hk, y, h => by
    have hk' : k < k2_t1_loop.trips := by rw [trips1]; omega
    rw [show k + 1 = (⟨k, hk'⟩ : Fin k2_t1_loop.trips).val + 1 from rfl, p7_succ]
    by_cases c : 64 * k ≤ (y 0).val
    · refine mem_head ?_
      refine mem_unit (k2_off3_inb i31 ⟨k, hk'⟩ h31) fun ax => ?_
      rw [k2_off3_eq]
      match ax with
      | ⟨0, _⟩ => exact ⟨c, by show (y 0).val < 64 * k + 64; omega⟩
      | ⟨1, _⟩ => exact ⟨Nat.zero_le _, by show (y 1).val < 0 + 1; exact Nat.lt_of_lt_of_eq (y 1).isLt rfl⟩
    · obtain ⟨p, hp, hy⟩ := cover7 Z M T L k (by omega) y (by omega)
      exact ⟨p, List.mem_cons_of_mem _ hp, hy⟩
/-- The stored pieces cover the whole. -/
theorem cover8 (Z : Vec F S32x512x512 .f32) (M : Vec F S512x128 .f32) (T L : Vec F S512x1 .f32) : ∀ (k : ℕ), k ≤ 8 → ∀ y : S512x1.Idx, (y 0).val < 64 * k → ∃ p ∈ p8 Z M T L k, y ∈ p.1.set
  | 0, _, y, h => by omega
  | k + 1, hk, y, h => by
    have hk' : k < k2_t1_loop.trips := by rw [trips1]; omega
    rw [show k + 1 = (⟨k, hk'⟩ : Fin k2_t1_loop.trips).val + 1 from rfl, p8_succ]
    by_cases c : 64 * k ≤ (y 0).val
    · refine mem_head ?_
      refine mem_unit (k2_off3_inb i31 ⟨k, hk'⟩ h31) fun ax => ?_
      rw [k2_off3_eq]
      match ax with
      | ⟨0, _⟩ => exact ⟨c, by show (y 0).val < 64 * k + 64; omega⟩
      | ⟨1, _⟩ => exact ⟨Nat.zero_le _, by show (y 1).val < 0 + 1; exact Nat.lt_of_lt_of_eq (y 1).isLt rfl⟩
    · obtain ⟨p, hp, hy⟩ := cover8 Z M T L k (by omega) y (by omega)
      exact ⟨p, List.mem_cons_of_mem _ hp, hy⟩
/-- The stored pieces cover the whole. -/
theorem cover11 (Z : Vec F S32x512x512 .f32) (M : Vec F S512x128 .f32) (T L : Vec F S512x1 .f32) : ∀ (k : ℕ), k ≤ 8 → ∀ y : S3x512x128.Idx, (y 1).val < 64 * k → ∃ p ∈ p11 Z M T L k, y ∈ p.1.set
  | 0, _, y, h => by omega
  | k + 1, hk, y, h => by
    have hk' : k < k2_t1_loop.trips := by rw [trips1]; omega
    have h0 : (y 0).val < 3 := (y 0).isLt
    have h2 : (y 2).val < 128 := (y 2).isLt
    rw [show k + 1 = (⟨k, hk'⟩ : Fin k2_t1_loop.trips).val + 1 from rfl, p11_succ]
    by_cases c : 64 * k ≤ (y 1).val
    · have key : ∀ (o : ℕ) (off : Fin 3 → ℕ) (inb : ∀ a, off a + S1x64x128.size a ≤ S3x512x128.size a), off = ![o, 64 * k, 0] → (y 0).val = o →
          y ∈ (Rect.unit (s := S3x512x128) off S1x64x128.size inb).set := fun o off inb e ho => Rect.mem_set_unit.2 fun ax => by
        subst e
        match ax with
        | ⟨0, _⟩ => exact ⟨ho.ge, by show (y 0).val < o + 1; omega⟩
        | ⟨1, _⟩ => exact ⟨c, by show (y 1).val < 64 * k + 64; omega⟩
        | ⟨2, _⟩ => exact ⟨Nat.zero_le _, by show (y 2).val < 0 + 128; omega⟩
      by_cases c2 : (y 0).val = 2
      · exact mem_head (key 2 _ (k2_off10_inb i31 ⟨k, hk'⟩ h31) (k2_off10_eq _) c2)
      by_cases c1 : (y 0).val = 1
      · exact mem_tail (mem_head (key 1 _ (k2_off9_inb i31 ⟨k, hk'⟩ h31) (k2_off9_eq _) c1))
      · exact mem_tail (mem_tail (mem_head (key 0 _ (k2_off8_inb i31 ⟨k, hk'⟩ h31) (k2_off8_eq _) (by omega))))
    · obtain ⟨p, hp, hy⟩ := cover11 Z M T L k (by omega) y (by omega)
      exact ⟨p, List.mem_cons_of_mem _ (List.mem_cons_of_mem _ (List.mem_cons_of_mem _ hp)), hy⟩

/-- The stored pieces cover the whole. -/
theorem full7 (Z : Vec F S32x512x512 .f32) (M : Vec F S512x128 .f32) (T L : Vec F S512x1 .f32) (y : S512x1.Idx) : ∃ p ∈ p7 Z M T L k2_t1_loop.trips, y ∈ p.1.set := by
  rw [trips1]; exact cover7 Z M T L 8 (by omega) y (y 0).isLt
/-- The stored pieces cover the whole. -/
theorem full8 (Z : Vec F S32x512x512 .f32) (M : Vec F S512x128 .f32) (T L : Vec F S512x1 .f32) (y : S512x1.Idx) : ∃ p ∈ p8 Z M T L k2_t1_loop.trips, y ∈ p.1.set := by
  rw [trips1]; exact cover8 Z M T L 8 (by omega) y (y 0).isLt
/-- The stored pieces cover the whole. -/
theorem full11 (Z : Vec F S32x512x512 .f32) (M : Vec F S512x128 .f32) (T L : Vec F S512x1 .f32) (y : S3x512x128.Idx) : ∃ p ∈ p11 Z M T L k2_t1_loop.trips, y ∈ p.1.set := by
  rw [trips1]; exact cover11 Z M T L 8 (by omega) y (y 1).isLt

/-- The first vocabulary block of a row block. -/
theorem sound_first (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole)
    (h1 : Scalar.cmpi .ne (Scalar.extui (Scalar.cmpi .eq (BitVec.ofNat 32 (i 1).val) 0#32) : BitVec 32) 0#32 = 1#1) (h2 : k2_cond2 i = 1#1) (h3 : ¬ k2_cond3 i = 1#1) (h4 : ¬ k2_cond4 i = 1#1) (x w : Vec F S512x4096 .bf16) (Z : Vec F S32x512x512 .f32) (K : PUnit → sProp 𝕄) :
    iprop(owns (c : Thread nD τ) arg2 fullShare x ∗ owns (c : Thread nD τ) arg3 fullShare w ∗ owns (c : Thread nD τ) arg9 fullShare Z ∗ (∃ d, owns (c : Thread nD τ) arg10 fullShare d)
        ∗ (iprop(∃ Z', ⌜Stored i h2 (k2_pay3 x w) Z Z'⌝ ∗ owns (c : Thread nD τ) arg2 fullShare x ∗ owns (c : Thread nD τ) arg3 fullShare w ∗ owns (c : Thread nD τ) arg9 fullShare Z' ∗ owns (c : Thread nD τ) arg10 fullShare (k2_pay4 x w k2_pay1)) -∗ K ⟨⟩))
      ⊢ wp frame (wpE (defs₀ (F := F)) Variants.none c none) E (cc2_head_min_p i arg2 harg2 arg3 harg3 arg4 harg4 arg5 harg5 arg6 harg6 arg7 harg7 arg8 harg8 arg9 harg9 arg10 harg10 arg11 harg11) K := by
  simp only [cc2_head_min_p_eq_skeleton]; unfold cc2_head_min_p_skel
  unfold owns
  iintro ⟨⟨%f2, %hf2, H2⟩, ⟨%f3, %hf3, H3⟩, ⟨%f9, %hf9, H9⟩, ⟨%d10, %f10, -, H10⟩, Hk⟩
  subst hf2 hf3 hf9
  sl_exec
  sl_step
  iapply Hk
  iexists (arg9.view.read (Elt F) (arg9.view.writes (Elt F) f9 [⟨zr i h2, k2_pay3 (arg2.view.read (Elt F) f2) (arg3.view.read (Elt F) f3)⟩]))
  isplitr; · ipureintro; exact stored_writes i h2 _ arg9 f9
  isplitl [H2]
  · iexists f2; isplitr; · ipureintro; rfl
    iexact H2
  isplitl [H3]
  · iexists f3; isplitr; · ipureintro; rfl
    iexact H3
  isplitl [H9]
  · iexists _; isplitr
    swap; · iexact H9
    ipureintro; rw [readAt_whole arg2.view f2 inb_S512x4096_S512x4096_0_0 (by decide), readAt_whole arg3.view f3 inb_S512x4096_S512x4096_0_0 (by decide)]
  iexists _; isplitr
  swap; · iexact H10
  ipureintro
  refine (read_whole _ _ _ _ _ (by decide)).trans ?_
  unfold sound_first.sl.v21 sound_first.sl.H10_1
  rw [readAt_whole arg2.view f2 inb_S512x4096_S512x4096_0_0 (by decide), readAt_whole arg3.view f3 inb_S512x4096_S512x4096_0_0 (by decide), readCov_whole _ _ _ (by decide)]

/-- A vocabulary block after the first and before the last. -/
theorem sound_mid (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole)
    (h1 : ¬ Scalar.cmpi .ne (Scalar.extui (Scalar.cmpi .eq (BitVec.ofNat 32 (i 1).val) 0#32) : BitVec 32) 0#32 = 1#1) (h2 : k2_cond2 i = 1#1) (h3 : ¬ k2_cond3 i = 1#1) (h4 : ¬ k2_cond4 i = 1#1) (x w : Vec F S512x4096 .bf16) (Z : Vec F S32x512x512 .f32) (M : Vec F S512x128 .f32) (K : PUnit → sProp 𝕄) :
    iprop(owns (c : Thread nD τ) arg2 fullShare x ∗ owns (c : Thread nD τ) arg3 fullShare w ∗ owns (c : Thread nD τ) arg9 fullShare Z ∗ owns (c : Thread nD τ) arg10 fullShare M
        ∗ (iprop(∃ Z', ⌜Stored i h2 (k2_pay3 x w) Z Z'⌝ ∗ owns (c : Thread nD τ) arg2 fullShare x ∗ owns (c : Thread nD τ) arg3 fullShare w ∗ owns (c : Thread nD τ) arg9 fullShare Z' ∗ owns (c : Thread nD τ) arg10 fullShare (k2_pay4 x w M)) -∗ K ⟨⟩))
      ⊢ wp frame (wpE (defs₀ (F := F)) Variants.none c none) E (cc2_head_min_p i arg2 harg2 arg3 harg3 arg4 harg4 arg5 harg5 arg6 harg6 arg7 harg7 arg8 harg8 arg9 harg9 arg10 harg10 arg11 harg11) K := by
  simp only [cc2_head_min_p_eq_skeleton]; unfold cc2_head_min_p_skel
  unfold owns
  iintro ⟨⟨%f2, %hf2, H2⟩, ⟨%f3, %hf3, H3⟩, ⟨%f9, %hf9, H9⟩, ⟨%f10, %hf10, H10⟩, Hk⟩
  subst hf2 hf3 hf9 hf10
  sl_exec
  sl_step
  iapply Hk
  iexists (arg9.view.read (Elt F) (arg9.view.writes (Elt F) f9 [⟨zr i h2, k2_pay3 (arg2.view.read (Elt F) f2) (arg3.view.read (Elt F) f3)⟩]))
  isplitr; · ipureintro; exact stored_writes i h2 _ arg9 f9
  isplitl [H2]
  · iexists f2; isplitr; · ipureintro; rfl
    iexact H2
  isplitl [H3]
  · iexists f3; isplitr; · ipureintro; rfl
    iexact H3
  isplitl [H9]
  · iexists _; isplitr
    swap; · iexact H9
    ipureintro; rw [readAt_whole arg2.view f2 inb_S512x4096_S512x4096_0_0 (by decide), readAt_whole arg3.view f3 inb_S512x4096_S512x4096_0_0 (by decide)]
  iexists _; isplitr
  swap; · iexact H10
  ipureintro
  refine (read_whole _ _ _ _ _ (by decide)).trans ?_
  rw [readAt_whole arg2.view f2 inb_S512x4096_S512x4096_0_0 (by decide), readAt_whole arg3.view f3 inb_S512x4096_S512x4096_0_0 (by decide), readAt_whole arg10.view f10 inb_S512x128_S512x128_0_0 (by decide)]

/-- The last vocabulary block: the row block's thresholds, margins and the numbers the output pass reads. -/
theorem sound_last (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole)
    (h1 : ¬ Scalar.cmpi .ne (Scalar.extui (Scalar.cmpi .eq (BitVec.ofNat 32 (i 1).val) 0#32) : BitVec 32) 0#32 = 1#1) (h2 : k2_cond2 i = 1#1) (h3 : k2_cond3 i = 1#1) (h4 : ¬ k2_cond4 i = 1#1) (x w : Vec F S512x4096 .bf16) (T L : Vec F S512x1 .f32) (Z : Vec F S32x512x512 .f32) (M : Vec F S512x128 .f32) (K : PUnit → sProp 𝕄) :
    iprop(owns (c : Thread nD τ) arg2 fullShare x ∗ owns (c : Thread nD τ) arg3 fullShare w ∗ owns (c : Thread nD τ) arg4 fullShare T ∗ owns (c : Thread nD τ) arg5 fullShare L ∗ (∃ d, owns (c : Thread nD τ) arg7 fullShare d) ∗ (∃ d, owns (c : Thread nD τ) arg8 fullShare d) ∗ owns (c : Thread nD τ) arg9 fullShare Z ∗ owns (c : Thread nD τ) arg10 fullShare M ∗ (∃ d, owns (c : Thread nD τ) arg11 fullShare d)
        ∗ (iprop(∃ Z', ⌜Stored i h2 (k2_pay3 x w) Z Z'⌝ ∗ owns (c : Thread nD τ) arg2 fullShare x ∗ owns (c : Thread nD τ) arg3 fullShare w ∗ owns (c : Thread nD τ) arg4 fullShare T ∗ owns (c : Thread nD τ) arg5 fullShare L ∗ owns (c : Thread nD τ) arg9 fullShare Z' ∗ owns (c : Thread nD τ) arg10 fullShare (k2_pay4 x w M) ∗ owns (c : Thread nD τ) arg7 fullShare (View.canon (p7 Z' (k2_pay4 x w M) T L k2_t1_loop.trips)) ∗ owns (c : Thread nD τ) arg8 fullShare (View.canon (p8 Z' (k2_pay4 x w M) T L k2_t1_loop.trips)) ∗ owns (c : Thread nD τ) arg11 fullShare (View.canon (p11 Z' (k2_pay4 x w M) T L k2_t1_loop.trips))) -∗ K ⟨⟩))
      ⊢ wp frame (wpE (defs₀ (F := F)) Variants.none c none) E (cc2_head_min_p i arg2 harg2 arg3 harg3 arg4 harg4 arg5 harg5 arg6 harg6 arg7 harg7 arg8 harg8 arg9 harg9 arg10 harg10 arg11 harg11) K := by
  simp only [cc2_head_min_p_eq_skeleton]; unfold cc2_head_min_p_skel
  unfold owns
  iintro ⟨⟨%f2, %hf2, H2⟩, ⟨%f3, %hf3, H3⟩, ⟨%f4, %hf4, H4⟩, ⟨%f5, %hf5, H5⟩, ⟨%d7, %f7, -, H7⟩, ⟨%d8, %f8, -, H8⟩, ⟨%f9, %hf9, H9⟩, ⟨%f10, %hf10, H10⟩, ⟨%d11, %f11, -, H11⟩, Hk⟩
  subst hf2 hf3 hf4 hf5 hf9 hf10
  sl_exec
  sl_step
  iapply Hk
  iexists (arg9.view.read (Elt F) (arg9.view.writes (Elt F) f9 [⟨zr i h2, k2_pay3 (arg2.view.read (Elt F) f2) (arg3.view.read (Elt F) f3)⟩]))
  isplitr; · ipureintro; exact stored_writes i h2 _ arg9 f9
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H9]
  · iexists _; isplitr
    swap; · iexact H9
    ipureintro; rw [readAt_whole arg2.view f2 inb_S512x4096_S512x4096_0_0 (by decide), readAt_whole arg3.view f3 inb_S512x4096_S512x4096_0_0 (by decide)]
  isplitl [H10]
  · iexists _; isplitr
    swap; · iexact H10
    ipureintro; refine (read_whole _ _ _ _ _ (by decide)).trans ?_
    rw [readAt_whole arg2.view f2 inb_S512x4096_S512x4096_0_0 (by decide), readAt_whole arg3.view f3 inb_S512x4096_S512x4096_0_0 (by decide), readAt_whole arg10.view f10 inb_S512x128_S512x128_0_0 (by decide)]
  isplitl [H7]
  · iexists _; isplitr
    swap; · iexact H7
    ipureintro; refine (View.read_writes_eq_canon _ _ _ (full7 _ _ _ _)).trans ?_
    unfold sound_last.sl.H10_1
    rw [readAt_whole arg2.view f2 inb_S512x4096_S512x4096_0_0 (by decide), readAt_whole arg3.view f3 inb_S512x4096_S512x4096_0_0 (by decide), readAt_whole arg10.view f10 inb_S512x128_S512x128_0_0 (by decide), read_whole _ _ _ _ _ (by decide)]
  isplitl [H8]
  · iexists _; isplitr
    swap; · iexact H8
    ipureintro; refine (View.read_writes_eq_canon _ _ _ (full8 _ _ _ _)).trans ?_
    unfold sound_last.sl.H10_1
    rw [readAt_whole arg2.view f2 inb_S512x4096_S512x4096_0_0 (by decide), readAt_whole arg3.view f3 inb_S512x4096_S512x4096_0_0 (by decide), readAt_whole arg10.view f10 inb_S512x128_S512x128_0_0 (by decide), read_whole _ _ _ _ _ (by decide)]
  iexists _; isplitr
  swap; · iexact H11
  ipureintro
  refine (View.read_writes_eq_canon _ _ _ (full11 _ _ _ _)).trans ?_
  unfold sound_last.sl.H10_1
  rw [readAt_whole arg2.view f2 inb_S512x4096_S512x4096_0_0 (by decide), readAt_whole arg3.view f3 inb_S512x4096_S512x4096_0_0 (by decide), readAt_whole arg10.view f10 inb_S512x128_S512x128_0_0 (by decide), read_whole _ _ _ _ _ (by decide)]

/-- A step of the output pass. -/
theorem sound_out (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole)
    (h1 : ¬ Scalar.cmpi .ne (Scalar.extui (Scalar.cmpi .eq (BitVec.ofNat 32 (i 1).val) 0#32) : BitVec 32) 0#32 = 1#1) (h2 : ¬ k2_cond2 i = 1#1) (h3 : ¬ k2_cond3 i = 1#1) (h4 : k2_cond4 i = 1#1) (Z : Vec F S32x512x512 .f32) (St : Vec F S3x512x128 .f32) (K : PUnit → sProp 𝕄) :
    iprop((∃ d, owns (c : Thread nD τ) arg6 fullShare d) ∗ owns (c : Thread nD τ) arg9 fullShare Z ∗ owns (c : Thread nD τ) arg11 fullShare St
        ∗ (iprop(owns (c : Thread nD τ) arg9 fullShare Z ∗ owns (c : Thread nD τ) arg11 fullShare St ∗ owns (c : Thread nD τ) arg6 fullShare (View.canon (p6 i h4 Z St))) -∗ K ⟨⟩))
      ⊢ wp frame (wpE (defs₀ (F := F)) Variants.none c none) E (cc2_head_min_p i arg2 harg2 arg3 harg3 arg4 harg4 arg5 harg5 arg6 harg6 arg7 harg7 arg8 harg8 arg9 harg9 arg10 harg10 arg11 harg11) K := by
  simp only [cc2_head_min_p_eq_skeleton]; unfold cc2_head_min_p_skel
  unfold owns
  iintro ⟨⟨%d6, %f6, -, H6⟩, ⟨%f9, %hf9, H9⟩, ⟨%f11, %hf11, H11⟩, Hk⟩
  subst hf9 hf11
  simp only [k2_part3_eq_skeleton]; unfold k2_part3_skel
  sl_exec
  sl_step
  iapply Hk
  isplitl [H9]
  · iexists f9; isplitr; · ipureintro; rfl
    iexact H9
  isplitl [H11]
  · iexists f11; isplitr; · ipureintro; rfl
    iexact H11
  iexists _; isplitr
  swap; · iexact H6
  ipureintro
  exact View.read_writes_eq_canon _ _ _ (cover6 i h4 (arg9.view.read (Elt F) f9) (arg11.view.read (Elt F) f11))

end Cert.Kernel.R2

end
-- ==== Proof.Kernel.Head.lean ====
/- Region 2 of the kernel, `head_min_p`: what each row block leaves in the scratch buffers and the outputs, its proof data over
   any contents `V` of the buffers the region is entered with, and the body obligation at every grid point. -/
module

public import proofs.«01_k».proof.Proof.Kernel.HeadBody
public import proofs.«01_k».proof.Proof.Gen.Kernel.Regions
public import proofs.«01_k».proof.Proof.Gen.Kernel.Points
public import Idealize.ShloMosaic.Lib.Pipeline.FrameBody
public import Idealize.ShloMosaic.Lib.Pipeline.ValueKit.Geometry
public import Idealize.ShloMosaic.Lib.Pointwise.Index

@[expose] public section

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of each core's buffers when the region is entered.
variable (V : (c : Dev nD) → (b : Ref sig .tc) → Buf (Elt F) ((c : Thread nD τ).loc b))

/-! ## The grid: which block each window is on, and which conditions hold -/

/-- The block that the window shows at a grid point. -/
theorem idx2_0 : ∀ t : Fin cfg2.N, win2_0.index t = ![t.val / 64, 0] := (by decide +kernel : ∀ t : Fin grid2.N, win2_0.index t = ![t.val / 64, 0])
/-- The block that the window shows at a grid point. -/
theorem idx2_1 : ∀ t : Fin cfg2.N, win2_1.index t = ![min (t.val % 64) 31, 0] :=
  (by decide +kernel : ∀ t : Fin grid2.N, win2_1.index t = ![min (t.val % 64) 31, 0])
/-- The block that the window shows at a grid point. -/
theorem idx2_2 : ∀ t : Fin cfg2.N, win2_2.index t = ![t.val / 64, 0] := (by decide +kernel : ∀ t : Fin grid2.N, win2_2.index t = ![t.val / 64, 0])
/-- The block that the window shows at a grid point. -/
theorem idx2_3 : ∀ t : Fin cfg2.N, win2_3.index t = ![t.val / 64, 0] := (by decide +kernel : ∀ t : Fin grid2.N, win2_3.index t = ![t.val / 64, 0])
/-- The second coordinate of a grid point. -/
theorem coord1 : ∀ t : Fin cfg2.N, (grid2.coords t 1).val = t.val % 64 := (by decide +kernel : ∀ t : Fin grid2.N, (grid2.coords t 1).val = t.val % 64)
/-- When the body's branch is taken. -/
theorem c1_iff : ∀ t : Fin cfg2.N, (Scalar.cmpi .ne (Scalar.extui (Scalar.cmpi .eq (BitVec.ofNat 32 (grid2.coords t 1).val) 0#32) : BitVec 32) 0#32 = 1#1) ↔ t.val % 64 = 0 :=
  (by decide +kernel : ∀ t : Fin grid2.N, (Scalar.cmpi .ne (Scalar.extui (Scalar.cmpi .eq (BitVec.ofNat 32 (grid2.coords t 1).val) 0#32) : BitVec 32) 0#32 = 1#1) ↔ t.val % 64 = 0)
/-- When the body's branch is taken. -/
theorem c2_iff : ∀ t : Fin cfg2.N, k2_cond2 (grid2.coords t) = 1#1 ↔ t.val % 64 < 32 :=
  (by decide +kernel : ∀ t : Fin grid2.N, k2_cond2 (grid2.coords t) = 1#1 ↔ t.val % 64 < 32)
/-- When the body's branch is taken. -/
theorem c3_iff : ∀ t : Fin cfg2.N, k2_cond3 (grid2.coords t) = 1#1 ↔ t.val % 64 = 31 :=
  (by decide +kernel : ∀ t : Fin grid2.N, k2_cond3 (grid2.coords t) = 1#1 ↔ t.val % 64 = 31)
/-- When the body's branch is taken. -/
theorem c4_iff : ∀ t : Fin cfg2.N, k2_cond4 (grid2.coords t) = 1#1 ↔ 32 ≤ t.val % 64 :=
  (by decide +kernel : ∀ t : Fin grid2.N, k2_cond4 (grid2.coords t) = 1#1 ↔ 32 ≤ t.val % 64)
/-- When the body leaves the output's buffer alone. -/
theorem idle4 (t : Fin cfg2.N) : cfg2.idle 4 (grid2.coords t) = !decide (32 ≤ t.val % 64) := by
  show (!(k2_cond4 (grid2.coords t) == 1#1)) = _
  rw [Bool.beq_eq_decide_eq]; simp only [c4_iff]
/-- When the body leaves the output's buffer alone. -/
theorem idle5 (t : Fin cfg2.N) : cfg2.idle 5 (grid2.coords t) = !decide (t.val % 64 = 31) := by
  show (!(k2_cond3 (grid2.coords t) == 1#1)) = _
  rw [Bool.beq_eq_decide_eq]; simp only [c3_iff]
/-- When the body leaves the output's buffer alone. -/
theorem idle6 (t : Fin cfg2.N) : cfg2.idle 6 (grid2.coords t) = !decide (t.val % 64 = 31) := by
  show (!(k2_cond3 (grid2.coords t) == 1#1)) = _
  rw [Bool.beq_eq_decide_eq]; simp only [c3_iff]
/-- When the first output's block is written back. -/
theorem flush2_4 : ∀ t : Fin cfg2.N, (cfg2.win 4).flush t = true ↔ 32 ≤ t.val % 64 :=
  (by decide +kernel : ∀ t : Fin grid2.N, win2_4.flush t = true ↔ 32 ≤ t.val % 64)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is `V`'s and whose
    body leaves the block in place. -/
theorem before0_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is `V`'s and whose
    body leaves the block in place. -/
theorem before0_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is `V`'s and whose
    body leaves the block in place. -/
theorem before0_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is `V`'s and whose
    body leaves the block in place. -/
theorem before0_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The grid point of row block `i` (of 12) and step `k` (of 64). -/
def pt (i k : ℕ) : Fin cfg2.N := ⟨(64 * i + k) % 768, Nat.lt_of_lt_of_eq (Nat.mod_lt _ (by decide)) N_2.symm⟩

/-- There are 768 points. -/
theorem lt768 (t : Fin cfg2.N) : t.val < 768 := Nat.lt_of_lt_of_eq t.isLt N_2
/-- A point's row block or column block. -/
theorem pt_div (t : Fin cfg2.N) : (pt (t.val / 64) 0).val / 64 = t.val / 64 := by
  have := lt768 t; show (64 * (t.val / 64) + 0) % 768 / 64 = _; omega

/-- Row block `i`'s rows of the tokens, -/
def xB (c : Dev nD) (i : ℕ) : Vec F S512x4096 .bf16 := iblk V c 0 (pt i 0)
/-- vocabulary block `j`'s rows of the weights, -/
def wB (c : Dev nD) (j : ℕ) : Vec F S512x4096 .bf16 := iblk V c 1 (pt 0 j)
/-- and row block `i`'s temperatures -/
def tB (c : Dev nD) (i : ℕ) : Vec F S512x1 .f32 := iblk V c 2 (pt i 0)
/-- and logarithms of the threshold's share. -/
def lB (c : Dev nD) (i : ℕ) : Vec F S512x1 .f32 := iblk V c 3 (pt i 0)

/-- The window's block at a point, named by its row or column block. -/
theorem iblk_0 (c : Dev nD) (t : Fin cfg2.N) : iblk V c 0 t = xB V c (t.val / 64) := by
  unfold xB; funext y; blk_ext [iblk, idx2_0, pt_div]
/-- The window's block at a point, named by its row or column block. -/
theorem iblk_1 (c : Dev nD) (t : Fin cfg2.N) (h : t.val % 64 < 32) : iblk V c 1 t = wB V c (t.val % 64) := by
  have e : (pt 0 (t.val % 64)).val % 64 = t.val % 64 := by show (64 * 0 + t.val % 64) % 768 % 64 = _; omega
  unfold wB; funext y; blk_ext [iblk, idx2_1, e]
/-- The window's block at a point, named by its row or column block. -/
theorem iblk_2 (c : Dev nD) (t : Fin cfg2.N) : iblk V c 2 t = tB V c (t.val / 64) := by
  unfold tB; funext y; blk_ext [iblk, idx2_2, pt_div]
/-- The window's block at a point, named by its row or column block. -/
theorem iblk_3 (c : Dev nD) (t : Fin cfg2.N) : iblk V c 3 t = lB V c (t.val / 64) := by
  unfold lB; funext y; blk_ext [iblk, idx2_3, pt_div]

/-! ## What a row block leaves -/

/-- The logits of row block `i`, one block per vocabulary block. -/
def zF (c : Dev nD) (i : ℕ) : Vec F S32x512x512 .f32 := fun y => k2_pay3 (xB V c i) (wB V c (y 0).val) (ix3 0 (y 1) (y 2))
/-- The running maxima after `j` vocabulary blocks. -/
def mF (c : Dev nD) (i : ℕ) : ℕ → Vec F S512x128 .f32
  | 0 => k2_pay1
  | j + 1 => k2_pay4 (xB V c i) (wB V c j) (mF c i j)
/-- The thresholds, -/
def thrF (c : Dev nD) (i : ℕ) : Vec F S512x1 .f32 := View.canon (p7 (zF V c i) (mF V c i 32) (tB V c i) (lB V c i) k2_t1_loop.trips)
/-- the margins -/
def marF (c : Dev nD) (i : ℕ) : Vec F S512x1 .f32 := View.canon (p8 (zF V c i) (mF V c i 32) (tB V c i) (lB V c i) k2_t1_loop.trips)
/-- and the numbers the output pass reads. -/
def stF (c : Dev nD) (i : ℕ) : Vec F S3x512x128 .f32 := View.canon (p11 (zF V c i) (mF V c i 32) (tB V c i) (lB V c i) k2_t1_loop.trips)
/-- The output block of a point of the output pass. -/
def outF (c : Dev nD) (t : Fin cfg2.N) : Vec F S512x512 .bf16 :=
  if h : k2_cond4 (grid2.coords t) = 1#1 then View.canon (p6 (grid2.coords t) h (zF V c (t.val / 64)) (stF V c (t.val / 64)))
  else View.canon []

/-- What the scratch buffers hold before point `n`. -/
def Inv (c : Dev nD) (n : ℕ) (Z : Vec F S32x512x512 .f32) (M : Vec F S512x128 .f32) (St : Vec F S3x512x128 .f32) : Prop :=
  (∀ y : S32x512x512.Idx, (y 0).val < n % 64 → Z y = zF V c (n / 64) y) ∧ (1 ≤ n % 64 → M = mF V c (n / 64) (min (n % 64) 32))
    ∧ (32 ≤ n % 64 → St = stF V c (n / 64))

/-- One more block stored. -/
theorem stored_step (c : Dev nD) (t : Fin cfg2.N) (h2 : k2_cond2 (grid2.coords t) = 1#1) {Z Z' : Vec F S32x512x512 .f32}
    (hZ : ∀ y : S32x512x512.Idx, (y 0).val < t.val % 64 → Z y = zF V c (t.val / 64) y)
    (hs : Stored (grid2.coords t) h2 (k2_pay3 (xB V c (t.val / 64)) (wB V c (t.val % 64))) Z Z') :
    ∀ y : S32x512x512.Idx, (y 0).val < t.val % 64 + 1 → Z' y = zF V c (t.val / 64) y := by
  intro y hy
  have hoff : k2_off1 (grid2.coords t) = ![t.val % 64, 0, 0] := by rw [k2_off1_eq, coord1]
  by_cases hk : (y 0).val = t.val % 64
  · have e : (zr (grid2.coords t) h2).emb (ix3 (n0 := 1) (n1 := 512) (n2 := 512) 0 (y 1) (y 2)) = y := by
      funext a; apply Fin.ext
      rw [ValueKit.rect_emb_unit_val, congrFun hoff a]
      match a with
      | ⟨0, _⟩ => exact hk.symm
      | ⟨1, _⟩ => exact Nat.zero_add _
      | ⟨2, _⟩ => exact Nat.zero_add _
    have := hs.1 (ix3 (n0 := 1) (n1 := 512) (n2 := 512) 0 (y 1) (y 2))
    rw [e] at this
    rw [this]; unfold zF; rw [hk]
  · rw [hs.2 y ?_, hZ y (by omega)]
    intro hm
    have := (Rect.mem_set_unit.1 hm) 0
    rw [hoff] at this
    have h0 : t.val % 64 ≤ (y 0).val := this.1
    have h1 : (y 0).val < t.val % 64 + 1 := this.2
    omega

/-- All of them stored. -/
theorem stored_all (c : Dev nD) (i : ℕ) {Z : Vec F S32x512x512 .f32} (h : ∀ y : S32x512x512.Idx, (y 0).val < 32 → Z y = zF V c i y) :
    Z = zF V c i := funext fun y => h y (y 0).isLt

/-! ## The proof data -/

/-- The scoped buffers that are neither staged by this region nor its scratch. -/
abbrev restBut (c : Dev nD) : sProp 𝕄 :=
  Pipeline.scopedRestBut (Ix := Unit) (Name := ℕ) (U := UR sig nD τ) (Lvl := ℕ) (Val := Elt F) spec2 c [cc2_scratch0, cc2_scratch1, cc2_scratch2]

/-- The region's invariant before point `n`. -/
def phi (c : Dev nD) (n : ℕ) : sProp 𝕄 :=
  iprop(∃ Z, ∃ M, ∃ St, ⌜Inv V c n Z M St⌝ ∗ owns (c : Thread nD τ) (Memref.whole cc2_scratch0) fullShare Z
    ∗ owns (c : Thread nD τ) (Memref.whole cc2_scratch1) fullShare M ∗ owns (c : Thread nD τ) (Memref.whole cc2_scratch2) fullShare St ∗ restBut c)

/-- The scratch buffers among the call's own. -/
theorem scoped_split (c : Dev nD) :
    (Pipeline.scopedRest (Ix := Unit) (Name := ℕ) (U := UR sig nD τ) (Lvl := ℕ) (Val := Elt F) spec2 c : sProp 𝕄)
      = iprop(((∃ f, owns (c : Thread nD τ) (Memref.whole cc2_scratch0) fullShare f) ∗ (∃ f, owns (c : Thread nD τ) (Memref.whole cc2_scratch1) fullShare f)
        ∗ (∃ f, owns (c : Thread nD τ) (Memref.whole cc2_scratch2) fullShare f)) ∗ restBut c) := by
  rw [Pipeline.scopedRest_split_of_list spec2 c [cc2_scratch0, cc2_scratch1, cc2_scratch2] (by decide) (by decide)]
  simp only [owns_whole, bigSepL_cons_cons, bigSepL_singleton]
  rfl

/-- The invariant at a row block's start is the scratch held with any contents. -/
theorem phi_of_scoped (c : Dev nD) (n : ℕ) (h : n % 64 = 0) :
    (Pipeline.scopedRest (Ix := Unit) (Name := ℕ) (U := UR sig nD τ) (Lvl := ℕ) (Val := Elt F) spec2 c : sProp 𝕄) ⊢ phi V c n := by
  rw [scoped_split]; unfold phi
  iintro ⟨⟨⟨%Z, H0⟩, ⟨%M, H1⟩, ⟨%St, H2⟩⟩, HR⟩
  iexists Z; iexists M; iexists St
  isplitr
  · ipureintro
    exact ⟨fun y hy => absurd hy (by omega), fun h' => absurd h' (by omega), fun h' => absurd h' (by omega)⟩
  isplitl [H0]; · iexact H0
  isplitl [H1]; · iexact H1
  isplitl [H2]; · iexact H2
  iexact HR

/-- The invariant at a row block's start is the scratch held with any contents. -/
theorem scoped_of_phi (c : Dev nD) (n : ℕ) :
    phi V c n ⊢ (Pipeline.scopedRest (Ix := Unit) (Name := ℕ) (U := UR sig nD τ) (Lvl := ℕ) (Val := Elt F) spec2 c : sProp 𝕄) := by
  rw [scoped_split]; unfold phi
  iintro ⟨%Z, %M, %St, -, H0, H1, H2, HR⟩
  isplitr [HR]
  · isplitl [H0]; · iexists Z; iexact H0
    isplitl [H1]; · iexists M; iexact H1
    iexists St; iexact H2
  iexact HR

/-- The proof data of the pipeline on core `c`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => outF V c t
    | ⟨5, _⟩ => thrF V c (t.val / 64)
    | ⟨6, _⟩ => marF V c (t.val / 64)
  Φ n := phi V c n.val
  q _ := fullShare
  owed _ := 0

/-- The arrays at entry. -/
theorem A_eq (c : Dev nD) (w : Fin cfg2.W) : (dat V c).A w = V c (Pipeline.arrRef spec2 w) := by
  dsimp only [dat]
/-- What the body leaves in the window's buffer. -/
theorem after0_0 (c : Dev nD) (t : Fin cfg2.N) : (dat V c).after 0 t = iblk V c 0 t := by dsimp only [dat]
/-- What the body leaves in the window's buffer. -/
theorem after0_1 (c : Dev nD) (t : Fin cfg2.N) : (dat V c).after 1 t = iblk V c 1 t := by dsimp only [dat]
/-- What the body leaves in the window's buffer. -/
theorem after0_2 (c : Dev nD) (t : Fin cfg2.N) : (dat V c).after 2 t = iblk V c 2 t := by dsimp only [dat]
/-- What the body leaves in the window's buffer. -/
theorem after0_3 (c : Dev nD) (t : Fin cfg2.N) : (dat V c).after 3 t = iblk V c 3 t := by dsimp only [dat]
/-- What the body leaves in the window's buffer. -/
theorem after0_4 (c : Dev nD) (t : Fin cfg2.N) : (dat V c).after 4 t = outF V c t := by dsimp only [dat]
/-- What the body leaves in the window's buffer. -/
theorem after0_5 (c : Dev nD) (t : Fin cfg2.N) : (dat V c).after 5 t = thrF V c (t.val / 64) := by dsimp only [dat]
/-- What the body leaves in the window's buffer. -/
theorem after0_6 (c : Dev nD) (t : Fin cfg2.N) : (dat V c).after 6 t = marF V c (t.val / 64) := by dsimp only [dat]
/-- What the body finds in the window's buffer. -/
theorem before0_0 (c : Dev nD) (t : Fin cfg2.N) (d) : (dat V c).before 0 t d = iblk V c 0 t :=
  before0_0_of V (dat V c) (A_eq V c 0) (after0_0 V c) t d
/-- What the body finds in the window's buffer. -/
theorem before0_1 (c : Dev nD) (t : Fin cfg2.N) (d) : (dat V c).before 1 t d = iblk V c 1 t :=
  before0_1_of V (dat V c) (A_eq V c 1) (after0_1 V c) t d
/-- What the body finds in the window's buffer. -/
theorem before0_2 (c : Dev nD) (t : Fin cfg2.N) (d) : (dat V c).before 2 t d = iblk V c 2 t :=
  before0_2_of V (dat V c) (A_eq V c 2) (after0_2 V c) t d
/-- What the body finds in the window's buffer. -/
theorem before0_3 (c : Dev nD) (t : Fin cfg2.N) (d) : (dat V c).before 3 t d = iblk V c 3 t :=
  before0_3_of V (dat V c) (A_eq V c 3) (after0_3 V c) t d

/-- After its row block's last vocabulary block, window 5's buffer is carried to the end of the row block. -/
theorem before0_5 (c : Dev nD) (m : ℕ) : ∀ (t : Fin cfg2.N) (d), t.val % 64 = 32 + m → (dat V c).before 5 t d = thrF V c (t.val / 64) := by
  induction m with
  | zero =>
    intro t d ht
    have hp : (cfg2.win 5).flush ⟨t.val - 1, Nat.lt_of_le_of_lt (Nat.sub_le _ _) t.isLt⟩ = false :=
      Bool.eq_false_iff.2 fun h => by have := (flush2_5 _).1 h; simp only at this; omega
    rw [(dat V c).before_of_pos 5 t (by omega) ((cfg2.win 5).fetch_out rfl t), hp, if_neg Bool.false_ne_true]
    have hi : cfg2.idle 5 (cfg2.grid.coords ⟨t.val - 1, Nat.lt_of_le_of_lt (Nat.sub_le _ _) t.isLt⟩) = false := by
      refine (idle5 _).trans ?_; simp only [Bool.not_eq_false', decide_eq_true_eq]; omega
    unfold Dat.left; rw [hi]
    show (dat V c).kept 5 _ d = _
    unfold Dat.kept
    rw [Pipeline.fill_of_clip_none (cfg := cfg2) 5 _ (fun _ => rfl) d ((dat V c).after 5 _), Window.fill_cut, after0_5]
    congr 1; show (t.val - 1) / 64 = _; omega
  | succ m ih =>
    intro t d ht
    have hp : (cfg2.win 5).flush ⟨t.val - 1, Nat.lt_of_le_of_lt (Nat.sub_le _ _) t.isLt⟩ = false :=
      Bool.eq_false_iff.2 fun h => by have := (flush2_5 _).1 h; simp only at this; omega
    rw [(dat V c).before_of_pos 5 t (by omega) ((cfg2.win 5).fetch_out rfl t), hp, if_neg Bool.false_ne_true]
    have hi : cfg2.idle 5 (cfg2.grid.coords ⟨t.val - 1, Nat.lt_of_le_of_lt (Nat.sub_le _ _) t.isLt⟩) = true := by
      refine (idle5 _).trans ?_; simp only [Bool.not_eq_true', decide_eq_false_iff_not]; omega
    unfold Dat.left; rw [hi]
    show (dat V c).before 5 _ d = _
    rw [ih _ d (by show (t.val - 1) % 64 = _; omega)]
    congr 1; show (t.val - 1) / 64 = _; omega

/-- After its row block's last vocabulary block, window 6's buffer is carried to the end of the row block. -/
theorem before0_6 (c : Dev nD) (m : ℕ) : ∀ (t : Fin cfg2.N) (d), t.val % 64 = 32 + m → (dat V c).before 6 t d = marF V c (t.val / 64) := by
  induction m with
  | zero =>
    intro t d ht
    have hp : (cfg2.win 6).flush ⟨t.val - 1, Nat.lt_of_le_of_lt (Nat.sub_le _ _) t.isLt⟩ = false :=
      Bool.eq_false_iff.2 fun h => by have := (flush2_6 _).1 h; simp only at this; omega
    rw [(dat V c).before_of_pos 6 t (by omega) ((cfg2.win 6).fetch_out rfl t), hp, if_neg Bool.false_ne_true]
    have hi : cfg2.idle 6 (cfg2.grid.coords ⟨t.val - 1, Nat.lt_of_le_of_lt (Nat.sub_le _ _) t.isLt⟩) = false := by
      refine (idle6 _).trans ?_; simp only [Bool.not_eq_false', decide_eq_true_eq]; omega
    unfold Dat.left; rw [hi]
    show (dat V c).kept 6 _ d = _
    unfold Dat.kept
    rw [Pipeline.fill_of_clip_none (cfg := cfg2) 6 _ (fun _ => rfl) d ((dat V c).after 6 _), Window.fill_cut, after0_6]
    congr 1; show (t.val - 1) / 64 = _; omega
  | succ m ih =>
    intro t d ht
    have hp : (cfg2.win 6).flush ⟨t.val - 1, Nat.lt_of_le_of_lt (Nat.sub_le _ _) t.isLt⟩ = false :=
      Bool.eq_false_iff.2 fun h => by have := (flush2_6 _).1 h; simp only at this; omega
    rw [(dat V c).before_of_pos 6 t (by omega) ((cfg2.win 6).fetch_out rfl t), hp, if_neg Bool.false_ne_true]
    have hi : cfg2.idle 6 (cfg2.grid.coords ⟨t.val - 1, Nat.lt_of_le_of_lt (Nat.sub_le _ _) t.isLt⟩) = true := by
      refine (idle6 _).trans ?_; simp only [Bool.not_eq_true', decide_eq_false_iff_not]; omega
    unfold Dat.left; rw [hi]
    show (dat V c).before 6 _ d = _
    rw [ih _ d (by show (t.val - 1) % 64 = _; omega)]
    congr 1; show (t.val - 1) / 64 = _; omega

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t) ∗ owns (c : Thread nD τ) (st2_1 t) fullShare ((dat V c).after 1 t) ∗ owns (c : Thread nD τ) (st2_2 t) fullShare ((dat V c).after 2 t) ∗ owns (c : Thread nD τ) (st2_3 t) fullShare ((dat V c).after 3 t)
    ∗ (dat V c).leavesExact 4 t ∗ (dat V c).leavesExact 5 t ∗ (dat V c).leavesExact 6 t)

/-- What a window's buffer holds after the body. -/
theorem leaves_live (c : Dev nD) (w : Fin cfg2.W) (t : Fin cfg2.N) (h : cfg2.idle w (cfg2.grid.coords t) = false) :
    (dat V c).leavesExact w t = owns (c : Thread nD τ) ((cfg2.win w).stage (cfg2.slots t w)) fullShare ((dat V c).after w t) := by
  unfold Dat.leavesExact; rw [h]
/-- What a window's buffer holds after the body. -/
theorem leaves_flush (c : Dev nD) (w : Fin cfg2.W) (t : Fin cfg2.N) (h : cfg2.idle w (cfg2.grid.coords t) = true) (hf : (cfg2.win w).flush t = true) :
    (dat V c).leavesExact w t = owns (c : Thread nD τ) ((cfg2.win w).stage (cfg2.slots t w)) fullShare ((dat V c).after w t) := by
  unfold Dat.leavesExact; rw [h, hf]

/-- The body at the first step of a row block. -/
theorem body_first (c : Dev nD) (t : Fin cfg2.N) (h0 : t.val % 64 = 0) :
    bodyPre V c t ⊢ wp frame (wpE (defs₀ (F := F)) Variants.none c none) Set.univ (bodyAt2 t) (fun _ => bodyPost V c t) := by
  have hN := lt768 t
  have e64 : (t.val + 1) % 64 = t.val % 64 + 1 := by omega
  have d64 : (t.val + 1) / 64 = t.val / 64 := by omega
  unfold bodyPre bodyPost bodyAt2
  rw [show (dat V c).Φ t.succ = phi V c (t.val + 1) from rfl, show (dat V c).Φ t.castSucc = phi V c t.val from rfl,
    show (dat V c).owesAt () t.succ = (dat V c).owesAt () t.castSucc from rfl, after0_0, after0_1, after0_2, after0_3]
  simp only [before0_0, before0_1, before0_2, before0_3]
  unfold phi
  rw [(dat V c).leavesExact_idle 4 t ((idle4 t).trans (by simp only [Bool.not_eq_true', decide_eq_false_iff_not]; omega)) (Bool.eq_false_iff.2 fun h => by have := (flush2_4 t).1 h; omega), (dat V c).leavesExact_idle 5 t ((idle5 t).trans (by simp only [Bool.not_eq_true', decide_eq_false_iff_not]; omega)) (Bool.eq_false_iff.2 fun h => by have := (flush2_5 t).1 h; omega), (dat V c).leavesExact_idle 6 t ((idle6 t).trans (by simp only [Bool.not_eq_true', decide_eq_false_iff_not]; omega)) (Bool.eq_false_iff.2 fun h => by have := (flush2_6 t).1 h; omega), iblk_0, iblk_1 V c t (by omega)]
  iintro ⟨⟨%Z, %M, %St, %hI, HZ, HM, HS, HR⟩, Ho, ⟨%d0, H0⟩, ⟨%d1, H1⟩, ⟨%d2, H2⟩, ⟨%d3, H3⟩, ⟨%d4, H4⟩, ⟨%d5, H5⟩, ⟨%d6, H6⟩⟩
  iapply (sound_first c Set.univ (grid2.coords t) _ _ _ _ _ _ _ _ _ _ _ _ _ _ _ _ _ _ _ _ ((c1_iff t).2 h0) ((c2_iff t).2 (by omega)) (fun h => by have := (c3_iff t).1 h; omega) (fun h => by have := (c4_iff t).1 h; omega) _ _ Z _)
  isplitl [H0]; · iexact H0
  isplitl [H1]; · iexact H1
  isplitl [HZ]; · iexact HZ
  isplitl [HM]; · iexists _; iexact HM
  iintro ⟨%Z', %hs, H0, H1, HZ, HM⟩
  isplitl [HZ HM HS HR]
  · iexists Z'; iexists _; iexists _
    isplitr
    swap
    · isplitl [HZ]; · iexact HZ
      isplitl [HM]; · iexact HM
      isplitl [HS]; · iexact HS
      iexact HR
    ipureintro
    refine ⟨?_, fun _ => ?_, fun h => absurd h (by omega)⟩
    · rw [e64, d64]; exact stored_step V c t _ hI.1 hs
    · rw [e64, d64, h0]; rfl
  isplitl [Ho]; · iexact Ho
  isplitl [H0]; · iexact H0
  isplitl [H1]; · iexact H1
  isplitl [H2]; · iexact H2
  isplitl [H3]; · iexact H3
  isplitl [H4]; · iexists d4; iexact H4
  isplitl [H5]; · iexists d5; iexact H5
  iexists d6; iexact H6

/-- The body at a later step before the last vocabulary block. -/
theorem body_mid (c : Dev nD) (t : Fin cfg2.N) (h0 : t.val % 64 ≠ 0) (h31 : t.val % 64 < 31) :
    bodyPre V c t ⊢ wp frame (wpE (defs₀ (F := F)) Variants.none c none) Set.univ (bodyAt2 t) (fun _ => bodyPost V c t) := by
  have hN := lt768 t
  have e64 : (t.val + 1) % 64 = t.val % 64 + 1 := by omega
  have d64 : (t.val + 1) / 64 = t.val / 64 := by omega
  unfold bodyPre bodyPost bodyAt2
  rw [show (dat V c).Φ t.succ = phi V c (t.val + 1) from rfl, show (dat V c).Φ t.castSucc = phi V c t.val from rfl,
    show (dat V c).owesAt () t.succ = (dat V c).owesAt () t.castSucc from rfl, after0_0, after0_1, after0_2, after0_3]
  simp only [before0_0, before0_1, before0_2, before0_3]
  unfold phi
  rw [(dat V c).leavesExact_idle 4 t ((idle4 t).trans (by simp only [Bool.not_eq_true', decide_eq_false_iff_not]; omega)) (Bool.eq_false_iff.2 fun h => by have := (flush2_4 t).1 h; omega), (dat V c).leavesExact_idle 5 t ((idle5 t).trans (by simp only [Bool.not_eq_true', decide_eq_false_iff_not]; omega)) (Bool.eq_false_iff.2 fun h => by have := (flush2_5 t).1 h; omega), (dat V c).leavesExact_idle 6 t ((idle6 t).trans (by simp only [Bool.not_eq_true', decide_eq_false_iff_not]; omega)) (Bool.eq_false_iff.2 fun h => by have := (flush2_6 t).1 h; omega), iblk_0, iblk_1 V c t (by omega)]
  iintro ⟨⟨%Z, %M, %St, %hI, HZ, HM, HS, HR⟩, Ho, ⟨%d0, H0⟩, ⟨%d1, H1⟩, ⟨%d2, H2⟩, ⟨%d3, H3⟩, ⟨%d4, H4⟩, ⟨%d5, H5⟩, ⟨%d6, H6⟩⟩
  iapply (sound_mid c Set.univ (grid2.coords t) _ _ _ _ _ _ _ _ _ _ _ _ _ _ _ _ _ _ _ _ (fun h => h0 ((c1_iff t).1 h)) ((c2_iff t).2 (by omega)) (fun h => by have := (c3_iff t).1 h; omega) (fun h => by have := (c4_iff t).1 h; omega) _ _ Z M _)
  isplitl [H0]; · iexact H0
  isplitl [H1]; · iexact H1
  isplitl [HZ]; · iexact HZ
  isplitl [HM]; · iexact HM
  iintro ⟨%Z', %hs, H0, H1, HZ, HM⟩
  isplitl [HZ HM HS HR]
  · iexists Z'; iexists _; iexists _
    isplitr
    swap
    · isplitl [HZ]; · iexact HZ
      isplitl [HM]; · iexact HM
      isplitl [HS]; · iexact HS
      iexact HR
    ipureintro
    refine ⟨?_, fun _ => ?_, fun h => absurd h (by omega)⟩
    · rw [e64, d64]; exact stored_step V c t _ hI.1 hs
    · rw [e64, d64, hI.2.1 (by omega), Nat.min_eq_left (by omega), Nat.min_eq_left (by omega)]; rfl
  isplitl [Ho]; · iexact Ho
  isplitl [H0]; · iexact H0
  isplitl [H1]; · iexact H1
  isplitl [H2]; · iexact H2
  isplitl [H3]; · iexact H3
  isplitl [H4]; · iexists d4; iexact H4
  isplitl [H5]; · iexists d5; iexact H5
  iexists d6; iexact H6

/-- The body at the last vocabulary block. -/
theorem body_last (c : Dev nD) (t : Fin cfg2.N) (h31 : t.val % 64 = 31) :
    bodyPre V c t ⊢ wp frame (wpE (defs₀ (F := F)) Variants.none c none) Set.univ (bodyAt2 t) (fun _ => bodyPost V c t) := by
  have hN := lt768 t
  have e64 : (t.val + 1) % 64 = t.val % 64 + 1 := by omega
  have d64 : (t.val + 1) / 64 = t.val / 64 := by omega
  unfold bodyPre bodyPost bodyAt2
  rw [show (dat V c).Φ t.succ = phi V c (t.val + 1) from rfl, show (dat V c).Φ t.castSucc = phi V c t.val from rfl,
    show (dat V c).owesAt () t.succ = (dat V c).owesAt () t.castSucc from rfl, after0_0, after0_1, after0_2, after0_3]
  simp only [before0_0, before0_1, before0_2, before0_3]
  unfold phi
  rw [(dat V c).leavesExact_idle 4 t ((idle4 t).trans (by simp only [Bool.not_eq_true', decide_eq_false_iff_not]; omega)) (Bool.eq_false_iff.2 fun h => by have := (flush2_4 t).1 h; omega), leaves_live V c 5 t ((idle5 t).trans (by simp only [Bool.not_eq_false', decide_eq_true_eq]; omega)), leaves_live V c 6 t ((idle6 t).trans (by simp only [Bool.not_eq_false', decide_eq_true_eq]; omega)), after0_5, after0_6, iblk_0, iblk_1 V c t (by omega), iblk_2, iblk_3]
  iintro ⟨⟨%Z, %M, %St, %hI, HZ, HM, HS, HR⟩, Ho, ⟨%d0, H0⟩, ⟨%d1, H1⟩, ⟨%d2, H2⟩, ⟨%d3, H3⟩, ⟨%d4, H4⟩, ⟨%d5, H5⟩, ⟨%d6, H6⟩⟩
  have hM : k2_pay4 (xB V c (t.val / 64)) (wB V c (t.val % 64)) M = mF V c (t.val / 64) 32 := by
    rw [hI.2.1 (by omega), Nat.min_eq_left (by omega), h31]; rfl
  iapply (sound_last c Set.univ (grid2.coords t) _ _ _ _ _ _ _ _ _ _ _ _ _ _ _ _ _ _ _ _ (fun h => by have := (c1_iff t).1 h; omega) ((c2_iff t).2 (by omega)) ((c3_iff t).2 h31) (fun h => by have := (c4_iff t).1 h; omega) _ _ _ _ Z M _)
  isplitl [H0]; · iexact H0
  isplitl [H1]; · iexact H1
  isplitl [H2]; · iexact H2
  isplitl [H3]; · iexact H3
  isplitl [H5]; · iexists _; iexact H5
  isplitl [H6]; · iexists _; iexact H6
  isplitl [HZ]; · iexact HZ
  isplitl [HM]; · iexact HM
  isplitl [HS]; · iexists _; iexact HS
  rw [hM]
  iintro ⟨%Z', %hs, H0, H1, H2, H3, HZ, HM, H5, H6, HS⟩
  have hZ : Z' = zF V c (t.val / 64) := stored_all V c _ fun y hy => stored_step V c t _ hI.1 hs y (by omega)
  subst hZ
  isplitl [HZ HM HS HR]
  · iexists _; iexists _; iexists _
    isplitr
    swap
    · isplitl [HZ]; · iexact HZ
      isplitl [HM]; · iexact HM
      isplitl [HS]; · iexact HS
      iexact HR
    ipureintro
    refine ⟨fun y _ => ?_, fun _ => ?_, fun _ => ?_⟩
    · rw [d64]
    · rw [d64, Nat.min_eq_right (by omega)]
    · rw [d64]; rfl
  isplitl [Ho]; · iexact Ho
  isplitl [H0]; · iexact H0
  isplitl [H1]; · iexact H1
  isplitl [H2]; · iexact H2
  isplitl [H3]; · iexact H3
  isplitl [H4]; · iexists d4; iexact H4
  isplitl [H5]; · iexact H5
  iexact H6

/-- The body at a step of the output pass before its last. -/
theorem body_out (c : Dev nD) (t : Fin cfg2.N) (h32 : 32 ≤ t.val % 64) (h63 : t.val % 64 < 63) :
    bodyPre V c t ⊢ wp frame (wpE (defs₀ (F := F)) Variants.none c none) Set.univ (bodyAt2 t) (fun _ => bodyPost V c t) := by
  have hN := lt768 t
  have e64 : (t.val + 1) % 64 = t.val % 64 + 1 := by omega
  have d64 : (t.val + 1) / 64 = t.val / 64 := by omega
  unfold bodyPre bodyPost bodyAt2
  rw [show (dat V c).Φ t.succ = phi V c (t.val + 1) from rfl, show (dat V c).Φ t.castSucc = phi V c t.val from rfl,
    show (dat V c).owesAt () t.succ = (dat V c).owesAt () t.castSucc from rfl, after0_0, after0_1, after0_2, after0_3]
  simp only [before0_0, before0_1, before0_2, before0_3]
  unfold phi
  have h4 := (c4_iff t).2 h32
  rw [leaves_live V c 4 t ((idle4 t).trans (by simp only [Bool.not_eq_false', decide_eq_true_eq]; omega)), (dat V c).leavesExact_idle 5 t ((idle5 t).trans (by simp only [Bool.not_eq_true', decide_eq_false_iff_not]; omega)) (Bool.eq_false_iff.2 fun h => by have := (flush2_5 t).1 h; omega), (dat V c).leavesExact_idle 6 t ((idle6 t).trans (by simp only [Bool.not_eq_true', decide_eq_false_iff_not]; omega)) (Bool.eq_false_iff.2 fun h => by have := (flush2_6 t).1 h; omega), after0_4]
  iintro ⟨⟨%Z, %M, %St, %hI, HZ, HM, HS, HR⟩, Ho, ⟨%d0, H0⟩, ⟨%d1, H1⟩, ⟨%d2, H2⟩, ⟨%d3, H3⟩, ⟨%d4, H4⟩, ⟨%d5, H5⟩, ⟨%d6, H6⟩⟩
  have hZ : Z = zF V c (t.val / 64) := stored_all V c _ fun y hy => hI.1 y (by omega)
  have hS : St = stF V c (t.val / 64) := hI.2.2 h32
  have hM : M = mF V c (t.val / 64) 32 := by rw [hI.2.1 (by omega), Nat.min_eq_right h32]
  have hO : outF V c t = View.canon (p6 (grid2.coords t) h4 (zF V c (t.val / 64)) (stF V c (t.val / 64))) := by unfold outF; rw [dif_pos h4]
  subst hZ hS
  rw [hO]
  iapply (sound_out c Set.univ (grid2.coords t) _ _ _ _ _ _ _ _ _ _ _ _ _ _ _ _ _ _ _ _ (fun h => by have := (c1_iff t).1 h; omega) (fun h => by have := (c2_iff t).1 h; omega) (fun h => by have := (c3_iff t).1 h; omega) h4 _ _ _)
  isplitl [H4]; · iexists _; iexact H4
  isplitl [HZ]; · iexact HZ
  isplitl [HS]; · iexact HS
  iintro ⟨HZ, HS, H4⟩
  isplitl [HZ HM HS HR]
  · iexists _; iexists _; iexists _
    isplitr
    swap
    · isplitl [HZ]; · iexact HZ
      isplitl [HM]; · iexact HM
      isplitl [HS]; · iexact HS
      iexact HR
    ipureintro
    refine ⟨fun y _ => ?_, fun _ => ?_, fun _ => ?_⟩
    · rw [d64]
    · rw [d64, Nat.min_eq_right (by omega)]; exact hM
    · rw [d64]
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  iexists d6; iexact H6

/-- The body at the last step of a row block. -/
theorem body_end (c : Dev nD) (t : Fin cfg2.N) (h63 : t.val % 64 = 63) :
    bodyPre V c t ⊢ wp frame (wpE (defs₀ (F := F)) Variants.none c none) Set.univ (bodyAt2 t) (fun _ => bodyPost V c t) := by
  have hN := lt768 t
  have h32 : 32 ≤ t.val % 64 := by omega
  unfold bodyPre bodyPost bodyAt2
  rw [show (dat V c).Φ t.succ = phi V c (t.val + 1) from rfl, show (dat V c).Φ t.castSucc = phi V c t.val from rfl,
    show (dat V c).owesAt () t.succ = (dat V c).owesAt () t.castSucc from rfl, after0_0, after0_1, after0_2, after0_3]
  simp only [before0_0, before0_1, before0_2, before0_3]
  unfold phi
  have h4 := (c4_iff t).2 h32
  rw [leaves_live V c 4 t ((idle4 t).trans (by simp only [Bool.not_eq_false', decide_eq_true_eq]; omega)), leaves_flush V c 5 t ((idle5 t).trans (by simp only [Bool.not_eq_true', decide_eq_false_iff_not]; omega)) ((flush2_5 t).2 (by omega)), leaves_flush V c 6 t ((idle6 t).trans (by simp only [Bool.not_eq_true', decide_eq_false_iff_not]; omega)) ((flush2_6 t).2 (by omega)), after0_4, after0_5, after0_6]
  simp only [before0_5 V c (t.val % 64 - 32) t _ (by omega), before0_6 V c (t.val % 64 - 32) t _ (by omega)]
  iintro ⟨⟨%Z, %M, %St, %hI, HZ, HM, HS, HR⟩, Ho, ⟨%d0, H0⟩, ⟨%d1, H1⟩, ⟨%d2, H2⟩, ⟨%d3, H3⟩, ⟨%d4, H4⟩, ⟨%d5, H5⟩, ⟨%d6, H6⟩⟩
  have hZ : Z = zF V c (t.val / 64) := stored_all V c _ fun y hy => hI.1 y (by omega)
  have hS : St = stF V c (t.val / 64) := hI.2.2 h32
  have hM : M = mF V c (t.val / 64) 32 := by rw [hI.2.1 (by omega), Nat.min_eq_right h32]
  have hO : outF V c t = View.canon (p6 (grid2.coords t) h4 (zF V c (t.val / 64)) (stF V c (t.val / 64))) := by unfold outF; rw [dif_pos h4]
  subst hZ hS
  rw [hO]
  iapply (sound_out c Set.univ (grid2.coords t) _ _ _ _ _ _ _ _ _ _ _ _ _ _ _ _ _ _ _ _ (fun h => by have := (c1_iff t).1 h; omega) (fun h => by have := (c2_iff t).1 h; omega) (fun h => by have := (c3_iff t).1 h; omega) h4 _ _ _)
  isplitl [H4]; · iexists _; iexact H4
  isplitl [HZ]; · iexact HZ
  isplitl [HS]; · iexact HS
  iintro ⟨HZ, HS, H4⟩
  isplitl [HZ HM HS HR]
  · iexists _; iexists _; iexists _
    isplitr
    swap
    · isplitl [HZ]; · iexact HZ
      isplitl [HM]; · iexact HM
      isplitl [HS]; · iexact HS
      iexact HR
    ipureintro
    exact ⟨fun y hy => absurd hy (by omega), fun h => absurd h (by omega), fun h => absurd h (by omega)⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfg2.N) :
    bodyPre V c t ⊢ wp frame (wpE (defs₀ (F := F)) Variants.none c none) Set.univ (bodyAt2 t) (fun _ => bodyPost V c t) := by
  by_cases h0 : t.val % 64 = 0
  · exact body_first V c t h0
  by_cases h1 : t.val % 64 < 31
  · exact body_mid V c t h0 h1
  by_cases h2 : t.val % 64 = 31
  · exact body_last V c t h2
  by_cases h3 : t.val % 64 < 63
  · exact body_out V c t (by omega) h3
  · exact body_end V c t (by omega)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.Kernel.R2

end
-- ==== Proof.Kernel.Run.lean ====
/- The kernel program's run: its three regions chained between the two host stretches, over the contents each one leaves
   (`W1` … `W5`); every execution ends with the arguments as launched and the results at `W5`. -/
module

public import proofs.«01_k».proof.Proof.Kernel.PrepW
public import proofs.«01_k».proof.Proof.Kernel.PrepX
public import proofs.«01_k».proof.Proof.Kernel.Head
public import Idealize.ShloMosaic.Lib.Pipeline.RegionArraysS

@[expose] public section

set_option maxRecDepth 16384

noncomputable section

namespace Cert.Kernel

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- A valuation read at the references of the core's own buffers. -/
abbrev atRefs (W : Dev nD → Valuation τ sig (Elt F)) (c : Dev nD) (b : Ref sig .tc) : Buf (Elt F) ((c : Thread nD τ).loc b) :=
  W c (Proc.devRef .tc b)

/-- The contents after the first host stretch. -/
def W1 (c : Dev nD) : Valuation τ sig (Elt F) := Gen.V1 m c
/-- The contents after region 0. -/
def W2 (c : Dev nD) : Valuation τ sig (Elt F) := Pipeline.afterRegion (R0.dat (atRefs (W1 m)) c) (W1 m c)
/-- The contents after region 1. -/
def W3 (c : Dev nD) : Valuation τ sig (Elt F) := Pipeline.afterRegion (R1.dat (atRefs (W2 m)) c) (W2 m c)
/-- The contents after region 2. -/
def W4 (c : Dev nD) : Valuation τ sig (Elt F) := Pipeline.afterRegion (R2.dat (atRefs (W3 m)) c) (W3 m c)
/-- The contents after the last host stretch. -/
def W5 (c : Dev nD) : Valuation τ sig (Elt F) := StableHlo.after hostOps3 (W4 m c)

/-- The call leaves every other array alone. -/
theorem W2_keeps (c : Dev nD) (r : Ref sig .tc) (h : ∀ w : Fin 3, Pipeline.arrRef spec0 w = r → (cfg0.win w).isOut = false) :
    W2 m c r = W1 m c r :=
  Pipeline.afterRegion_keeps (R0.dat (atRefs (W1 m)) c) (W1 m c) winFacts0.arr_inj (fun w => R0.A_eq _ c w) r h
/-- The call leaves every other array alone. -/
theorem W3_keeps (c : Dev nD) (r : Ref sig .tc) (h : ∀ w : Fin 3, Pipeline.arrRef spec1 w = r → (cfg1.win w).isOut = false) :
    W3 m c r = W2 m c r :=
  Pipeline.afterRegion_keeps (R1.dat (atRefs (W2 m)) c) (W2 m c) winFacts1.arr_inj (fun w => R1.A_eq _ c w) r h
/-- The call leaves every other array alone. -/
theorem W4_keeps (c : Dev nD) (r : Ref sig .tc) (h : ∀ w : Fin 7, Pipeline.arrRef spec2 w = r → (cfg2.win w).isOut = false) :
    W4 m c r = W3 m c r :=
  Pipeline.afterRegion_keeps (R2.dat (atRefs (W3 m)) c) (W3 m c) winFacts2.arr_inj (fun w => R2.A_eq _ c w) r h

/-- A reference no item writes ends as launched. -/
theorem W5_launch (c : Dev nD) (r : Ref sig .tc) (h0 : r ∉ hostOps0_W) (h3 : r ∉ hostOps3_W)
    (k0 : ∀ w : Fin 3, Pipeline.arrRef spec0 w = r → (cfg0.win w).isOut = false)
    (k1 : ∀ w : Fin 3, Pipeline.arrRef spec1 w = r → (cfg1.win w).isOut = false)
    (k2 : ∀ w : Fin 7, Pipeline.arrRef spec2 w = r → (cfg2.win w).isOut = false) :
    W5 m c r = m ((c : Thread nD τ).loc r) :=
  (StableHlo.after_of_writes_sub hostOps3 _ hostOps3_writes h3).trans <| (W4_keeps m c r k2).trans <|
    (W3_keeps m c r k1).trans <| (W2_keeps m c r k0).trans <| (V1_of m c r h0).trans rfl

/-! ## The regions' records -/

/-- The proof data of the three pipelines, each over what it finds. -/
def pdats : (p : Fin 3) → (c : Dev nD) → Dat τ (Elt F) Unit ℕ (UR sig nD τ) ℕ (cfgs p) c
  | ⟨0, _⟩ => R0.dat (atRefs (W1 m))
  | ⟨1, _⟩ => R1.dat (atRefs (W2 m))
  | ⟨2, _⟩ => R2.dat (atRefs (W3 m))
  | ⟨_ + 3, h⟩ => absurd h (by omega)

/-- The level assignment: one index at every cell of a TensorCore. -/
def lvls (g : GSem nD τ sig) : Finset Unit := if g.1.2 = .tc then {()} else ∅

/-- The calls' levels. -/
theorem cut (p : Fin 3) : Pipeline.LevelCut (pcfgs (F := F)) adm () lvls (fun _ _ => (0 : ℕ)) p (fun _ : Dev nD => (0 : CellTallies nD τ sig Unit)) (fun _ => 0) :=
  ⟨fun c w s => by simp [lvls], fun _ _ _ => le_refl _, fun c g i h => absurd h (by simp)⟩

/-- What rides beside the buffers between the items: nothing owed. -/
abbrev E (c : Dev nD) : sProp 𝕄 := iprop((∃ Wd, owes (c : Thread nD τ) (0 : CellTallies nD τ sig Unit) Wd) ∗ emp ∗ emp)

/-- An entailment of the frame. -/
theorem owes_of_E (c : Dev nD) : (E c : sProp 𝕄) ⊢ iprop(∃ Wd, owes (c : Thread nD τ) (0 : CellTallies nD τ sig Unit) Wd) := by
  iintro ⟨H, -⟩; iexact H
/-- An entailment of the frame. -/
theorem add_emp (P : sProp 𝕄) : P ⊢ iprop(P ∗ emp) := by
  iintro H; isplitl [H]; · iexact H
  iempintro

/-- The body's obligation at the call. -/
theorem body0 (c : Dev nD) : Pipeline.BodyObligationLoose (R0.dat (atRefs (W1 m)) c) defs₀ Variants.none () Set.univ :=
  (R0.body_obligation (atRefs (W1 m)) c).loose
/-- The window's share. -/
theorem share0 (c : Dev nD) (w : Fin cfg0.W) : (R0.dat (atRefs (W1 m)) c).share w = fullShare := by
  unfold Dat.share; split <;> rfl
/-- The invariant at the call's start and end. -/
theorem hin0 (c : Dev nD) : (iprop(Pipeline.scopedRest spec0 c ∗ emp) : sProp 𝕄) ⊢ (R0.dat (atRefs (W1 m)) c).Φ 0 := by
  rw [show (R0.dat (atRefs (W1 m)) c).Φ 0 = Pipeline.scopedRest spec0 c from rfl]
  iintro ⟨H, -⟩; iexact H
/-- The invariant at the call's start and end. -/
theorem hout0 (c : Dev nD) : (R0.dat (atRefs (W1 m)) c).Φ (Fin.last cfg0.N) ⊢ iprop(Pipeline.scopedRest spec0 c ∗ emp) := by
  dsimp only [R0.dat]; exact add_emp (F := F) (Pipeline.scopedRest spec0 c)
set_option backward.isDefEq.respectTransparency.types false in
/-- Region 0's record. -/
def seg0' : RegionSeg (pcfgs (F := F)) adm (pdats m) () defs₀ Variants.none lvls (fun _ _ => (0 : ℕ)) 0 :=
  RegionSeg.ofHeldIn (pcfgs (F := F)) adm (pdats m) () defs₀ Variants.none lvls (fun _ _ => (0 : ℕ)) 0 (fun _ => 0)
    (Pipeline.ucRefs τ sig) (fun _ => iprop(emp)) (fun _ => iprop(emp)) launch0.toP rfl
    (fun c => body0 m c) (fun _ _ => rfl) (fun _ => rfl)
    (fun c w => share0 m c w) (fun c => hin0 m c) (fun c => hout0 m c)
    (fun _ => 0) (cut 0) (fun _ => iprop(emp)) (W1 m) (fun c w => R0.A_eq (atRefs (W1 m)) c w)

/-- The body's obligation at the call. -/
theorem body1 (c : Dev nD) : Pipeline.BodyObligationLoose (R1.dat (atRefs (W2 m)) c) defs₀ Variants.none () Set.univ :=
  (R1.body_obligation (atRefs (W2 m)) c).loose
/-- The window's share. -/
theorem share1 (c : Dev nD) (w : Fin cfg1.W) : (R1.dat (atRefs (W2 m)) c).share w = fullShare := by
  unfold Dat.share; split <;> rfl
/-- The invariant at the call's start and end. -/
theorem hin1 (c : Dev nD) : (iprop(Pipeline.scopedRest spec1 c ∗ emp) : sProp 𝕄) ⊢ (R1.dat (atRefs (W2 m)) c).Φ 0 := by
  rw [show (R1.dat (atRefs (W2 m)) c).Φ 0 = Pipeline.scopedRest spec1 c from rfl]
  iintro ⟨H, -⟩; iexact H
/-- The invariant at the call's start and end. -/
theorem hout1 (c : Dev nD) : (R1.dat (atRefs (W2 m)) c).Φ (Fin.last cfg1.N) ⊢ iprop(Pipeline.scopedRest spec1 c ∗ emp) := by
  dsimp only [R1.dat]; exact add_emp (F := F) (Pipeline.scopedRest spec1 c)
set_option backward.isDefEq.respectTransparency.types false in
/-- Region 1's record. -/
def seg1' : RegionSeg (pcfgs (F := F)) adm (pdats m) () defs₀ Variants.none lvls (fun _ _ => (0 : ℕ)) 1 :=
  RegionSeg.ofHeldIn (pcfgs (F := F)) adm (pdats m) () defs₀ Variants.none lvls (fun _ _ => (0 : ℕ)) 1 (fun _ => 0)
    (Pipeline.ucRefs τ sig) (fun _ => iprop(emp)) (fun _ => iprop(emp)) launch1.toP rfl
    (fun c => body1 m c) (fun _ _ => rfl) (fun _ => rfl)
    (fun c w => share1 m c w) (fun c => hin1 m c) (fun c => hout1 m c)
    (fun _ => 0) (cut 1) (fun _ => iprop(emp)) (W2 m) (fun c w => R1.A_eq (atRefs (W2 m)) c w)

/-- The body's obligation at the call. -/
theorem body2 (c : Dev nD) : Pipeline.BodyObligationLoose (R2.dat (atRefs (W3 m)) c) defs₀ Variants.none () Set.univ :=
  (R2.body_obligation (atRefs (W3 m)) c).loose
/-- The window's share. -/
theorem share2 (c : Dev nD) (w : Fin cfg2.W) : (R2.dat (atRefs (W3 m)) c).share w = fullShare := by
  unfold Dat.share; split <;> rfl
/-- The invariant at the call's start and end. -/
theorem hin2 (c : Dev nD) : (iprop(Pipeline.scopedRest spec2 c ∗ emp) : sProp 𝕄) ⊢ (R2.dat (atRefs (W3 m)) c).Φ 0 := by
  rw [show (R2.dat (atRefs (W3 m)) c).Φ 0 = R2.phi (atRefs (W3 m)) c 0 from rfl]
  iintro ⟨H, -⟩
  iapply (R2.phi_of_scoped (atRefs (W3 m)) c 0 rfl); iexact H
/-- The invariant at the call's start and end. -/
theorem hout2 (c : Dev nD) : (R2.dat (atRefs (W3 m)) c).Φ (Fin.last cfg2.N) ⊢ iprop(Pipeline.scopedRest spec2 c ∗ emp) := by
  refine BIBase.Entails.trans ?_ (add_emp (F := F) (Pipeline.scopedRest spec2 c))
  dsimp only [R2.dat]; exact R2.scoped_of_phi (atRefs (W3 m)) c _
set_option backward.isDefEq.respectTransparency.types false in
/-- Region 2's record. -/
def seg2' : RegionSeg (pcfgs (F := F)) adm (pdats m) () defs₀ Variants.none lvls (fun _ _ => (0 : ℕ)) 2 :=
  RegionSeg.ofHeldIn (pcfgs (F := F)) adm (pdats m) () defs₀ Variants.none lvls (fun _ _ => (0 : ℕ)) 2 (fun _ => 0)
    (Pipeline.ucRefs τ sig) (fun _ => iprop(emp)) (fun _ => iprop(emp)) launch2.toP rfl
    (fun c => body2 m c) (fun _ _ => rfl) (fun _ => rfl)
    (fun c w => share2 m c w) (fun c => hin2 m c) (fun c => hout2 m c)
    (fun _ => 0) (cut 2) (fun _ => iprop(emp)) (W3 m) (fun c w => R2.A_eq (atRefs (W3 m)) c w)

/-- The call's arrays are among the program's. -/
theorem arrs0_sub : Pipeline.arrRefs (τ := τ) spec0 ⊆ Pipeline.ucRefs τ sig := by decide
/-- The call's arrays are among the program's. -/
theorem arrs1_sub : Pipeline.arrRefs (τ := τ) spec1 ⊆ Pipeline.ucRefs τ sig := by decide
/-- The call's arrays are among the program's. -/
theorem arrs2_sub : Pipeline.arrRefs (τ := τ) spec2 ⊆ Pipeline.ucRefs τ sig := by decide

set_option backward.isDefEq.respectTransparency.types false in
/-- Region 0 is entered from `W1` and left at `W2`. -/
theorem pre0 (c : Dev nD) : (iprop(StableHlo.held (c : Thread nD τ) (Pipeline.ucRefs τ sig) (W1 m c) ∗ E c) : sProp 𝕄) ⊢ (seg0' m).pre c := by
  show _ ⊢ (iprop(StableHlo.held (c : Thread nD τ) (Pipeline.arrRefs spec0) (W1 m c) ∗ emp
    ∗ (StableHlo.held (c : Thread nD τ) (Pipeline.ucRefs τ sig \ Pipeline.arrRefs spec0) (W1 m c) ∗ emp)
    ∗ ∃ Wd, owes (c : Thread nD τ) (0 : CellTallies nD τ sig Unit) Wd) : sProp 𝕄)
  rw [StableHlo.held_sub_split (c : Thread nD τ) arrs0_sub (W1 m c)]
  iintro ⟨⟨Ha, Hu⟩, HO, -⟩
  isplitl [Ha]; · iexact Ha
  isplitr; · iempintro
  isplitl [Hu]
  · isplitl [Hu]; · iexact Hu
    iempintro
  iexact HO
set_option backward.isDefEq.respectTransparency.types false in
/-- What stands after the call. -/
theorem post0 (c : Dev nD) : (seg0' m).post c ⊢ iprop(StableHlo.held (c : Thread nD τ) (Pipeline.ucRefs τ sig) (W2 m c) ∗ E c) := by
  unfold seg0'; exact RegionSeg.ofHeldIn_post (pcs := pcfgs (F := F)) (p := 0) arrs0_sub c

set_option backward.isDefEq.respectTransparency.types false in
/-- Region 1 is entered from `W2` and left at `W3`. -/
theorem pre1 (c : Dev nD) : (iprop(StableHlo.held (c : Thread nD τ) (Pipeline.ucRefs τ sig) (W2 m c) ∗ E c) : sProp 𝕄) ⊢ (seg1' m).pre c := by
  show _ ⊢ (iprop(StableHlo.held (c : Thread nD τ) (Pipeline.arrRefs spec1) (W2 m c) ∗ emp
    ∗ (StableHlo.held (c : Thread nD τ) (Pipeline.ucRefs τ sig \ Pipeline.arrRefs spec1) (W2 m c) ∗ emp)
    ∗ ∃ Wd, owes (c : Thread nD τ) (0 : CellTallies nD τ sig Unit) Wd) : sProp 𝕄)
  rw [StableHlo.held_sub_split (c : Thread nD τ) arrs1_sub (W2 m c)]
  iintro ⟨⟨Ha, Hu⟩, HO, -⟩
  isplitl [Ha]; · iexact Ha
  isplitr; · iempintro
  isplitl [Hu]
  · isplitl [Hu]; · iexact Hu
    iempintro
  iexact HO
set_option backward.isDefEq.respectTransparency.types false in
/-- What stands after the call. -/
theorem post1 (c : Dev nD) : (seg1' m).post c ⊢ iprop(StableHlo.held (c : Thread nD τ) (Pipeline.ucRefs τ sig) (W3 m c) ∗ E c) := by
  unfold seg1'; exact RegionSeg.ofHeldIn_post (pcs := pcfgs (F := F)) (p := 1) arrs1_sub c

set_option backward.isDefEq.respectTransparency.types false in
/-- Region 2 is entered from `W3` and left at `W4`. -/
theorem pre2 (c : Dev nD) : (iprop(StableHlo.held (c : Thread nD τ) (Pipeline.ucRefs τ sig) (W3 m c) ∗ E c) : sProp 𝕄) ⊢ (seg2' m).pre c := by
  show _ ⊢ (iprop(StableHlo.held (c : Thread nD τ) (Pipeline.arrRefs spec2) (W3 m c) ∗ emp
    ∗ (StableHlo.held (c : Thread nD τ) (Pipeline.ucRefs τ sig \ Pipeline.arrRefs spec2) (W3 m c) ∗ emp)
    ∗ ∃ Wd, owes (c : Thread nD τ) (0 : CellTallies nD τ sig Unit) Wd) : sProp 𝕄)
  rw [StableHlo.held_sub_split (c : Thread nD τ) arrs2_sub (W3 m c)]
  iintro ⟨⟨Ha, Hu⟩, HO, -⟩
  isplitl [Ha]; · iexact Ha
  isplitr; · iempintro
  isplitl [Hu]
  · isplitl [Hu]; · iexact Hu
    iempintro
  iexact HO
set_option backward.isDefEq.respectTransparency.types false in
/-- What stands after the call. -/
theorem post2 (c : Dev nD) : (seg2' m).post c ⊢ iprop(StableHlo.held (c : Thread nD τ) (Pipeline.ucRefs τ sig) (W4 m c) ∗ E c) := by
  unfold seg2'; exact RegionSeg.ofHeldIn_post (pcs := pcfgs (F := F)) (p := 2) arrs2_sub c

/-- The last host stretch, from what region 2 leaves. -/
def seg4' : HostSeg (Ix := Unit) (Name := ℕ) (U := UR sig nD τ) (Lvl := ℕ) (pcfgs (F := F)) defs₀ Variants.none lvls (fun _ _ => (0 : ℕ)) :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W4 m) E

/-- The program's items in order. -/
abbrev segs' (c : Dev nD) : List (Seg (pcfgs (F := F)) adm (pdats m) () defs₀ Variants.none lvls (fun _ _ => (0 : ℕ))) :=
  [.host (Gen.seg0 m Variants.none lvls (fun _ _ => (0 : ℕ)) (fun _ => E)), .region (seg0' m), .region (seg1' m), .region (seg2' m), .host (seg4' m)]

/-- What a final memory holds on core `c`: the arguments as launched, the three results at `W5`. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5))
  ∧ s.mem ((c.tc : Thread nD τ).loc main_v8) = W5 m c main_v8
  ∧ s.mem ((c.tc : Thread nD τ).loc main_v9) = W5 m c main_v9
  ∧ s.mem ((c.tc : Thread nD τ).loc main_v10) = W5 m c main_v10

set_option backward.isDefEq.respectTransparency.types false in
/-- Every execution from memory `m` with zero counters terminates, and ends on every core with the arguments as launched,
    the results at `W5`, and every counter at zero. -/
theorem run (ρ : Dev nD → PrngReg) :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj
    emb₁ defs₀ Variants.none lvls (fun _ _ => (0 : ℕ)) m ρ main
    (segs' m)
    (fun c Q => by
      rewrite [main_chain c, Seg.run_eq_chain,
        show (segs' m c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs', Seg.pipes_host, Seg.pipes_region, Seg.pipes_nil]; decide) (fun _ => 0)
    (fun g h => by simp [lvls, h]) (fun _ => iprop(emp)) (initOf (Pipeline.cells cfgs cellOf_inj) (Pipeline.launchToks cfgs cellOf_inj)) ?_
    (T₀ := fun c => iprop(StableHlo.held (c : Thread nD τ) (Pipeline.ucRefs τ sig) (Gen.V0 m c) ∗ E c))
    (Tₙ := fun c => StableHlo.held (c : Thread nD τ) (Pipeline.ucRefs τ sig) (W5 m c))
    (hch := fun c => ⟨.rfl, pre0 m c, (post0 m c).trans (pre1 m c), (post1 m c).trans (pre2 m c), post2 m c,
      sep_mono .rfl (owes_of_E c)⟩)
    (hinit := ?_) (QY := Ends m)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ (fun c : Dev nD => iprop(StableHlo.held (c : Thread nD τ) (Pipeline.ucRefs τ sig) (Gen.V0 m c) ∗ E c)) : sProp 𝕄) :=
      bigSep_mono fun c _ => by
        rw [← Pipeline.unscopedBufs_held (Ix := Unit) (Name := ℕ) (U := UR sig nD τ) (Lvl := ℕ) c (Gen.V0 m c)]
        show iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp) ⊢ iprop(unscopedBufs c (fun b => m ((c.tc : Thread nD τ).loc b)) ∗ E c)
        iintro ⟨Hb, -, HO, -⟩
        isplitl [Hb]; · iexact Hb
        isplitl [HO]; · iexists ∅; iexact HO
        isplitr <;> iempintro
    iintro ⟨H, -⟩
    imodintro
    iapply hsplit; iexact H
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro
      have hm : ∀ r : Ref sig .tc, ¬ r.isScoped → s'.mem.mem ((c.tc : Thread nD τ).loc r) = W5 m c r := fun r hr =>
        h (Proc.devRef .tc r) (Finset.mem_filter.mpr ⟨StableHlo.devRef_mem_tcRefs r, hr⟩)
      exact ⟨⟨(hm main_arg0 (by decide)).trans (W5_launch m c main_arg0 (by decide) (by decide) (by decide) (by decide) (by decide)),
        (hm main_arg1 (by decide)).trans (W5_launch m c main_arg1 (by decide) (by decide) (by decide) (by decide) (by decide)),
        (hm main_arg2 (by decide)).trans (W5_launch m c main_arg2 (by decide) (by decide) (by decide) (by decide) (by decide)),
        (hm main_arg3 (by decide)).trans (W5_launch m c main_arg3 (by decide) (by decide) (by decide) (by decide) (by decide)),
        (hm main_arg4 (by decide)).trans (W5_launch m c main_arg4 (by decide) (by decide) (by decide) (by decide) (by decide)),
        (hm main_arg5 (by decide)).trans (W5_launch m c main_arg5 (by decide) (by decide) (by decide) (by decide) (by decide))⟩,
        hm main_v8 (by decide), hm main_v9 (by decide), hm main_v10 (by decide)⟩
    · iexact HSI

/-- The frame: the arguments end as launched, every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).1, h.2⟩) (run m ρ)

end Cert.Kernel

end
-- ==== Proof.KernelIdeal.PrepVals.lean ====
/- What the two decoding regions write, one function for every chunk: the block scales spread over a chunk's lanes, the
   decoded 4-bit weights, and the rows of the 8-bit operand split into even and odd elements. -/
module

public import proofs.«01_k».proof.Proof.Gen.KernelIdeal.Skeleton

@[expose] public section

set_option maxRecDepth 16384

noncomputable section

namespace Cert.KernelIdeal

open Cert.KernelIdeal.Gen
open Idealize.ShloMosaic Idealize.ShloMosaic.TcCoe Idealize.ShloMosaic.Tactic

variable {F : FTy → Type} [FloatOps F]

/-- The lane's number divided by 16, rounded towards minus infinity. -/
def lane16 : IVec S64x128 32 :=
  select (andi k1_pay8 (cmpi .ne (remsi (iota .tc S64x128 32 [1] iota_S64x128_d1_w32) (broadcast S64x128 16#32)) (broadcast S64x128 0#32)))
    (subi k1_pay7 (broadcast S64x128 1#32)) k1_pay7

/-- The scale bytes a chunk's lanes read, four rows to a word: lane `l` reads column `l / 16 + c8`. -/
def scaleWord (sc : IVec S64x128 32) (c8 : BitVec 32) : IVec S64x128 32 :=
  dynamicGather 1 sc (shapeCast S64x128 (shapeCast S64x128x1
    (select (cmpi .slt (addi lane16 (broadcast S64x128 c8)) (broadcast S64x128 0#32))
      (addi (addi lane16 (broadcast S64x128 c8)) (broadcast S64x128 128#32)) (addi lane16 (broadcast S64x128 c8)))
    shapeCasts_S64x128_S64x128x1) shapeCasts_S64x128x1_S64x128)

/-- The scales of a chunk's lanes: each byte put at a bf16 word's exponent. -/
def scaleAt (sc : IVec S64x128 32) (c8 : BitVec 32) : FVec F S256x128 .bf16 :=
  bitcastToFloat .bf16 (shli (extui 16 (bitcast S256x128 8 (scaleWord sc c8) bitcasts_S64x128_w32_S256x128_w8) natLt_8_16) (broadcast S256x128 7#16))

/-- The low nibbles of a chunk's bytes as 8-bit float words. -/
def wlo (w : IVec S64x128 32) : IVec S64x128 32 :=
  ori (andi (shli w (broadcast S64x128 2#32)) (broadcast S64x128 471604252#32)) (andi (shli w (broadcast S64x128 4#32)) (broadcast S64x128 2155905152#32))

/-- The high nibbles of a chunk's bytes as 8-bit float words. -/
def whi (w : IVec S64x128 32) : IVec S64x128 32 :=
  ori (andi (shrsi w (broadcast S64x128 2#32)) (broadcast S64x128 471604252#32)) (andi w (broadcast S64x128 2155905152#32))

/-- The 8-bit float words as numbers times 64, times the scales. -/
def wmul (v : IVec S64x128 32) (s : FVec F S256x128 .bf16) : FVec F S256x128 .bf16 :=
  mulf (mulf (extf .bf16 (bitcastToFloat .fp8e4m3 (bitcast S256x128 8 v bitcasts_S64x128_w32_S256x128_w8)) bitsLt_fp8e4m3_bf16)
    (broadcast S256x128 (Scalar.ofBits .bf16 0x4280#16))) s

/-- A chunk's low nibbles decoded and scaled. -/
def wOutLo (x1 : Vec F S256x128 .i8) (wc : Vec F S256x128 .i8) (c8 : BitVec 32) : FVec F S256x128 .bf16 :=
  wmul (wlo (bitcast S64x128 32 wc bitcasts_S256x128_w8_S64x128_w32)) (scaleAt (bitcast S64x128 32 x1 bitcasts_S256x128_w8_S64x128_w32) c8)

/-- A chunk's high nibbles decoded and scaled. -/
def wOutHi (x1 : Vec F S256x128 .i8) (wc : Vec F S256x128 .i8) (c8 : BitVec 32) : FVec F S256x128 .bf16 :=
  wmul (whi (bitcast S64x128 32 wc bitcasts_S256x128_w8_S64x128_w32)) (scaleAt (bitcast S64x128 32 x1 bitcasts_S256x128_w8_S64x128_w32) c8)

/-- The lanes a half of a chunk reads: `2 * lane mod 128 + h`. -/
def xidx (h : BitVec 32) : IVec S256x128 32 :=
  shapeCast S256x128 (shapeCast S256x128x1
    (select (cmpi .slt (addi k1_pay3 (broadcast S256x128 h)) (broadcast S256x128 0#32))
      (addi (addi k1_pay3 (broadcast S256x128 h)) (broadcast S256x128 128#32)) (addi k1_pay3 (broadcast S256x128 h)))
    shapeCasts_S256x128_S256x128x1) shapeCasts_S256x128x1_S256x128

/-- The even (`h = 0`) or odd (`h = 1`) elements of a chunk, times the scales. -/
def xOut (x1 : Vec F S256x128 .i8) (a b : Vec F S256x128 .fp8e4m3) (h c8 : BitVec 32) : FVec F S256x128 .bf16 :=
  mulf (truncf .bf16 (select k1_pay4 (dynamicGather 1 (k1_pay5 a) (xidx h)) (dynamicGather 1 (k1_pay5 b) (xidx h))) bitsLt_bf16_f32)
    (scaleAt (k1_pay2 x1) c8)

end Cert.KernelIdeal

end
-- ==== Proof.KernelIdeal.PrepW.lean ====
/- Region 0 of the kernel, `prep_w`: its body's triple, its proof data over any contents `V` of the buffers the region is
   entered with, and the body obligation at every grid point. -/
module

public import proofs.«01_k».proof.Proof.Gen.KernelIdeal.Regions
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.KernelIdeal.PrepVals

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of each core's buffers when the region is entered.
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S256x128 := Rect.unit (s := S256x128) ![0, 0] S256x128.size inb_S256x128_S256x128_0_0
abbrev r0_1 : Rect S256x2048 := Rect.unit (s := S256x2048) ![0, 0] S256x128.size inb_S256x2048_S256x128_0_0
abbrev r0_2 : Rect S256x4096 := Rect.unit (s := S256x4096) ![0, 0] S256x128.size inb_S256x4096_S256x128_0_0
abbrev r0_3 : Rect S256x4096 := Rect.unit (s := S256x4096) ![0, 128] S256x128.size inb_S256x4096_S256x128_0_128
abbrev r0_4 : Rect S256x2048 := Rect.unit (s := S256x2048) ![0, 128] S256x128.size inb_S256x2048_S256x128_0_128
abbrev r0_5 : Rect S256x4096 := Rect.unit (s := S256x4096) ![0, 256] S256x128.size inb_S256x4096_S256x128_0_256
abbrev r0_6 : Rect S256x4096 := Rect.unit (s := S256x4096) ![0, 384] S256x128.size inb_S256x4096_S256x128_0_384
abbrev r0_7 : Rect S256x2048 := Rect.unit (s := S256x2048) ![0, 256] S256x128.size inb_S256x2048_S256x128_0_256
abbrev r0_8 : Rect S256x4096 := Rect.unit (s := S256x4096) ![0, 512] S256x128.size inb_S256x4096_S256x128_0_512
abbrev r0_9 : Rect S256x4096 := Rect.unit (s := S256x4096) ![0, 640] S256x128.size inb_S256x4096_S256x128_0_640
abbrev r0_10 : Rect S256x2048 := Rect.unit (s := S256x2048) ![0, 384] S256x128.size inb_S256x2048_S256x128_0_384
abbrev r0_11 : Rect S256x4096 := Rect.unit (s := S256x4096) ![0, 768] S256x128.size inb_S256x4096_S256x128_0_768
abbrev r0_12 : Rect S256x4096 := Rect.unit (s := S256x4096) ![0, 896] S256x128.size inb_S256x4096_S256x128_0_896
abbrev r0_13 : Rect S256x2048 := Rect.unit (s := S256x2048) ![0, 512] S256x128.size inb_S256x2048_S256x128_0_512
abbrev r0_14 : Rect S256x4096 := Rect.unit (s := S256x4096) ![0, 1024] S256x128.size inb_S256x4096_S256x128_0_1024
abbrev r0_15 : Rect S256x4096 := Rect.unit (s := S256x4096) ![0, 1152] S256x128.size inb_S256x4096_S256x128_0_1152
abbrev r0_16 : Rect S256x2048 := Rect.unit (s := S256x2048) ![0, 640] S256x128.size inb_S256x2048_S256x128_0_640
abbrev r0_17 : Rect S256x4096 := Rect.unit (s := S256x4096) ![0, 1280] S256x128.size inb_S256x4096_S256x128_0_1280
abbrev r0_18 : Rect S256x4096 := Rect.unit (s := S256x4096) ![0, 1408] S256x128.size inb_S256x4096_S256x128_0_1408
abbrev r0_19 : Rect S256x2048 := Rect.unit (s := S256x2048) ![0, 768] S256x128.size inb_S256x2048_S256x128_0_768
abbrev r0_20 : Rect S256x4096 := Rect.unit (s := S256x4096) ![0, 1536] S256x128.size inb_S256x4096_S256x128_0_1536
abbrev r0_21 : Rect S256x4096 := Rect.unit (s := S256x4096) ![0, 1664] S256x128.size inb_S256x4096_S256x128_0_1664
abbrev r0_22 : Rect S256x2048 := Rect.unit (s := S256x2048) ![0, 896] S256x128.size inb_S256x2048_S256x128_0_896
abbrev r0_23 : Rect S256x4096 := Rect.unit (s := S256x4096) ![0, 1792] S256x128.size inb_S256x4096_S256x128_0_1792
abbrev r0_24 : Rect S256x4096 := Rect.unit (s := S256x4096) ![0, 1920] S256x128.size inb_S256x4096_S256x128_0_1920
abbrev r0_25 : Rect S256x2048 := Rect.unit (s := S256x2048) ![0, 1024] S256x128.size inb_S256x2048_S256x128_0_1024
abbrev r0_26 : Rect S256x4096 := Rect.unit (s := S256x4096) ![0, 2048] S256x128.size inb_S256x4096_S256x128_0_2048
abbrev r0_27 : Rect S256x4096 := Rect.unit (s := S256x4096) ![0, 2176] S256x128.size inb_S256x4096_S256x128_0_2176
abbrev r0_28 : Rect S256x2048 := Rect.unit (s := S256x2048) ![0, 1152] S256x128.size inb_S256x2048_S256x128_0_1152
abbrev r0_29 : Rect S256x4096 := Rect.unit (s := S256x4096) ![0, 2304] S256x128.size inb_S256x4096_S256x128_0_2304
abbrev r0_30 : Rect S256x4096 := Rect.unit (s := S256x4096) ![0, 2432] S256x128.size inb_S256x4096_S256x128_0_2432
abbrev r0_31 : Rect S256x2048 := Rect.unit (s := S256x2048) ![0, 1280] S256x128.size inb_S256x2048_S256x128_0_1280
abbrev r0_32 : Rect S256x4096 := Rect.unit (s := S256x4096) ![0, 2560] S256x128.size inb_S256x4096_S256x128_0_2560
abbrev r0_33 : Rect S256x4096 := Rect.unit (s := S256x4096) ![0, 2688] S256x128.size inb_S256x4096_S256x128_0_2688
abbrev r0_34 : Rect S256x2048 := Rect.unit (s := S256x2048) ![0, 1408] S256x128.size inb_S256x2048_S256x128_0_1408
abbrev r0_35 : Rect S256x4096 := Rect.unit (s := S256x4096) ![0, 2816] S256x128.size inb_S256x4096_S256x128_0_2816
abbrev r0_36 : Rect S256x4096 := Rect.unit (s := S256x4096) ![0, 2944] S256x128.size inb_S256x4096_S256x128_0_2944
abbrev r0_37 : Rect S256x2048 := Rect.unit (s := S256x2048) ![0, 1536] S256x128.size inb_S256x2048_S256x128_0_1536
abbrev r0_38 : Rect S256x4096 := Rect.unit (s := S256x4096) ![0, 3072] S256x128.size inb_S256x4096_S256x128_0_3072
abbrev r0_39 : Rect S256x4096 := Rect.unit (s := S256x4096) ![0, 3200] S256x128.size inb_S256x4096_S256x128_0_3200
abbrev r0_40 : Rect S256x2048 := Rect.unit (s := S256x2048) ![0, 1664] S256x128.size inb_S256x2048_S256x128_0_1664
abbrev r0_41 : Rect S256x4096 := Rect.unit (s := S256x4096) ![0, 3328] S256x128.size inb_S256x4096_S256x128_0_3328
abbrev r0_42 : Rect S256x4096 := Rect.unit (s := S256x4096) ![0, 3456] S256x128.size inb_S256x4096_S256x128_0_3456
abbrev r0_43 : Rect S256x2048 := Rect.unit (s := S256x2048) ![0, 1792] S256x128.size inb_S256x2048_S256x128_0_1792
abbrev r0_44 : Rect S256x4096 := Rect.unit (s := S256x4096) ![0, 3584] S256x128.size inb_S256x4096_S256x128_0_3584
abbrev r0_45 : Rect S256x4096 := Rect.unit (s := S256x4096) ![0, 3712] S256x128.size inb_S256x4096_S256x128_0_3712
abbrev r0_46 : Rect S256x2048 := Rect.unit (s := S256x2048) ![0, 1920] S256x128.size inb_S256x2048_S256x128_0_1920
abbrev r0_47 : Rect S256x4096 := Rect.unit (s := S256x4096) ![0, 3840] S256x128.size inb_S256x4096_S256x128_0_3840
abbrev r0_48 : Rect S256x4096 := Rect.unit (s := S256x4096) ![0, 3968] S256x128.size inb_S256x4096_S256x128_0_3968

/-! ## What the body leaves in each output window's buffer -/

/-- Window 2's staging buffer after the body, from the input windows' blocks: its 32 stores as pieces, LAST
    FIRST (Lib/Pipeline/FrameBody.lean `View.canon`; the payloads are the skeleton's and the values stated above). -/
def out0_2 (x0 : Vec F S256x2048 .i8) (x1 : Vec F S256x128 .i8) : Vec F S256x4096 .bf16 :=
  View.canon [⟨r0_48, wOutHi (View.ld x1 r0_0) (View.ld x0 r0_46) 120#32⟩,
    ⟨r0_47, wOutLo (View.ld x1 r0_0) (View.ld x0 r0_46) 120#32⟩,
    ⟨r0_45, wOutHi (View.ld x1 r0_0) (View.ld x0 r0_43) 112#32⟩,
    ⟨r0_44, wOutLo (View.ld x1 r0_0) (View.ld x0 r0_43) 112#32⟩,
    ⟨r0_42, wOutHi (View.ld x1 r0_0) (View.ld x0 r0_40) 104#32⟩,
    ⟨r0_41, wOutLo (View.ld x1 r0_0) (View.ld x0 r0_40) 104#32⟩,
    ⟨r0_39, wOutHi (View.ld x1 r0_0) (View.ld x0 r0_37) 96#32⟩,
    ⟨r0_38, wOutLo (View.ld x1 r0_0) (View.ld x0 r0_37) 96#32⟩,
    ⟨r0_36, wOutHi (View.ld x1 r0_0) (View.ld x0 r0_34) 88#32⟩,
    ⟨r0_35, wOutLo (View.ld x1 r0_0) (View.ld x0 r0_34) 88#32⟩,
    ⟨r0_33, wOutHi (View.ld x1 r0_0) (View.ld x0 r0_31) 80#32⟩,
    ⟨r0_32, wOutLo (View.ld x1 r0_0) (View.ld x0 r0_31) 80#32⟩,
    ⟨r0_30, wOutHi (View.ld x1 r0_0) (View.ld x0 r0_28) 72#32⟩,
    ⟨r0_29, wOutLo (View.ld x1 r0_0) (View.ld x0 r0_28) 72#32⟩,
    ⟨r0_27, wOutHi (View.ld x1 r0_0) (View.ld x0 r0_25) 64#32⟩,
    ⟨r0_26, wOutLo (View.ld x1 r0_0) (View.ld x0 r0_25) 64#32⟩,
    ⟨r0_24, wOutHi (View.ld x1 r0_0) (View.ld x0 r0_22) 56#32⟩,
    ⟨r0_23, wOutLo (View.ld x1 r0_0) (View.ld x0 r0_22) 56#32⟩,
    ⟨r0_21, wOutHi (View.ld x1 r0_0) (View.ld x0 r0_19) 48#32⟩,
    ⟨r0_20, wOutLo (View.ld x1 r0_0) (View.ld x0 r0_19) 48#32⟩,
    ⟨r0_18, wOutHi (View.ld x1 r0_0) (View.ld x0 r0_16) 40#32⟩,
    ⟨r0_17, wOutLo (View.ld x1 r0_0) (View.ld x0 r0_16) 40#32⟩,
    ⟨r0_15, wOutHi (View.ld x1 r0_0) (View.ld x0 r0_13) 32#32⟩,
    ⟨r0_14, wOutLo (View.ld x1 r0_0) (View.ld x0 r0_13) 32#32⟩,
    ⟨r0_12, wOutHi (View.ld x1 r0_0) (View.ld x0 r0_10) 24#32⟩,
    ⟨r0_11, wOutLo (View.ld x1 r0_0) (View.ld x0 r0_10) 24#32⟩,
    ⟨r0_9, wOutHi (View.ld x1 r0_0) (View.ld x0 r0_7) 16#32⟩,
    ⟨r0_8, wOutLo (View.ld x1 r0_0) (View.ld x0 r0_7) 16#32⟩,
    ⟨r0_6, wOutHi (View.ld x1 r0_0) (View.ld x0 r0_4) 8#32⟩,
    ⟨r0_5, wOutLo (View.ld x1 r0_0) (View.ld x0 r0_4) 8#32⟩,
    ⟨r0_3, wOutHi (View.ld x1 r0_0) (View.ld x0 r0_1) 0#32⟩,
    ⟨r0_2, wOutLo (View.ld x1 r0_0) (View.ld x0 r0_1) 0#32⟩]

/-- Its stores tile the buffer (checked by evaluation), so they cover it. -/
theorem cover0_2 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (p8 : Vec F S256x128 .bf16) (p9 : Vec F S256x128 .bf16) (p10 : Vec F S256x128 .bf16) (p11 : Vec F S256x128 .bf16) (p12 : Vec F S256x128 .bf16) (p13 : Vec F S256x128 .bf16) (p14 : Vec F S256x128 .bf16) (p15 : Vec F S256x128 .bf16) (p16 : Vec F S256x128 .bf16) (p17 : Vec F S256x128 .bf16) (p18 : Vec F S256x128 .bf16) (p19 : Vec F S256x128 .bf16) (p20 : Vec F S256x128 .bf16) (p21 : Vec F S256x128 .bf16) (p22 : Vec F S256x128 .bf16) (p23 : Vec F S256x128 .bf16) (p24 : Vec F S256x128 .bf16) (p25 : Vec F S256x128 .bf16) (p26 : Vec F S256x128 .bf16) (p27 : Vec F S256x128 .bf16) (p28 : Vec F S256x128 .bf16) (p29 : Vec F S256x128 .bf16) (p30 : Vec F S256x128 .bf16) (p31 : Vec F S256x128 .bf16) (y : S256x4096.Idx) :
    ∃ pc ∈ ([⟨r0_48, p0⟩, ⟨r0_47, p1⟩, ⟨r0_45, p2⟩, ⟨r0_44, p3⟩, ⟨r0_42, p4⟩, ⟨r0_41, p5⟩, ⟨r0_39, p6⟩, ⟨r0_38, p7⟩, ⟨r0_36, p8⟩, ⟨r0_35, p9⟩, ⟨r0_33, p10⟩, ⟨r0_32, p11⟩, ⟨r0_30, p12⟩, ⟨r0_29, p13⟩, ⟨r0_27, p14⟩, ⟨r0_26, p15⟩, ⟨r0_24, p16⟩, ⟨r0_23, p17⟩, ⟨r0_21, p18⟩, ⟨r0_20, p19⟩, ⟨r0_18, p20⟩, ⟨r0_17, p21⟩, ⟨r0_15, p22⟩, ⟨r0_14, p23⟩, ⟨r0_12, p24⟩, ⟨r0_11, p25⟩, ⟨r0_9, p26⟩, ⟨r0_8, p27⟩, ⟨r0_6, p28⟩, ⟨r0_5, p29⟩, ⟨r0_3, p30⟩, ⟨r0_2, p31⟩] : List (View.Piece (Elt F) S256x4096 .bf16)), y ∈ pc.1.set :=
  View.cover_of_tiled [⟨r0_48, p0⟩, ⟨r0_47, p1⟩, ⟨r0_45, p2⟩, ⟨r0_44, p3⟩, ⟨r0_42, p4⟩, ⟨r0_41, p5⟩, ⟨r0_39, p6⟩, ⟨r0_38, p7⟩, ⟨r0_36, p8⟩, ⟨r0_35, p9⟩, ⟨r0_33, p10⟩, ⟨r0_32, p11⟩, ⟨r0_30, p12⟩, ⟨r0_29, p13⟩, ⟨r0_27, p14⟩, ⟨r0_26, p15⟩, ⟨r0_24, p16⟩, ⟨r0_23, p17⟩, ⟨r0_21, p18⟩, ⟨r0_20, p19⟩, ⟨r0_18, p20⟩, ⟨r0_17, p21⟩, ⟨r0_15, p22⟩, ⟨r0_14, p23⟩, ⟨r0_12, p24⟩, ⟨r0_11, p25⟩, ⟨r0_9, p26⟩, ⟨r0_8, p27⟩, ⟨r0_6, p28⟩, ⟨r0_5, p29⟩, ⟨r0_3, p30⟩, ⟨r0_2, p31⟩] S256x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel (c : Dev nD) (E : Set ℕ) (i : grid0.Coords) (arg1 : Memref sig .tc .vmem S256x2048 .i8) (harg1 : arg1.IsWhole) (arg2 : Memref sig .tc .vmem S256x128 .i8) (harg2 : arg2.IsWhole) (arg3 : Memref sig .tc .vmem S256x4096 .bf16) (harg3 : arg3.IsWhole)
    (x0 : Vec F S256x2048 .i8) (x1 : Vec F S256x128 .i8) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_prep_w i arg1 harg1 arg2 harg2 arg3 harg3) K := by
  simp only [cc0_prep_w_eq_skeleton]; unfold cc0_prep_w_skel
  simp only [k0_part26_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _ _ _ _ _ _ _ _ _ _ _ _ _ _ _ _ _ _ _ _ _ _ _ _ _ _ _ _ _ _ _ _)).trans ?_
  rfl

/-! ## The pipeline's proof data -/

/-- The proof data of the one pipeline on core `c`: the arrays as the region finds them (`V`); after the body at
    point `t` each input's buffer at its block and each output's at `out0_W` of the input blocks; the invariant
    the scoped buffers the pipeline does not stage, untouched; nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out0_2 (iblk V c 0 t) (iblk V c 1 t)
  Φ _ := Pipeline.scopedRest spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`, never `rfl`: Lib/Pipeline.lean `Dat`). -/
theorem after0_0 (c : Dev nD) (t : Fin cfg0.N) : (dat V c).after 0 t = iblk V c 0 t := by dsimp only [dat]
/-- What the body leaves in the window's buffer. -/
theorem after0_1 (c : Dev nD) (t : Fin cfg0.N) : (dat V c).after 1 t = iblk V c 1 t := by dsimp only [dat]
/-- What the body leaves in the window's buffer. -/
theorem after0_2 (c : Dev nD) (t : Fin cfg0.N) : (dat V c).after 2 t = out0_2 (iblk V c 0 t) (iblk V c 1 t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
/-- What the body finds in the window's buffer. -/
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.R0

end
-- ==== Proof.KernelIdeal.PrepX.lean ====
/- Region 1 of the kernel, `prep_x`: its body's triple, its proof data over any contents `V` of the buffers the region is
   entered with, and the body obligation at every grid point. -/
module

public import proofs.«01_k».proof.Proof.Gen.KernelIdeal.Regions
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.KernelIdeal.PrepVals

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of each core's buffers when the region is entered.
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S256x128 := Rect.unit (s := S256x128) ![0, 0] S256x128.size inb_S256x128_S256x128_0_0
abbrev r0_1 : Rect S256x4096 := Rect.unit (s := S256x4096) ![0, 0] S256x128.size inb_S256x4096_S256x128_0_0
abbrev r0_2 : Rect S256x4096 := Rect.unit (s := S256x4096) ![0, 128] S256x128.size inb_S256x4096_S256x128_0_128
abbrev r0_3 : Rect S256x4096 := Rect.unit (s := S256x4096) ![0, 256] S256x128.size inb_S256x4096_S256x128_0_256
abbrev r0_4 : Rect S256x4096 := Rect.unit (s := S256x4096) ![0, 384] S256x128.size inb_S256x4096_S256x128_0_384
abbrev r0_5 : Rect S256x4096 := Rect.unit (s := S256x4096) ![0, 512] S256x128.size inb_S256x4096_S256x128_0_512
abbrev r0_6 : Rect S256x4096 := Rect.unit (s := S256x4096) ![0, 640] S256x128.size inb_S256x4096_S256x128_0_640
abbrev r0_7 : Rect S256x4096 := Rect.unit (s := S256x4096) ![0, 768] S256x128.size inb_S256x4096_S256x128_0_768
abbrev r0_8 : Rect S256x4096 := Rect.unit (s := S256x4096) ![0, 896] S256x128.size inb_S256x4096_S256x128_0_896
abbrev r0_9 : Rect S256x4096 := Rect.unit (s := S256x4096) ![0, 1024] S256x128.size inb_S256x4096_S256x128_0_1024
abbrev r0_10 : Rect S256x4096 := Rect.unit (s := S256x4096) ![0, 1152] S256x128.size inb_S256x4096_S256x128_0_1152
abbrev r0_11 : Rect S256x4096 := Rect.unit (s := S256x4096) ![0, 1280] S256x128.size inb_S256x4096_S256x128_0_1280
abbrev r0_12 : Rect S256x4096 := Rect.unit (s := S256x4096) ![0, 1408] S256x128.size inb_S256x4096_S256x128_0_1408
abbrev r0_13 : Rect S256x4096 := Rect.unit (s := S256x4096) ![0, 1536] S256x128.size inb_S256x4096_S256x128_0_1536
abbrev r0_14 : Rect S256x4096 := Rect.unit (s := S256x4096) ![0, 1664] S256x128.size inb_S256x4096_S256x128_0_1664
abbrev r0_15 : Rect S256x4096 := Rect.unit (s := S256x4096) ![0, 1792] S256x128.size inb_S256x4096_S256x128_0_1792
abbrev r0_16 : Rect S256x4096 := Rect.unit (s := S256x4096) ![0, 1920] S256x128.size inb_S256x4096_S256x128_0_1920
abbrev r0_17 : Rect S256x4096 := Rect.unit (s := S256x4096) ![0, 2048] S256x128.size inb_S256x4096_S256x128_0_2048
abbrev r0_18 : Rect S256x4096 := Rect.unit (s := S256x4096) ![0, 2176] S256x128.size inb_S256x4096_S256x128_0_2176
abbrev r0_19 : Rect S256x4096 := Rect.unit (s := S256x4096) ![0, 2304] S256x128.size inb_S256x4096_S256x128_0_2304
abbrev r0_20 : Rect S256x4096 := Rect.unit (s := S256x4096) ![0, 2432] S256x128.size inb_S256x4096_S256x128_0_2432
abbrev r0_21 : Rect S256x4096 := Rect.unit (s := S256x4096) ![0, 2560] S256x128.size inb_S256x4096_S256x128_0_2560
abbrev r0_22 : Rect S256x4096 := Rect.unit (s := S256x4096) ![0, 2688] S256x128.size inb_S256x4096_S256x128_0_2688
abbrev r0_23 : Rect S256x4096 := Rect.unit (s := S256x4096) ![0, 2816] S256x128.size inb_S256x4096_S256x128_0_2816
abbrev r0_24 : Rect S256x4096 := Rect.unit (s := S256x4096) ![0, 2944] S256x128.size inb_S256x4096_S256x128_0_2944
abbrev r0_25 : Rect S256x4096 := Rect.unit (s := S256x4096) ![0, 3072] S256x128.size inb_S256x4096_S256x128_0_3072
abbrev r0_26 : Rect S256x4096 := Rect.unit (s := S256x4096) ![0, 3200] S256x128.size inb_S256x4096_S256x128_0_3200
abbrev r0_27 : Rect S256x4096 := Rect.unit (s := S256x4096) ![0, 3328] S256x128.size inb_S256x4096_S256x128_0_3328
abbrev r0_28 : Rect S256x4096 := Rect.unit (s := S256x4096) ![0, 3456] S256x128.size inb_S256x4096_S256x128_0_3456
abbrev r0_29 : Rect S256x4096 := Rect.unit (s := S256x4096) ![0, 3584] S256x128.size inb_S256x4096_S256x128_0_3584
abbrev r0_30 : Rect S256x4096 := Rect.unit (s := S256x4096) ![0, 3712] S256x128.size inb_S256x4096_S256x128_0_3712
abbrev r0_31 : Rect S256x4096 := Rect.unit (s := S256x4096) ![0, 3840] S256x128.size inb_S256x4096_S256x128_0_3840
abbrev r0_32 : Rect S256x4096 := Rect.unit (s := S256x4096) ![0, 3968] S256x128.size inb_S256x4096_S256x128_0_3968

/-! ## What the body leaves in each output window's buffer -/

/-- Window 2's staging buffer after the body, from the input windows' blocks: its 32 stores as pieces, LAST
    FIRST (Lib/Pipeline/FrameBody.lean `View.canon`; the payloads are the skeleton's and the values stated above). -/
def out0_2 (x0 : Vec F S256x4096 .fp8e4m3) (x1 : Vec F S256x128 .i8) : Vec F S256x4096 .bf16 :=
  View.canon [⟨r0_32, xOut (View.ld x1 r0_0) (View.ld x0 r0_31) (View.ld x0 r0_32) 1#32 120#32⟩,
    ⟨r0_31, xOut (View.ld x1 r0_0) (View.ld x0 r0_31) (View.ld x0 r0_32) 0#32 120#32⟩,
    ⟨r0_30, xOut (View.ld x1 r0_0) (View.ld x0 r0_29) (View.ld x0 r0_30) 1#32 112#32⟩,
    ⟨r0_29, xOut (View.ld x1 r0_0) (View.ld x0 r0_29) (View.ld x0 r0_30) 0#32 112#32⟩,
    ⟨r0_28, xOut (View.ld x1 r0_0) (View.ld x0 r0_27) (View.ld x0 r0_28) 1#32 104#32⟩,
    ⟨r0_27, xOut (View.ld x1 r0_0) (View.ld x0 r0_27) (View.ld x0 r0_28) 0#32 104#32⟩,
    ⟨r0_26, xOut (View.ld x1 r0_0) (View.ld x0 r0_25) (View.ld x0 r0_26) 1#32 96#32⟩,
    ⟨r0_25, xOut (View.ld x1 r0_0) (View.ld x0 r0_25) (View.ld x0 r0_26) 0#32 96#32⟩,
    ⟨r0_24, xOut (View.ld x1 r0_0) (View.ld x0 r0_23) (View.ld x0 r0_24) 1#32 88#32⟩,
    ⟨r0_23, xOut (View.ld x1 r0_0) (View.ld x0 r0_23) (View.ld x0 r0_24) 0#32 88#32⟩,
    ⟨r0_22, xOut (View.ld x1 r0_0) (View.ld x0 r0_21) (View.ld x0 r0_22) 1#32 80#32⟩,
    ⟨r0_21, xOut (View.ld x1 r0_0) (View.ld x0 r0_21) (View.ld x0 r0_22) 0#32 80#32⟩,
    ⟨r0_20, xOut (View.ld x1 r0_0) (View.ld x0 r0_19) (View.ld x0 r0_20) 1#32 72#32⟩,
    ⟨r0_19, xOut (View.ld x1 r0_0) (View.ld x0 r0_19) (View.ld x0 r0_20) 0#32 72#32⟩,
    ⟨r0_18, xOut (View.ld x1 r0_0) (View.ld x0 r0_17) (View.ld x0 r0_18) 1#32 64#32⟩,
    ⟨r0_17, xOut (View.ld x1 r0_0) (View.ld x0 r0_17) (View.ld x0 r0_18) 0#32 64#32⟩,
    ⟨r0_16, xOut (View.ld x1 r0_0) (View.ld x0 r0_15) (View.ld x0 r0_16) 1#32 56#32⟩,
    ⟨r0_15, xOut (View.ld x1 r0_0) (View.ld x0 r0_15) (View.ld x0 r0_16) 0#32 56#32⟩,
    ⟨r0_14, xOut (View.ld x1 r0_0) (View.ld x0 r0_13) (View.ld x0 r0_14) 1#32 48#32⟩,
    ⟨r0_13, xOut (View.ld x1 r0_0) (View.ld x0 r0_13) (View.ld x0 r0_14) 0#32 48#32⟩,
    ⟨r0_12, xOut (View.ld x1 r0_0) (View.ld x0 r0_11) (View.ld x0 r0_12) 1#32 40#32⟩,
    ⟨r0_11, xOut (View.ld x1 r0_0) (View.ld x0 r0_11) (View.ld x0 r0_12) 0#32 40#32⟩,
    ⟨r0_10, xOut (View.ld x1 r0_0) (View.ld x0 r0_9) (View.ld x0 r0_10) 1#32 32#32⟩,
    ⟨r0_9, xOut (View.ld x1 r0_0) (View.ld x0 r0_9) (View.ld x0 r0_10) 0#32 32#32⟩,
    ⟨r0_8, xOut (View.ld x1 r0_0) (View.ld x0 r0_7) (View.ld x0 r0_8) 1#32 24#32⟩,
    ⟨r0_7, xOut (View.ld x1 r0_0) (View.ld x0 r0_7) (View.ld x0 r0_8) 0#32 24#32⟩,
    ⟨r0_6, xOut (View.ld x1 r0_0) (View.ld x0 r0_5) (View.ld x0 r0_6) 1#32 16#32⟩,
    ⟨r0_5, xOut (View.ld x1 r0_0) (View.ld x0 r0_5) (View.ld x0 r0_6) 0#32 16#32⟩,
    ⟨r0_4, xOut (View.ld x1 r0_0) (View.ld x0 r0_3) (View.ld x0 r0_4) 1#32 8#32⟩,
    ⟨r0_3, xOut (View.ld x1 r0_0) (View.ld x0 r0_3) (View.ld x0 r0_4) 0#32 8#32⟩,
    ⟨r0_2, xOut (View.ld x1 r0_0) (View.ld x0 r0_1) (View.ld x0 r0_2) 1#32 0#32⟩,
    ⟨r0_1, xOut (View.ld x1 r0_0) (View.ld x0 r0_1) (View.ld x0 r0_2) 0#32 0#32⟩]

/-- Its stores tile the buffer (checked by evaluation), so they cover it. -/
theorem cover0_2 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (p8 : Vec F S256x128 .bf16) (p9 : Vec F S256x128 .bf16) (p10 : Vec F S256x128 .bf16) (p11 : Vec F S256x128 .bf16) (p12 : Vec F S256x128 .bf16) (p13 : Vec F S256x128 .bf16) (p14 : Vec F S256x128 .bf16) (p15 : Vec F S256x128 .bf16) (p16 : Vec F S256x128 .bf16) (p17 : Vec F S256x128 .bf16) (p18 : Vec F S256x128 .bf16) (p19 : Vec F S256x128 .bf16) (p20 : Vec F S256x128 .bf16) (p21 : Vec F S256x128 .bf16) (p22 : Vec F S256x128 .bf16) (p23 : Vec F S256x128 .bf16) (p24 : Vec F S256x128 .bf16) (p25 : Vec F S256x128 .bf16) (p26 : Vec F S256x128 .bf16) (p27 : Vec F S256x128 .bf16) (p28 : Vec F S256x128 .bf16) (p29 : Vec F S256x128 .bf16) (p30 : Vec F S256x128 .bf16) (p31 : Vec F S256x128 .bf16) (y : S256x4096.Idx) :
    ∃ pc ∈ ([⟨r0_32, p0⟩, ⟨r0_31, p1⟩, ⟨r0_30, p2⟩, ⟨r0_29, p3⟩, ⟨r0_28, p4⟩, ⟨r0_27, p5⟩, ⟨r0_26, p6⟩, ⟨r0_25, p7⟩, ⟨r0_24, p8⟩, ⟨r0_23, p9⟩, ⟨r0_22, p10⟩, ⟨r0_21, p11⟩, ⟨r0_20, p12⟩, ⟨r0_19, p13⟩, ⟨r0_18, p14⟩, ⟨r0_17, p15⟩, ⟨r0_16, p16⟩, ⟨r0_15, p17⟩, ⟨r0_14, p18⟩, ⟨r0_13, p19⟩, ⟨r0_12, p20⟩, ⟨r0_11, p21⟩, ⟨r0_10, p22⟩, ⟨r0_9, p23⟩, ⟨r0_8, p24⟩, ⟨r0_7, p25⟩, ⟨r0_6, p26⟩, ⟨r0_5, p27⟩, ⟨r0_4, p28⟩, ⟨r0_3, p29⟩, ⟨r0_2, p30⟩, ⟨r0_1, p31⟩] : List (View.Piece (Elt F) S256x4096 .bf16)), y ∈ pc.1.set :=
  View.cover_of_tiled [⟨r0_32, p0⟩, ⟨r0_31, p1⟩, ⟨r0_30, p2⟩, ⟨r0_29, p3⟩, ⟨r0_28, p4⟩, ⟨r0_27, p5⟩, ⟨r0_26, p6⟩, ⟨r0_25, p7⟩, ⟨r0_24, p8⟩, ⟨r0_23, p9⟩, ⟨r0_22, p10⟩, ⟨r0_21, p11⟩, ⟨r0_20, p12⟩, ⟨r0_19, p13⟩, ⟨r0_18, p14⟩, ⟨r0_17, p15⟩, ⟨r0_16, p16⟩, ⟨r0_15, p17⟩, ⟨r0_14, p18⟩, ⟨r0_13, p19⟩, ⟨r0_12, p20⟩, ⟨r0_11, p21⟩, ⟨r0_10, p22⟩, ⟨r0_9, p23⟩, ⟨r0_8, p24⟩, ⟨r0_7, p25⟩, ⟨r0_6, p26⟩, ⟨r0_5, p27⟩, ⟨r0_4, p28⟩, ⟨r0_3, p29⟩, ⟨r0_2, p30⟩, ⟨r0_1, p31⟩] S256x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel (c : Dev nD) (E : Set ℕ) (i : grid1.Coords) (arg1 : Memref sig .tc .vmem S256x4096 .fp8e4m3) (harg1 : arg1.IsWhole) (arg2 : Memref sig .tc .vmem S256x128 .i8) (harg2 : arg2.IsWhole) (arg3 : Memref sig .tc .vmem S256x4096 .bf16) (harg3 : arg3.IsWhole)
    (x0 : Vec F S256x4096 .fp8e4m3) (x1 : Vec F S256x128 .i8) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc1_prep_x i arg1 harg1 arg2 harg2 arg3 harg3) K := by
  simp only [cc1_prep_x_eq_skeleton]; unfold cc1_prep_x_skel
  simp only [k1_part37_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _ _ _ _ _ _ _ _ _ _ _ _ _ _ _ _ _ _ _ _ _ _ _ _ _ _ _ _ _ _ _ _)).trans ?_
  rfl

/-! ## The pipeline's proof data -/

/-- The proof data of the one pipeline on core `c`: the arrays as the region finds them (`V`); after the body at
    point `t` each input's buffer at its block and each output's at `out0_W` of the input blocks; the invariant
    the scoped buffers the pipeline does not stage, untouched; nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out0_2 (iblk V c 0 t) (iblk V c 1 t)
  Φ _ := Pipeline.scopedRest spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- What the body leaves, window by window (the proof data's `match` reduced by `dsimp`, never `rfl`: Lib/Pipeline.lean `Dat`). -/
theorem after0_0 (c : Dev nD) (t : Fin cfg1.N) : (dat V c).after 0 t = iblk V c 0 t := by dsimp only [dat]
/-- What the body leaves in the window's buffer. -/
theorem after0_1 (c : Dev nD) (t : Fin cfg1.N) : (dat V c).after 1 t = iblk V c 1 t := by dsimp only [dat]
/-- What the body leaves in the window's buffer. -/
theorem after0_2 (c : Dev nD) (t : Fin cfg1.N) : (dat V c).after 2 t = out0_2 (iblk V c 0 t) (iblk V c 1 t) := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
/-- What the body finds in the window's buffer. -/
theorem before0_1 (c : Dev nD) (t : Fin cfg1.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks (`before0_W`), so `sound_kernel` applies; the invariant and
    the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1]
  rw [show (dat V c).Φ t.succ = (dat V c).Φ t.castSucc from rfl,
    show (dat V c).owesAt () t.succ = (dat V c).owesAt () t.castSucc from rfl,
    after0_0, after0_1, after0_2]
  iintro ⟨HΦ, Ho, ⟨%d0, H0⟩, ⟨%d1, H1⟩, ⟨%d2, H2⟩⟩
  iapply (sound_kernel c Set.univ (grid1.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.R1

end
-- ==== Proof.KernelIdeal.HeadLoops.lean ====
/- What the last vocabulary block's step of a row block computes: the loop over 64-row groups and, inside it, the loop over
   the stored logit blocks, each as a function of the buffers it reads, and each loop's invariant. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values -/

/-- A grid point at the last vocabulary block. -/
def i31 : grid2.Coords := grid2.coords ⟨31, by decide⟩
/-- A constant of the loops. -/
theorem h31 : k2_cond3 i31 = 1#1 := by decide +kernel

/-- The carried sums and minimum. -/
abbrev Acc (F : FTy → Type) := FVec F S64x128 .f32 × FVec F S64x128 .f32 × FVec F S64x128 .f32

/-- Lanes 0 to 127 of logit block `k` in the row group `r`, -/
abbrev z0 (Z : Vec F S32x512x512 .f32) (r : Fin k2_t1_loop.trips) (k : Fin k2_t2_loop.trips) : Vec F S1x64x128 .f32 :=
  View.ld Z (Rect.unit (s := S32x512x512) (k2_off4 r k) S1x64x128.size (k2_off4_inb i31 r k h31))
/-- lanes 128 to 255, -/
abbrev z1 (Z : Vec F S32x512x512 .f32) (r : Fin k2_t1_loop.trips) (k : Fin k2_t2_loop.trips) : Vec F S1x64x128 .f32 :=
  View.ld Z (Rect.unit (s := S32x512x512) (k2_off5 r k) S1x64x128.size (k2_off5_inb i31 r k h31))
/-- lanes 256 to 383 -/
abbrev z2 (Z : Vec F S32x512x512 .f32) (r : Fin k2_t1_loop.trips) (k : Fin k2_t2_loop.trips) : Vec F S1x64x128 .f32 :=
  View.ld Z (Rect.unit (s := S32x512x512) (k2_off6 r k) S1x64x128.size (k2_off6_inb i31 r k h31))
/-- and lanes 384 to 511. -/
abbrev z3 (Z : Vec F S32x512x512 .f32) (r : Fin k2_t1_loop.trips) (k : Fin k2_t2_loop.trips) : Vec F S1x64x128 .f32 :=
  View.ld Z (Rect.unit (s := S32x512x512) (k2_off7 r k) S1x64x128.size (k2_off7_inb i31 r k h31))

/-- One block's step of the carried sums and minimum, over its four lane groups. -/
def trip (v15 : Vec F S64x128 .f32) (v19 v24 v27 : Vec F S64x1 .f32) (a0 a1 a2 a3 : Vec F S1x64x128 .f32) (a : Acc F) : Acc F :=
  (k2_pay33 v15 v19 (k2_pay21 (k2_pay23 v15) (k2_pay24 v19) a.1 a0 a1 a2) a3,
   k2_pay34 v15 v19 v24 v27 (k2_pay16 (k2_pay23 v15) (k2_pay24 v19) (k2_pay26 v15 v24 v27) a.2.1 a0 a1)
     (k2_pay19 (k2_pay23 v15) (k2_pay24 v19) a2) (k2_pay20 (k2_pay26 v15 v24 v27) a2) (k2_pay22 (F := F)) a3,
   k2_pay35 v15 v24 v27 (k2_pay17 (k2_pay26 v15 v24 v27) a.2.2 a0 a1) (k2_pay20 (k2_pay26 v15 v24 v27) a2) a3)

/-- The carried values before block `k`. -/
def accs (Z : Vec F S32x512x512 .f32) (r : Fin k2_t1_loop.trips) (v15 : Vec F S64x128 .f32) (v19 v24 v27 : Vec F S64x1 .f32) : ℕ → Acc F
  | 0 => (k2_pay27 (F := F), k2_pay28 (F := F), k2_pay29 (F := F))
  | k + 1 => if h : k < k2_t2_loop.trips then
      trip v15 v19 v24 v27 (z0 Z r ⟨k, h⟩) (z1 Z r ⟨k, h⟩) (z2 Z r ⟨k, h⟩) (z3 Z r ⟨k, h⟩) (accs Z r v15 v19 v24 v27 k)
    else accs Z r v15 v19 v24 v27 k

/-- One more trip of the loop. -/
theorem accs_succ (Z : Vec F S32x512x512 .f32) (r : Fin k2_t1_loop.trips) (v15 : Vec F S64x128 .f32) (v19 v24 v27 : Vec F S64x1 .f32)
    (k : Fin k2_t2_loop.trips) :
    accs Z r v15 v19 v24 v27 (k.val + 1) = trip v15 v19 v24 v27 (z0 Z r k) (z1 Z r k) (z2 Z r k) (z3 Z r k) (accs Z r v15 v19 v24 v27 k.val) := by
  rw [accs, dif_pos k.isLt]

/-! ## The inner loop -/

/-- Before block `k`: the logits as they were, the carried values those of the blocks before. -/
def inv2 (c : Dev nD) (arg9 : Memref sig .tc .vmem S32x512x512 .f32) (f9 : BufTy.Contents (Elt F) arg9.view.ty) (r : Fin k2_t1_loop.trips)
    (v15 : Vec F S64x128 .f32) (v19 v24 v27 : Vec F S64x1 .f32) (k : ℕ) (acc : Acc F) : sProp 𝕄 :=
  iprop((arg9.view.loc (c : Thread nD τ) ↦[arg9.view.set]{fullShare} f9) ∗ ⌜acc = accs (arg9.view.read (Elt F) f9) r v15 v19 v24 v27 k⌝)

/-- The invariant's class of the inner loop. -/
abbrev Ty2 (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole) (k2_h3 : k2_cond3 i = 1#1) (c0_i32_5 : BitVec 32) (c1_i32 : BitVec 32) (k2_t1 : Fin k2_t1_loop.trips) (v13 : BitVec 32) (v15 : Vec F S64x128 .f32) (v19 : Vec F S64x1 .f32) (v24 : Vec F S64x1 .f32) (v27 : Vec F S64x1 .f32) :=
  Idealize.ShloMosaic.LoopInv (M := MT nD τ sig Unit (Elt F) ℕ (UR sig nD τ) ℕ) Idealize.ShloMosaic.frame (wpE defs₀ Variants.none (c : Thread nD τ) none) E
    k2_t2_loop.lb k2_t2_loop.ub k2_t2_loop.st (k2_t2_ok i k2_h3) (k2_pay27 (F := F), k2_pay28 (F := F), k2_pay29 (F := F)) (k2_t2_body (F := F) i arg2 harg2 arg3 harg3 arg4 harg4 arg5 harg5 arg6 harg6 arg7 harg7 arg8 harg8 arg9 harg9 arg10 harg10 arg11 harg11 k2_h3 c0_i32_5 c1_i32 k2_t1 v13 v15 v19 v24 v27)

/-- One block of the inner loop keeps the invariant. -/
@[sl_loop] def loopInv2 (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole) (k2_h3 : k2_cond3 i = 1#1) (c0_i32_5 : BitVec 32) (c1_i32 : BitVec 32) (k2_t1 : Fin k2_t1_loop.trips) (v13 : BitVec 32) (v15 : Vec F S64x128 .f32) (v19 : Vec F S64x1 .f32) (v24 : Vec F S64x1 .f32) (v27 : Vec F S64x1 .f32) (f9 : BufTy.Contents (Elt F) arg9.view.ty) :
    Ty2 (F := F) c E i arg2 harg2 arg3 harg3 arg4 harg4 arg5 harg5 arg6 harg6 arg7 harg7 arg8 harg8 arg9 harg9 arg10 harg10 arg11 harg11 k2_h3 c0_i32_5 c1_i32 k2_t1 v13 v15 v19 v24 v27 where
  inv k acc := inv2 (F := F) c arg9 f9 k2_t1 v15 v19 v24 v27 k acc
  step k acc := by
    unfold inv2 k2_t2_body
    iintro ⟨H9, %hacc⟩
    subst hacc
    sl_exec
    sl_step
    isplitl [H9]; · iexact H9
    ipureintro
    rw [accs_succ]; rfl

/-! ## A group of 64 rows -/

/-- The running maxima, -/
def gM (M : Vec F S512x128 .f32) (r : Fin k2_t1_loop.trips) : Vec F S64x128 .f32 := View.ld M (Rect.unit (s := S512x128) (k2_off2 r) S64x128.size (k2_off2_inb i31 r h31))
/-- and a column (a temperature or a threshold's logarithm) of the group's rows. -/
def gC (T : Vec F S512x1 .f32) (r : Fin k2_t1_loop.trips) : Vec F S64x1 .f32 := View.ld T (Rect.unit (s := S512x1) (k2_off3 r) S64x1.size (k2_off3_inb i31 r h31))

/-- The sums and minimum over all blocks. -/
def gAcc (Z : Vec F S32x512x512 .f32) (M : Vec F S512x128 .f32) (T L : Vec F S512x1 .f32) (r : Fin k2_t1_loop.trips) : Acc F :=
  accs Z r (gM M r) (gC T r) (gC L r) (gC T r) k2_t2_loop.trips

/-- The rows' threshold, -/
def gThr (Z : Vec F S32x512x512 .f32) (M : Vec F S512x128 .f32) (T L : Vec F S512x1 .f32) (r : Fin k2_t1_loop.trips) : Vec F S64x1 .f32 := k2_pay37 (gC L r) (gAcc Z M T L r).1
/-- margin, -/
def gMar (Z : Vec F S32x512x512 .f32) (M : Vec F S512x128 .f32) (T L : Vec F S512x1 .f32) (r : Fin k2_t1_loop.trips) : Vec F S64x1 .f32 := k2_pay38 (gC T r) (gAcc Z M T L r).2.2
/-- and the three numbers the output pass reads, spread over the lanes: the cut, -/
def gSt0 (Z : Vec F S32x512x512 .f32) (M : Vec F S512x128 .f32) (T L : Vec F S512x1 .f32) (r : Fin k2_t1_loop.trips) : Vec F S1x64x128 .f32 := k2_pay5 (k2_pay39 (gM M r) (gC L r) (gC T r))
/-- the kept mass's offset, -/
def gSt1 (Z : Vec F S32x512x512 .f32) (M : Vec F S512x128 .f32) (T L : Vec F S512x1 .f32) (r : Fin k2_t1_loop.trips) : Vec F S1x64x128 .f32 :=
  k2_pay6 (k2_pay23 (gM M r)) (k2_pay24 (gC T r)) (k2_pay36 (gAcc Z M T L r).2.1)
/-- the reciprocal temperature. -/
def gSt2 (T : Vec F S512x1 .f32) (r : Fin k2_t1_loop.trips) : Vec F S1x64x128 .f32 := k2_pay7 (k2_pay24 (gC T r))

/-- The threshold's pieces of the groups before `k`, last first, -/
def p7 (Z : Vec F S32x512x512 .f32) (M : Vec F S512x128 .f32) (T L : Vec F S512x1 .f32) : ℕ → List (View.Piece (Elt F) S512x1 .f32)
  | 0 => []
  | k + 1 => if h : k < k2_t1_loop.trips then
      ⟨(Rect.unit (s := S512x1) (k2_off3 ⟨k, h⟩) S64x1.size (k2_off3_inb i31 ⟨k, h⟩ h31)), gThr Z M T L ⟨k, h⟩⟩ :: p7 Z M T L k else p7 Z M T L k
/-- the margin's, -/
def p8 (Z : Vec F S32x512x512 .f32) (M : Vec F S512x128 .f32) (T L : Vec F S512x1 .f32) : ℕ → List (View.Piece (Elt F) S512x1 .f32)
  | 0 => []
  | k + 1 => if h : k < k2_t1_loop.trips then
      ⟨(Rect.unit (s := S512x1) (k2_off3 ⟨k, h⟩) S64x1.size (k2_off3_inb i31 ⟨k, h⟩ h31)), gMar Z M T L ⟨k, h⟩⟩ :: p8 Z M T L k else p8 Z M T L k
/-- and those of the three numbers. -/
def p11 (Z : Vec F S32x512x512 .f32) (M : Vec F S512x128 .f32) (T L : Vec F S512x1 .f32) : ℕ → List (View.Piece (Elt F) S3x512x128 .f32)
  | 0 => []
  | k + 1 => if h : k < k2_t1_loop.trips then
      ⟨(Rect.unit (s := S3x512x128) (k2_off10 ⟨k, h⟩) S1x64x128.size (k2_off10_inb i31 ⟨k, h⟩ h31)), gSt2 T ⟨k, h⟩⟩ ::
      ⟨(Rect.unit (s := S3x512x128) (k2_off9 ⟨k, h⟩) S1x64x128.size (k2_off9_inb i31 ⟨k, h⟩ h31)), gSt1 Z M T L ⟨k, h⟩⟩ ::
      ⟨(Rect.unit (s := S3x512x128) (k2_off8 ⟨k, h⟩) S1x64x128.size (k2_off8_inb i31 ⟨k, h⟩ h31)), gSt0 Z M T L ⟨k, h⟩⟩ :: p11 Z M T L k else p11 Z M T L k

/-- One more trip of the loop. -/
theorem p7_succ (Z : Vec F S32x512x512 .f32) (M : Vec F S512x128 .f32) (T L : Vec F S512x1 .f32) (r : Fin k2_t1_loop.trips) : p7 Z M T L (r.val + 1) =
    ⟨(Rect.unit (s := S512x1) (k2_off3 r) S64x1.size (k2_off3_inb i31 r h31)), gThr Z M T L r⟩ :: p7 Z M T L r.val := by rw [p7, dif_pos r.isLt]
/-- One more trip of the loop. -/
theorem p8_succ (Z : Vec F S32x512x512 .f32) (M : Vec F S512x128 .f32) (T L : Vec F S512x1 .f32) (r : Fin k2_t1_loop.trips) : p8 Z M T L (r.val + 1) =
    ⟨(Rect.unit (s := S512x1) (k2_off3 r) S64x1.size (k2_off3_inb i31 r h31)), gMar Z M T L r⟩ :: p8 Z M T L r.val := by rw [p8, dif_pos r.isLt]
/-- One more trip of the loop. -/
theorem p11_succ (Z : Vec F S32x512x512 .f32) (M : Vec F S512x128 .f32) (T L : Vec F S512x1 .f32) (r : Fin k2_t1_loop.trips) : p11 Z M T L (r.val + 1) =
      ⟨(Rect.unit (s := S3x512x128) (k2_off10 r) S1x64x128.size (k2_off10_inb i31 r h31)), gSt2 T r⟩ ::
      ⟨(Rect.unit (s := S3x512x128) (k2_off9 r) S1x64x128.size (k2_off9_inb i31 r h31)), gSt1 Z M T L r⟩ ::
      ⟨(Rect.unit (s := S3x512x128) (k2_off8 r) S1x64x128.size (k2_off8_inb i31 r h31)), gSt0 Z M T L r⟩ :: p11 Z M T L r.val := by rw [p11, dif_pos r.isLt]

/-! ## The outer loop -/

/-- Before group `k`: what the loop reads as it was, what it writes at the pieces of the groups before. -/
def inv1 (c : Dev nD) (arg4 : Memref sig .tc .vmem S512x1 .f32) (arg5 : Memref sig .tc .vmem S512x1 .f32) (arg7 : Memref sig .tc .vmem S512x1 .f32) (arg8 : Memref sig .tc .vmem S512x1 .f32) (arg9 : Memref sig .tc .vmem S32x512x512 .f32) (arg10 : Memref sig .tc .vmem S512x128 .f32) (arg11 : Memref sig .tc .vmem S3x512x128 .f32)
    (f4 : BufTy.Contents (Elt F) arg4.view.ty) (f5 : BufTy.Contents (Elt F) arg5.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (k : ℕ) : sProp 𝕄 :=
  iprop((arg4.view.loc (c : Thread nD τ) ↦[arg4.view.set]{fullShare} f4) ∗ (arg5.view.loc (c : Thread nD τ) ↦[arg5.view.set]{fullShare} f5) ∗ (arg9.view.loc (c : Thread nD τ) ↦[arg9.view.set]{fullShare} f9) ∗ (arg10.view.loc (c : Thread nD τ) ↦[arg10.view.set]{fullShare} f10)
    ∗ (arg7.view.loc (c : Thread nD τ) ↦[arg7.view.set]{fullShare} arg7.view.writes (Elt F) f7 (p7 (arg9.view.read (Elt F) f9) (arg10.view.read (Elt F) f10) (arg4.view.read (Elt F) f4) (arg5.view.read (Elt F) f5) k))
    ∗ (arg8.view.loc (c : Thread nD τ) ↦[arg8.view.set]{fullShare} arg8.view.writes (Elt F) f8 (p8 (arg9.view.read (Elt F) f9) (arg10.view.read (Elt F) f10) (arg4.view.read (Elt F) f4) (arg5.view.read (Elt F) f5) k))
    ∗ (arg11.view.loc (c : Thread nD τ) ↦[arg11.view.set]{fullShare} arg11.view.writes (Elt F) f11 (p11 (arg9.view.read (Elt F) f9) (arg10.view.read (Elt F) f10) (arg4.view.read (Elt F) f4) (arg5.view.read (Elt F) f5) k)))

/-- The invariant's class of the outer loop. -/
abbrev Ty1 (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole) (k2_h3 : k2_cond3 i = 1#1) :=
  Idealize.ShloMosaic.LoopInv (M := MT nD τ sig Unit (Elt F) ℕ (UR sig nD τ) ℕ) Idealize.ShloMosaic.frame (wpE defs₀ Variants.none (c : Thread nD τ) none) E
    k2_t1_loop.lb k2_t1_loop.ub k2_t1_loop.st (k2_t1_ok i k2_h3) () (k2_t1_body (F := F) i arg2 harg2 arg3 harg3 arg4 harg4 arg5 harg5 arg6 harg6 arg7 harg7 arg8 harg8 arg9 harg9 arg10 harg10 arg11 harg11 k2_h3)

/-- One group keeps the invariant. -/
@[sl_loop] def loopInv1 (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole) (k2_h3 : k2_cond3 i = 1#1)
    (f4 : BufTy.Contents (Elt F) arg4.view.ty) (f5 : BufTy.Contents (Elt F) arg5.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Ty1 (F := F) c E i arg2 harg2 arg3 harg3 arg4 harg4 arg5 harg5 arg6 harg6 arg7 harg7 arg8 harg8 arg9 harg9 arg10 harg10 arg11 harg11 k2_h3 where
  inv k _ := inv1 (F := F) c arg4 arg5 arg7 arg8 arg9 arg10 arg11 f4 f5 f7 f8 f9 f10 f11 k
  step k acc := by
    unfold inv1 k2_t1_body
    iintro ⟨H4, H5, H9, H10, H7, H8, H11⟩
    sl_exec
    sl_step
    rw [p7_succ, p8_succ, p11_succ]
    isplitl [H4]; · iexact H4
    isplitl [H5]; · iexact H5
    isplitl [H9]; · iexact H9
    isplitl [H10]; · iexact H10
    isplitl [H7]; · iexact H7
    isplitl [H8]; · iexact H8
    iexact H11

end Cert.KernelIdeal.R2

end
-- ==== Proof.KernelIdeal.HeadBody.lean ====
/- One call of `head_min_p`'s body at each kind of grid point, over any buffers: what it leaves in each. -/
module

public import proofs.«01_k».proof.Proof.KernelIdeal.HeadLoops
public import Idealize.ShloMosaic.Lib.Pipeline.ValueKit.Basic

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the stores leave -/

/-- The rectangle of logit block `j`, where `j` is the grid's second coordinate. -/
abbrev zr (i : grid2.Coords) (h : k2_cond2 i = 1#1) : Rect S32x512x512 := Rect.unit (s := S32x512x512) (k2_off1 i) S1x512x512.size (k2_off1_inb i h)

/-- `Z'` is `Z` with block `p` stored at the grid point's logit block. -/
def Stored (i : grid2.Coords) (h : k2_cond2 i = 1#1) (p : Vec F S1x512x512 .f32) (Z Z' : Vec F S32x512x512 .f32) : Prop :=
  (∀ y, Z' ((zr i h).emb y) = p y) ∧ ∀ y, y ∉ (zr i h).set → Z' y = Z y

/-- The store of the logits. -/
theorem stored_writes (i : grid2.Coords) (h : k2_cond2 i = 1#1) (p : Vec F S1x512x512 .f32) (arg9 : Memref sig .tc .vmem S32x512x512 .f32)
    (f9 : BufTy.Contents (Elt F) arg9.view.ty) :
    Stored i h p (arg9.view.read (Elt F) f9) (arg9.view.read (Elt F) (arg9.view.writes (Elt F) f9 [⟨zr i h, p⟩])) :=
  ⟨fun y => View.read_writes_cons_emb arg9.view f9 (zr i h) p [] y, fun y hy => View.read_writes_cons_miss arg9.view f9 ⟨zr i h, p⟩ [] y hy⟩

/-- A buffer stored over whole holds what was stored last. -/
theorem read_whole {S : Shape} {e : EltTy} (v : View sig .tc .vmem S e) (f : v.ty.Contents (Elt F)) {off : Fin S.rank → Nat}
    (inb : ∀ a, off a + S.size a ≤ S.size a) (w : S.Idx → Elt F e) (Ls : List (View.Piece (Elt F) S e)) (h : ∀ a, off a = 0) :
    v.read (Elt F) (v.writes (Elt F) f (⟨Rect.unit off S.size inb, w⟩ :: Ls)) = w := by
  rw [View.read_writes_eq_canon v f _ (fun y => ⟨⟨Rect.unit off S.size inb, w⟩, List.mem_cons_self, View.mem_set_unit_zero (funext h) inb y⟩)]
  exact View.canon_cons_unit_zero (funext h) inb w Ls

/-- A whole load reads the contents. -/
theorem readAt_whole {S : Shape} {e : EltTy} (v : View sig .tc .vmem S e) (f : v.ty.Contents (Elt F)) {off : Fin S.rank → Nat}
    (inb : ∀ a, off a + S.size a ≤ S.size a) (h : ∀ a, off a = 0) :
    v.readAt (Elt F) (Rect.unit off S.size inb).toLoadRect f = v.read (Elt F) f :=
  View.ld_unit_zero (funext h) inb _

/-- A whole load of what one whole store left reads what was stored. -/
theorem readCov_whole {S : Shape} {e : EltTy} (v : View sig .tc .vmem S e) {off : Fin S.rank → Nat}
    (inb : ∀ a, off a + S.size a ≤ S.size a) (w : S.Idx → Elt F e) (h : ∀ a, off a = 0) :
    v.readCov (Val := Elt F) [⟨Rect.unit off S.size inb, w⟩] (Rect.unit off S.size inb).toLoadRect = w :=
  View.readCov_unit_zero v (funext h) inb w

/-- When an index lies in a stored piece. -/
theorem mem_unit {S : Shape} {off size : Fin S.rank → Nat} (inb : ∀ a, off a + size a ≤ S.size a) {y : S.Idx}
    (h : ∀ a, off a ≤ (y a).val ∧ (y a).val < off a + size a) : y ∈ (Rect.unit off size inb).set := Rect.mem_set_unit.2 h
/-- When an index lies in a stored piece. -/
theorem mem_head {S : Shape} {e : EltTy} {p : View.Piece (Elt F) S e} {Ls : List (View.Piece (Elt F) S e)} {y : S.Idx} (h : y ∈ p.1.set) :
    ∃ q ∈ p :: Ls, y ∈ q.1.set := ⟨p, List.mem_cons_self, h⟩
/-- When an index lies in a stored piece. -/
theorem mem_tail {S : Shape} {e : EltTy} {p : View.Piece (Elt F) S e} {Ls : List (View.Piece (Elt F) S e)} {y : S.Idx}
    (h : ∃ q ∈ Ls, y ∈ q.1.set) : ∃ q ∈ p :: Ls, y ∈ q.1.set := by
  obtain ⟨q, hq, hy⟩ := h; exact ⟨q, List.mem_cons_of_mem _ hq, hy⟩

/-- The three planes of the numbers the output pass reads. -/
abbrev s0 (St : Vec F S3x512x128 .f32) : Vec F S1x512x128 .f32 := View.ld St (Rect.unit (s := S3x512x128) ![0, 0, 0] S1x512x128.size inb_S3x512x128_S1x512x128_0_0_0)
abbrev s1 (St : Vec F S3x512x128 .f32) : Vec F S1x512x128 .f32 := View.ld St (Rect.unit (s := S3x512x128) ![1, 0, 0] S1x512x128.size inb_S3x512x128_S1x512x128_1_0_0)
abbrev s2 (St : Vec F S3x512x128 .f32) : Vec F S1x512x128 .f32 := View.ld St (Rect.unit (s := S3x512x128) ![2, 0, 0] S1x512x128.size inb_S3x512x128_S1x512x128_2_0_0)

/-- The four stores of an output block. -/
def p6 (i : grid2.Coords) (h4 : k2_cond4 i = 1#1) (Z : Vec F S32x512x512 .f32) (St : Vec F S3x512x128 .f32) : List (View.Piece (Elt F) S512x512 .bf16) :=
  [⟨Rect.unit (s := S512x512) ![0, 384] S512x128.size inb_S512x512_S512x128_0_384,
      k2_pay9 (k2_pay40 (s0 St)) (k2_pay41 (s1 St)) (k2_pay42 (s2 St)) (View.ld Z (Rect.unit (s := S32x512x512) (k2_off14 i) S1x512x128.size (k2_off14_inb i h4)))⟩,
    ⟨Rect.unit (s := S512x512) ![0, 256] S512x128.size inb_S512x512_S512x128_0_256,
      k2_pay8 (k2_pay41 (s1 St)) (k2_pay46 (s0 St) (View.ld Z (Rect.unit (s := S32x512x512) (k2_off13 i) S1x512x128.size (k2_off13_inb i h4))))
        (k2_pay47 (s2 St) (View.ld Z (Rect.unit (s := S32x512x512) (k2_off13 i) S1x512x128.size (k2_off13_inb i h4))))⟩,
    ⟨Rect.unit (s := S512x512) ![0, 128] S512x128.size inb_S512x512_S512x128_0_128,
      k2_pay44 (s0 St) (s1 St) (s2 St) (View.ld Z (Rect.unit (s := S32x512x512) (k2_off12 i) S1x512x128.size (k2_off12_inb i h4)))⟩,
    ⟨Rect.unit (s := S512x512) ![0, 0] S512x128.size inb_S512x512_S512x128_0_0,
      k2_pay43 (s0 St) (s1 St) (s2 St) (View.ld Z (Rect.unit (s := S32x512x512) (k2_off11 i) S1x512x128.size (k2_off11_inb i h4)))⟩]

/-- They cover the block. -/
theorem cover6 (i : grid2.Coords) (h4 : k2_cond4 i = 1#1) (Z : Vec F S32x512x512 .f32) (St : Vec F S3x512x128 .f32) (y : S512x512.Idx) :
    ∃ p ∈ p6 i h4 Z St, y ∈ p.1.set := by
  have h0 : (y 0).val < 512 := (y 0).isLt
  have h1 : (y 1).val < 512 := (y 1).isLt
  have key : ∀ o : ℕ, ∀ inb : (∀ a, (![0, o] : Fin 2 → ℕ) a + S512x128.size a ≤ S512x512.size a), o ≤ (y 1).val → (y 1).val < o + 128 →
      y ∈ (Rect.unit (s := S512x512) ![0, o] S512x128.size inb).set := fun o inb a b => Rect.mem_set_unit.2 fun ax => by
    match ax with
    | ⟨0, _⟩ => exact ⟨Nat.zero_le _, by show (y 0).val < 0 + 512; omega⟩
    | ⟨1, _⟩ => exact ⟨a, b⟩
  unfold p6
  by_cases c3 : 384 ≤ (y 1).val
  · exact mem_head (key 384 inb_S512x512_S512x128_0_384 c3 (by omega))
  by_cases c2 : 256 ≤ (y 1).val
  · exact mem_tail (mem_head (key 256 inb_S512x512_S512x128_0_256 c2 (by omega)))
  by_cases c1 : 128 ≤ (y 1).val
  · exact mem_tail (mem_tail (mem_head (key 128 inb_S512x512_S512x128_0_128 c1 (by omega))))
  · exact mem_tail (mem_tail (mem_tail (mem_head (key 0 inb_S512x512_S512x128_0_0 (by omega) (by omega)))))

/-- A constant of the loops. -/
theorem trips1 : k2_t1_loop.trips = 8 := by decide +kernel

/-- The groups' pieces cover the rows before group `k`. -/
theorem cover7 (Z : Vec F S32x512x512 .f32) (M : Vec F S512x128 .f32) (T L : Vec F S512x1 .f32) : ∀ (k : ℕ), k ≤ 8 → ∀ y : S512x1.Idx, (y 0).val < 64 * k → ∃ p ∈ p7 Z M T L k, y ∈ p.1.set
  | 0, _, y, h => by omega
  | k + 1, hk, y, h => by
    have hk' : k < k2_t1_loop.trips := by rw [trips1]; omega
    rw [show k + 1 = (⟨k, hk'⟩ : Fin k2_t1_loop.trips).val + 1 from rfl, p7_succ]
    by_cases c : 64 * k ≤ (y 0).val
    · refine mem_head ?_
      refine mem_unit (k2_off3_inb i31 ⟨k, hk'⟩ h31) fun ax => ?_
      rw [k2_off3_eq]
      match ax with
      | ⟨0, _⟩ => exact ⟨c, by show (y 0).val < 64 * k + 64; omega⟩
      | ⟨1, _⟩ => exact ⟨Nat.zero_le _, by show (y 1).val < 0 + 1; exact Nat.lt_of_lt_of_eq (y 1).isLt rfl⟩
    · obtain ⟨p, hp, hy⟩ := cover7 Z M T L k (by omega) y (by omega)
      exact ⟨p, List.mem_cons_of_mem _ hp, hy⟩
/-- The stored pieces cover the whole. -/
theorem cover8 (Z : Vec F S32x512x512 .f32) (M : Vec F S512x128 .f32) (T L : Vec F S512x1 .f32) : ∀ (k : ℕ), k ≤ 8 → ∀ y : S512x1.Idx, (y 0).val < 64 * k → ∃ p ∈ p8 Z M T L k, y ∈ p.1.set
  | 0, _, y, h => by omega
  | k + 1, hk, y, h => by
    have hk' : k < k2_t1_loop.trips := by rw [trips1]; omega
    rw [show k + 1 = (⟨k, hk'⟩ : Fin k2_t1_loop.trips).val + 1 from rfl, p8_succ]
    by_cases c : 64 * k ≤ (y 0).val
    · refine mem_head ?_
      refine mem_unit (k2_off3_inb i31 ⟨k, hk'⟩ h31) fun ax => ?_
      rw [k2_off3_eq]
      match ax with
      | ⟨0, _⟩ => exact ⟨c, by show (y 0).val < 64 * k + 64; omega⟩
      | ⟨1, _⟩ => exact ⟨Nat.zero_le _, by show (y 1).val < 0 + 1; exact Nat.lt_of_lt_of_eq (y 1).isLt rfl⟩
    · obtain ⟨p, hp, hy⟩ := cover8 Z M T L k (by omega) y (by omega)
      exact ⟨p, List.mem_cons_of_mem _ hp, hy⟩
/-- The stored pieces cover the whole. -/
theorem cover11 (Z : Vec F S32x512x512 .f32) (M : Vec F S512x128 .f32) (T L : Vec F S512x1 .f32) : ∀ (k : ℕ), k ≤ 8 → ∀ y : S3x512x128.Idx, (y 1).val < 64 * k → ∃ p ∈ p11 Z M T L k, y ∈ p.1.set
  | 0, _, y, h => by omega
  | k + 1, hk, y, h => by
    have hk' : k < k2_t1_loop.trips := by rw [trips1]; omega
    have h0 : (y 0).val < 3 := (y 0).isLt
    have h2 : (y 2).val < 128 := (y 2).isLt
    rw [show k + 1 = (⟨k, hk'⟩ : Fin k2_t1_loop.trips).val + 1 from rfl, p11_succ]
    by_cases c : 64 * k ≤ (y 1).val
    · have key : ∀ (o : ℕ) (off : Fin 3 → ℕ) (inb : ∀ a, off a + S1x64x128.size a ≤ S3x512x128.size a), off = ![o, 64 * k, 0] → (y 0).val = o →
          y ∈ (Rect.unit (s := S3x512x128) off S1x64x128.size inb).set := fun o off inb e ho => Rect.mem_set_unit.2 fun ax => by
        subst e
        match ax with
        | ⟨0, _⟩ => exact ⟨ho.ge, by show (y 0).val < o + 1; omega⟩
        | ⟨1, _⟩ => exact ⟨c, by show (y 1).val < 64 * k + 64; omega⟩
        | ⟨2, _⟩ => exact ⟨Nat.zero_le _, by show (y 2).val < 0 + 128; omega⟩
      by_cases c2 : (y 0).val = 2
      · exact mem_head (key 2 _ (k2_off10_inb i31 ⟨k, hk'⟩ h31) (k2_off10_eq _) c2)
      by_cases c1 : (y 0).val = 1
      · exact mem_tail (mem_head (key 1 _ (k2_off9_inb i31 ⟨k, hk'⟩ h31) (k2_off9_eq _) c1))
      · exact mem_tail (mem_tail (mem_head (key 0 _ (k2_off8_inb i31 ⟨k, hk'⟩ h31) (k2_off8_eq _) (by omega))))
    · obtain ⟨p, hp, hy⟩ := cover11 Z M T L k (by omega) y (by omega)
      exact ⟨p, List.mem_cons_of_mem _ (List.mem_cons_of_mem _ (List.mem_cons_of_mem _ hp)), hy⟩

/-- The stored pieces cover the whole. -/
theorem full7 (Z : Vec F S32x512x512 .f32) (M : Vec F S512x128 .f32) (T L : Vec F S512x1 .f32) (y : S512x1.Idx) : ∃ p ∈ p7 Z M T L k2_t1_loop.trips, y ∈ p.1.set := by
  rw [trips1]; exact cover7 Z M T L 8 (by omega) y (y 0).isLt
/-- The stored pieces cover the whole. -/
theorem full8 (Z : Vec F S32x512x512 .f32) (M : Vec F S512x128 .f32) (T L : Vec F S512x1 .f32) (y : S512x1.Idx) : ∃ p ∈ p8 Z M T L k2_t1_loop.trips, y ∈ p.1.set := by
  rw [trips1]; exact cover8 Z M T L 8 (by omega) y (y 0).isLt
/-- The stored pieces cover the whole. -/
theorem full11 (Z : Vec F S32x512x512 .f32) (M : Vec F S512x128 .f32) (T L : Vec F S512x1 .f32) (y : S3x512x128.Idx) : ∃ p ∈ p11 Z M T L k2_t1_loop.trips, y ∈ p.1.set := by
  rw [trips1]; exact cover11 Z M T L 8 (by omega) y (y 1).isLt

/-- The first vocabulary block of a row block. -/
theorem sound_first (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole)
    (h1 : Scalar.cmpi .ne (Scalar.extui (Scalar.cmpi .eq (BitVec.ofNat 32 (i 1).val) 0#32) : BitVec 32) 0#32 = 1#1) (h2 : k2_cond2 i = 1#1) (h3 : ¬ k2_cond3 i = 1#1) (h4 : ¬ k2_cond4 i = 1#1) (x w : Vec F S512x4096 .bf16) (Z : Vec F S32x512x512 .f32) (K : PUnit → sProp 𝕄) :
    iprop(owns (c : Thread nD τ) arg2 fullShare x ∗ owns (c : Thread nD τ) arg3 fullShare w ∗ owns (c : Thread nD τ) arg9 fullShare Z ∗ (∃ d, owns (c : Thread nD τ) arg10 fullShare d)
        ∗ (iprop(∃ Z', ⌜Stored i h2 (k2_pay3 x w) Z Z'⌝ ∗ owns (c : Thread nD τ) arg2 fullShare x ∗ owns (c : Thread nD τ) arg3 fullShare w ∗ owns (c : Thread nD τ) arg9 fullShare Z' ∗ owns (c : Thread nD τ) arg10 fullShare (k2_pay4 x w k2_pay1)) -∗ K ⟨⟩))
      ⊢ wp frame (wpE (defs₀ (F := F)) Variants.none c none) E (cc2_head_min_p i arg2 harg2 arg3 harg3 arg4 harg4 arg5 harg5 arg6 harg6 arg7 harg7 arg8 harg8 arg9 harg9 arg10 harg10 arg11 harg11) K := by
  simp only [cc2_head_min_p_eq_skeleton]; unfold cc2_head_min_p_skel
  unfold owns
  iintro ⟨⟨%f2, %hf2, H2⟩, ⟨%f3, %hf3, H3⟩, ⟨%f9, %hf9, H9⟩, ⟨%d10, %f10, -, H10⟩, Hk⟩
  subst hf2 hf3 hf9
  sl_exec
  sl_step
  iapply Hk
  iexists (arg9.view.read (Elt F) (arg9.view.writes (Elt F) f9 [⟨zr i h2, k2_pay3 (arg2.view.read (Elt F) f2) (arg3.view.read (Elt F) f3)⟩]))
  isplitr; · ipureintro; exact stored_writes i h2 _ arg9 f9
  isplitl [H2]
  · iexists f2; isplitr; · ipureintro; rfl
    iexact H2
  isplitl [H3]
  · iexists f3; isplitr; · ipureintro; rfl
    iexact H3
  isplitl [H9]
  · iexists _; isplitr
    swap; · iexact H9
    ipureintro; rw [readAt_whole arg2.view f2 inb_S512x4096_S512x4096_0_0 (by decide), readAt_whole arg3.view f3 inb_S512x4096_S512x4096_0_0 (by decide)]
  iexists _; isplitr
  swap; · iexact H10
  ipureintro
  refine (read_whole _ _ _ _ _ (by decide)).trans ?_
  unfold sound_first.sl.v21 sound_first.sl.H10_1
  rw [readAt_whole arg2.view f2 inb_S512x4096_S512x4096_0_0 (by decide), readAt_whole arg3.view f3 inb_S512x4096_S512x4096_0_0 (by decide), readCov_whole _ _ _ (by decide)]

/-- A vocabulary block after the first and before the last. -/
theorem sound_mid (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole)
    (h1 : ¬ Scalar.cmpi .ne (Scalar.extui (Scalar.cmpi .eq (BitVec.ofNat 32 (i 1).val) 0#32) : BitVec 32) 0#32 = 1#1) (h2 : k2_cond2 i = 1#1) (h3 : ¬ k2_cond3 i = 1#1) (h4 : ¬ k2_cond4 i = 1#1) (x w : Vec F S512x4096 .bf16) (Z : Vec F S32x512x512 .f32) (M : Vec F S512x128 .f32) (K : PUnit → sProp 𝕄) :
    iprop(owns (c : Thread nD τ) arg2 fullShare x ∗ owns (c : Thread nD τ) arg3 fullShare w ∗ owns (c : Thread nD τ) arg9 fullShare Z ∗ owns (c : Thread nD τ) arg10 fullShare M
        ∗ (iprop(∃ Z', ⌜Stored i h2 (k2_pay3 x w) Z Z'⌝ ∗ owns (c : Thread nD τ) arg2 fullShare x ∗ owns (c : Thread nD τ) arg3 fullShare w ∗ owns (c : Thread nD τ) arg9 fullShare Z' ∗ owns (c : Thread nD τ) arg10 fullShare (k2_pay4 x w M)) -∗ K ⟨⟩))
      ⊢ wp frame (wpE (defs₀ (F := F)) Variants.none c none) E (cc2_head_min_p i arg2 harg2 arg3 harg3 arg4 harg4 arg5 harg5 arg6 harg6 arg7 harg7 arg8 harg8 arg9 harg9 arg10 harg10 arg11 harg11) K := by
  simp only [cc2_head_min_p_eq_skeleton]; unfold cc2_head_min_p_skel
  unfold owns
  iintro ⟨⟨%f2, %hf2, H2⟩, ⟨%f3, %hf3, H3⟩, ⟨%f9, %hf9, H9⟩, ⟨%f10, %hf10, H10⟩, Hk⟩
  subst hf2 hf3 hf9 hf10
  sl_exec
  sl_step
  iapply Hk
  iexists (arg9.view.read (Elt F) (arg9.view.writes (Elt F) f9 [⟨zr i h2, k2_pay3 (arg2.view.read (Elt F) f2) (arg3.view.read (Elt F) f3)⟩]))
  isplitr; · ipureintro; exact stored_writes i h2 _ arg9 f9
  isplitl [H2]
  · iexists f2; isplitr; · ipureintro; rfl
    iexact H2
  isplitl [H3]
  · iexists f3; isplitr; · ipureintro; rfl
    iexact H3
  isplitl [H9]
  · iexists _; isplitr
    swap; · iexact H9
    ipureintro; rw [readAt_whole arg2.view f2 inb_S512x4096_S512x4096_0_0 (by decide), readAt_whole arg3.view f3 inb_S512x4096_S512x4096_0_0 (by decide)]
  iexists _; isplitr
  swap; · iexact H10
  ipureintro
  refine (read_whole _ _ _ _ _ (by decide)).trans ?_
  rw [readAt_whole arg2.view f2 inb_S512x4096_S512x4096_0_0 (by decide), readAt_whole arg3.view f3 inb_S512x4096_S512x4096_0_0 (by decide), readAt_whole arg10.view f10 inb_S512x128_S512x128_0_0 (by decide)]

/-- The last vocabulary block: the row block's thresholds, margins and the numbers the output pass reads. -/
theorem sound_last (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole)
    (h1 : ¬ Scalar.cmpi .ne (Scalar.extui (Scalar.cmpi .eq (BitVec.ofNat 32 (i 1).val) 0#32) : BitVec 32) 0#32 = 1#1) (h2 : k2_cond2 i = 1#1) (h3 : k2_cond3 i = 1#1) (h4 : ¬ k2_cond4 i = 1#1) (x w : Vec F S512x4096 .bf16) (T L : Vec F S512x1 .f32) (Z : Vec F S32x512x512 .f32) (M : Vec F S512x128 .f32) (K : PUnit → sProp 𝕄) :
    iprop(owns (c : Thread nD τ) arg2 fullShare x ∗ owns (c : Thread nD τ) arg3 fullShare w ∗ owns (c : Thread nD τ) arg4 fullShare T ∗ owns (c : Thread nD τ) arg5 fullShare L ∗ (∃ d, owns (c : Thread nD τ) arg7 fullShare d) ∗ (∃ d, owns (c : Thread nD τ) arg8 fullShare d) ∗ owns (c : Thread nD τ) arg9 fullShare Z ∗ owns (c : Thread nD τ) arg10 fullShare M ∗ (∃ d, owns (c : Thread nD τ) arg11 fullShare d)
        ∗ (iprop(∃ Z', ⌜Stored i h2 (k2_pay3 x w) Z Z'⌝ ∗ owns (c : Thread nD τ) arg2 fullShare x ∗ owns (c : Thread nD τ) arg3 fullShare w ∗ owns (c : Thread nD τ) arg4 fullShare T ∗ owns (c : Thread nD τ) arg5 fullShare L ∗ owns (c : Thread nD τ) arg9 fullShare Z' ∗ owns (c : Thread nD τ) arg10 fullShare (k2_pay4 x w M) ∗ owns (c : Thread nD τ) arg7 fullShare (View.canon (p7 Z' (k2_pay4 x w M) T L k2_t1_loop.trips)) ∗ owns (c : Thread nD τ) arg8 fullShare (View.canon (p8 Z' (k2_pay4 x w M) T L k2_t1_loop.trips)) ∗ owns (c : Thread nD τ) arg11 fullShare (View.canon (p11 Z' (k2_pay4 x w M) T L k2_t1_loop.trips))) -∗ K ⟨⟩))
      ⊢ wp frame (wpE (defs₀ (F := F)) Variants.none c none) E (cc2_head_min_p i arg2 harg2 arg3 harg3 arg4 harg4 arg5 harg5 arg6 harg6 arg7 harg7 arg8 harg8 arg9 harg9 arg10 harg10 arg11 harg11) K := by
  simp only [cc2_head_min_p_eq_skeleton]; unfold cc2_head_min_p_skel
  unfold owns
  iintro ⟨⟨%f2, %hf2, H2⟩, ⟨%f3, %hf3, H3⟩, ⟨%f4, %hf4, H4⟩, ⟨%f5, %hf5, H5⟩, ⟨%d7, %f7, -, H7⟩, ⟨%d8, %f8, -, H8⟩, ⟨%f9, %hf9, H9⟩, ⟨%f10, %hf10, H10⟩, ⟨%d11, %f11, -, H11⟩, Hk⟩
  subst hf2 hf3 hf4 hf5 hf9 hf10
  sl_exec
  sl_step
  iapply Hk
  iexists (arg9.view.read (Elt F) (arg9.view.writes (Elt F) f9 [⟨zr i h2, k2_pay3 (arg2.view.read (Elt F) f2) (arg3.view.read (Elt F) f3)⟩]))
  isplitr; · ipureintro; exact stored_writes i h2 _ arg9 f9
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H9]
  · iexists _; isplitr
    swap; · iexact H9
    ipureintro; rw [readAt_whole arg2.view f2 inb_S512x4096_S512x4096_0_0 (by decide), readAt_whole arg3.view f3 inb_S512x4096_S512x4096_0_0 (by decide)]
  isplitl [H10]
  · iexists _; isplitr
    swap; · iexact H10
    ipureintro; refine (read_whole _ _ _ _ _ (by decide)).trans ?_
    rw [readAt_whole arg2.view f2 inb_S512x4096_S512x4096_0_0 (by decide), readAt_whole arg3.view f3 inb_S512x4096_S512x4096_0_0 (by decide), readAt_whole arg10.view f10 inb_S512x128_S512x128_0_0 (by decide)]
  isplitl [H7]
  · iexists _; isplitr
    swap; · iexact H7
    ipureintro; refine (View.read_writes_eq_canon _ _ _ (full7 _ _ _ _)).trans ?_
    unfold sound_last.sl.H10_1
    rw [readAt_whole arg2.view f2 inb_S512x4096_S512x4096_0_0 (by decide), readAt_whole arg3.view f3 inb_S512x4096_S512x4096_0_0 (by decide), readAt_whole arg10.view f10 inb_S512x128_S512x128_0_0 (by decide), read_whole _ _ _ _ _ (by decide)]
  isplitl [H8]
  · iexists _; isplitr
    swap; · iexact H8
    ipureintro; refine (View.read_writes_eq_canon _ _ _ (full8 _ _ _ _)).trans ?_
    unfold sound_last.sl.H10_1
    rw [readAt_whole arg2.view f2 inb_S512x4096_S512x4096_0_0 (by decide), readAt_whole arg3.view f3 inb_S512x4096_S512x4096_0_0 (by decide), readAt_whole arg10.view f10 inb_S512x128_S512x128_0_0 (by decide), read_whole _ _ _ _ _ (by decide)]
  iexists _; isplitr
  swap; · iexact H11
  ipureintro
  refine (View.read_writes_eq_canon _ _ _ (full11 _ _ _ _)).trans ?_
  unfold sound_last.sl.H10_1
  rw [readAt_whole arg2.view f2 inb_S512x4096_S512x4096_0_0 (by decide), readAt_whole arg3.view f3 inb_S512x4096_S512x4096_0_0 (by decide), readAt_whole arg10.view f10 inb_S512x128_S512x128_0_0 (by decide), read_whole _ _ _ _ _ (by decide)]

/-- A step of the output pass. -/
theorem sound_out (c : Dev nD) (E : Set ℕ) (i : grid2.Coords) (arg2 : Memref sig .tc .vmem S512x4096 .bf16) (harg2 : arg2.IsWhole) (arg3 : Memref sig .tc .vmem S512x4096 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S32x512x512 .f32) (harg9 : arg9.IsWhole) (arg10 : Memref sig .tc .vmem S512x128 .f32) (harg10 : arg10.IsWhole) (arg11 : Memref sig .tc .vmem S3x512x128 .f32) (harg11 : arg11.IsWhole)
    (h1 : ¬ Scalar.cmpi .ne (Scalar.extui (Scalar.cmpi .eq (BitVec.ofNat 32 (i 1).val) 0#32) : BitVec 32) 0#32 = 1#1) (h2 : ¬ k2_cond2 i = 1#1) (h3 : ¬ k2_cond3 i = 1#1) (h4 : k2_cond4 i = 1#1) (Z : Vec F S32x512x512 .f32) (St : Vec F S3x512x128 .f32) (K : PUnit → sProp 𝕄) :
    iprop((∃ d, owns (c : Thread nD τ) arg6 fullShare d) ∗ owns (c : Thread nD τ) arg9 fullShare Z ∗ owns (c : Thread nD τ) arg11 fullShare St
        ∗ (iprop(owns (c : Thread nD τ) arg9 fullShare Z ∗ owns (c : Thread nD τ) arg11 fullShare St ∗ owns (c : Thread nD τ) arg6 fullShare (View.canon (p6 i h4 Z St))) -∗ K ⟨⟩))
      ⊢ wp frame (wpE (defs₀ (F := F)) Variants.none c none) E (cc2_head_min_p i arg2 harg2 arg3 harg3 arg4 harg4 arg5 harg5 arg6 harg6 arg7 harg7 arg8 harg8 arg9 harg9 arg10 harg10 arg11 harg11) K := by
  simp only [cc2_head_min_p_eq_skeleton]; unfold cc2_head_min_p_skel
  unfold owns
  iintro ⟨⟨%d6, %f6, -, H6⟩, ⟨%f9, %hf9, H9⟩, ⟨%f11, %hf11, H11⟩, Hk⟩
  subst hf9 hf11
  simp only [k2_part3_eq_skeleton]; unfold k2_part3_skel
  sl_exec
  sl_step
  iapply Hk
  isplitl [H9]
  · iexists f9; isplitr; · ipureintro; rfl
    iexact H9
  isplitl [H11]
  · iexists f11; isplitr; · ipureintro; rfl
    iexact H11
  iexists _; isplitr
  swap; · iexact H6
  ipureintro
  exact View.read_writes_eq_canon _ _ _ (cover6 i h4 (arg9.view.read (Elt F) f9) (arg11.view.read (Elt F) f11))

end Cert.KernelIdeal.R2

end
-- ==== Proof.KernelIdeal.Head.lean ====
/- Region 2 of the kernel, `head_min_p`: what each row block leaves in the scratch buffers and the outputs, its proof data over
   any contents `V` of the buffers the region is entered with, and the body obligation at every grid point. -/
module

public import proofs.«01_k».proof.Proof.KernelIdeal.HeadBody
public import proofs.«01_k».proof.Proof.Gen.KernelIdeal.Regions
public import proofs.«01_k».proof.Proof.Gen.KernelIdeal.Points
public import Idealize.ShloMosaic.Lib.Pipeline.FrameBody
public import Idealize.ShloMosaic.Lib.Pipeline.ValueKit.Geometry
public import Idealize.ShloMosaic.Lib.Pointwise.Index

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of each core's buffers when the region is entered.
variable (V : (c : Dev nD) → (b : Ref sig .tc) → Buf (Elt F) ((c : Thread nD τ).loc b))

/-! ## The grid: which block each window is on, and which conditions hold -/

/-- The block that the window shows at a grid point. -/
theorem idx2_0 : ∀ t : Fin cfg2.N, win2_0.index t = ![t.val / 64, 0] := (by decide +kernel : ∀ t : Fin grid2.N, win2_0.index t = ![t.val / 64, 0])
/-- The block that the window shows at a grid point. -/
theorem idx2_1 : ∀ t : Fin cfg2.N, win2_1.index t = ![min (t.val % 64) 31, 0] :=
  (by decide +kernel : ∀ t : Fin grid2.N, win2_1.index t = ![min (t.val % 64) 31, 0])
/-- The block that the window shows at a grid point. -/
theorem idx2_2 : ∀ t : Fin cfg2.N, win2_2.index t = ![t.val / 64, 0] := (by decide +kernel : ∀ t : Fin grid2.N, win2_2.index t = ![t.val / 64, 0])
/-- The block that the window shows at a grid point. -/
theorem idx2_3 : ∀ t : Fin cfg2.N, win2_3.index t = ![t.val / 64, 0] := (by decide +kernel : ∀ t : Fin grid2.N, win2_3.index t = ![t.val / 64, 0])
/-- The second coordinate of a grid point. -/
theorem coord1 : ∀ t : Fin cfg2.N, (grid2.coords t 1).val = t.val % 64 := (by decide +kernel : ∀ t : Fin grid2.N, (grid2.coords t 1).val = t.val % 64)
/-- When the body's branch is taken. -/
theorem c1_iff : ∀ t : Fin cfg2.N, (Scalar.cmpi .ne (Scalar.extui (Scalar.cmpi .eq (BitVec.ofNat 32 (grid2.coords t 1).val) 0#32) : BitVec 32) 0#32 = 1#1) ↔ t.val % 64 = 0 :=
  (by decide +kernel : ∀ t : Fin grid2.N, (Scalar.cmpi .ne (Scalar.extui (Scalar.cmpi .eq (BitVec.ofNat 32 (grid2.coords t 1).val) 0#32) : BitVec 32) 0#32 = 1#1) ↔ t.val % 64 = 0)
/-- When the body's branch is taken. -/
theorem c2_iff : ∀ t : Fin cfg2.N, k2_cond2 (grid2.coords t) = 1#1 ↔ t.val % 64 < 32 :=
  (by decide +kernel : ∀ t : Fin grid2.N, k2_cond2 (grid2.coords t) = 1#1 ↔ t.val % 64 < 32)
/-- When the body's branch is taken. -/
theorem c3_iff : ∀ t : Fin cfg2.N, k2_cond3 (grid2.coords t) = 1#1 ↔ t.val % 64 = 31 :=
  (by decide +kernel : ∀ t : Fin grid2.N, k2_cond3 (grid2.coords t) = 1#1 ↔ t.val % 64 = 31)
/-- When the body's branch is taken. -/
theorem c4_iff : ∀ t : Fin cfg2.N, k2_cond4 (grid2.coords t) = 1#1 ↔ 32 ≤ t.val % 64 :=
  (by decide +kernel : ∀ t : Fin grid2.N, k2_cond4 (grid2.coords t) = 1#1 ↔ 32 ≤ t.val % 64)
/-- When the body leaves the output's buffer alone. -/
theorem idle4 (t : Fin cfg2.N) : cfg2.idle 4 (grid2.coords t) = !decide (32 ≤ t.val % 64) := by
  show (!(k2_cond4 (grid2.coords t) == 1#1)) = _
  rw [Bool.beq_eq_decide_eq]; simp only [c4_iff]
/-- When the body leaves the output's buffer alone. -/
theorem idle5 (t : Fin cfg2.N) : cfg2.idle 5 (grid2.coords t) = !decide (t.val % 64 = 31) := by
  show (!(k2_cond3 (grid2.coords t) == 1#1)) = _
  rw [Bool.beq_eq_decide_eq]; simp only [c3_iff]
/-- When the body leaves the output's buffer alone. -/
theorem idle6 (t : Fin cfg2.N) : cfg2.idle 6 (grid2.coords t) = !decide (t.val % 64 = 31) := by
  show (!(k2_cond3 (grid2.coords t) == 1#1)) = _
  rw [Bool.beq_eq_decide_eq]; simp only [c3_iff]
/-- When the first output's block is written back. -/
theorem flush2_4 : ∀ t : Fin cfg2.N, (cfg2.win 4).flush t = true ↔ 32 ≤ t.val % 64 :=
  (by decide +kernel : ∀ t : Fin grid2.N, win2_4.flush t = true ↔ 32 ≤ t.val % 64)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is `V`'s and whose
    body leaves the block in place. -/
theorem before0_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is `V`'s and whose
    body leaves the block in place. -/
theorem before0_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is `V`'s and whose
    body leaves the block in place. -/
theorem before0_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is `V`'s and whose
    body leaves the block in place. -/
theorem before0_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The grid point of row block `i` (of 12) and step `k` (of 64). -/
def pt (i k : ℕ) : Fin cfg2.N := ⟨(64 * i + k) % 768, Nat.lt_of_lt_of_eq (Nat.mod_lt _ (by decide)) N_2.symm⟩

/-- There are 768 points. -/
theorem lt768 (t : Fin cfg2.N) : t.val < 768 := Nat.lt_of_lt_of_eq t.isLt N_2
/-- A point's row block or column block. -/
theorem pt_div (t : Fin cfg2.N) : (pt (t.val / 64) 0).val / 64 = t.val / 64 := by
  have := lt768 t; show (64 * (t.val / 64) + 0) % 768 / 64 = _; omega

/-- Row block `i`'s rows of the tokens, -/
def xB (c : Dev nD) (i : ℕ) : Vec F S512x4096 .bf16 := iblk V c 0 (pt i 0)
/-- vocabulary block `j`'s rows of the weights, -/
def wB (c : Dev nD) (j : ℕ) : Vec F S512x4096 .bf16 := iblk V c 1 (pt 0 j)
/-- and row block `i`'s temperatures -/
def tB (c : Dev nD) (i : ℕ) : Vec F S512x1 .f32 := iblk V c 2 (pt i 0)
/-- and logarithms of the threshold's share. -/
def lB (c : Dev nD) (i : ℕ) : Vec F S512x1 .f32 := iblk V c 3 (pt i 0)

/-- The window's block at a point, named by its row or column block. -/
theorem iblk_0 (c : Dev nD) (t : Fin cfg2.N) : iblk V c 0 t = xB V c (t.val / 64) := by
  unfold xB; funext y; blk_ext [iblk, idx2_0, pt_div]
/-- The window's block at a point, named by its row or column block. -/
theorem iblk_1 (c : Dev nD) (t : Fin cfg2.N) (h : t.val % 64 < 32) : iblk V c 1 t = wB V c (t.val % 64) := by
  have e : (pt 0 (t.val % 64)).val % 64 = t.val % 64 := by show (64 * 0 + t.val % 64) % 768 % 64 = _; omega
  unfold wB; funext y; blk_ext [iblk, idx2_1, e]
/-- The window's block at a point, named by its row or column block. -/
theorem iblk_2 (c : Dev nD) (t : Fin cfg2.N) : iblk V c 2 t = tB V c (t.val / 64) := by
  unfold tB; funext y; blk_ext [iblk, idx2_2, pt_div]
/-- The window's block at a point, named by its row or column block. -/
theorem iblk_3 (c : Dev nD) (t : Fin cfg2.N) : iblk V c 3 t = lB V c (t.val / 64) := by
  unfold lB; funext y; blk_ext [iblk, idx2_3, pt_div]

/-! ## What a row block leaves -/

/-- The logits of row block `i`, one block per vocabulary block. -/
def zF (c : Dev nD) (i : ℕ) : Vec F S32x512x512 .f32 := fun y => k2_pay3 (xB V c i) (wB V c (y 0).val) (ix3 0 (y 1) (y 2))
/-- The running maxima after `j` vocabulary blocks. -/
def mF (c : Dev nD) (i : ℕ) : ℕ → Vec F S512x128 .f32
  | 0 => k2_pay1
  | j + 1 => k2_pay4 (xB V c i) (wB V c j) (mF c i j)
/-- The thresholds, -/
def thrF (c : Dev nD) (i : ℕ) : Vec F S512x1 .f32 := View.canon (p7 (zF V c i) (mF V c i 32) (tB V c i) (lB V c i) k2_t1_loop.trips)
/-- the margins -/
def marF (c : Dev nD) (i : ℕ) : Vec F S512x1 .f32 := View.canon (p8 (zF V c i) (mF V c i 32) (tB V c i) (lB V c i) k2_t1_loop.trips)
/-- and the numbers the output pass reads. -/
def stF (c : Dev nD) (i : ℕ) : Vec F S3x512x128 .f32 := View.canon (p11 (zF V c i) (mF V c i 32) (tB V c i) (lB V c i) k2_t1_loop.trips)
/-- The output block of a point of the output pass. -/
def outF (c : Dev nD) (t : Fin cfg2.N) : Vec F S512x512 .bf16 :=
  if h : k2_cond4 (grid2.coords t) = 1#1 then View.canon (p6 (grid2.coords t) h (zF V c (t.val / 64)) (stF V c (t.val / 64)))
  else View.canon []

/-- What the scratch buffers hold before point `n`. -/
def Inv (c : Dev nD) (n : ℕ) (Z : Vec F S32x512x512 .f32) (M : Vec F S512x128 .f32) (St : Vec F S3x512x128 .f32) : Prop :=
  (∀ y : S32x512x512.Idx, (y 0).val < n % 64 → Z y = zF V c (n / 64) y) ∧ (1 ≤ n % 64 → M = mF V c (n / 64) (min (n % 64) 32))
    ∧ (32 ≤ n % 64 → St = stF V c (n / 64))

/-- One more block stored. -/
theorem stored_step (c : Dev nD) (t : Fin cfg2.N) (h2 : k2_cond2 (grid2.coords t) = 1#1) {Z Z' : Vec F S32x512x512 .f32}
    (hZ : ∀ y : S32x512x512.Idx, (y 0).val < t.val % 64 → Z y = zF V c (t.val / 64) y)
    (hs : Stored (grid2.coords t) h2 (k2_pay3 (xB V c (t.val / 64)) (wB V c (t.val % 64))) Z Z') :
    ∀ y : S32x512x512.Idx, (y 0).val < t.val % 64 + 1 → Z' y = zF V c (t.val / 64) y := by
  intro y hy
  have hoff : k2_off1 (grid2.coords t) = ![t.val % 64, 0, 0] := by rw [k2_off1_eq, coord1]
  by_cases hk : (y 0).val = t.val % 64
  · have e : (zr (grid2.coords t) h2).emb (ix3 (n0 := 1) (n1 := 512) (n2 := 512) 0 (y 1) (y 2)) = y := by
      funext a; apply Fin.ext
      rw [ValueKit.rect_emb_unit_val, congrFun hoff a]
      match a with
      | ⟨0, _⟩ => exact hk.symm
      | ⟨1, _⟩ => exact Nat.zero_add _
      | ⟨2, _⟩ => exact Nat.zero_add _
    have := hs.1 (ix3 (n0 := 1) (n1 := 512) (n2 := 512) 0 (y 1) (y 2))
    rw [e] at this
    rw [this]; unfold zF; rw [hk]
  · rw [hs.2 y ?_, hZ y (by omega)]
    intro hm
    have := (Rect.mem_set_unit.1 hm) 0
    rw [hoff] at this
    have h0 : t.val % 64 ≤ (y 0).val := this.1
    have h1 : (y 0).val < t.val % 64 + 1 := this.2
    omega

/-- All of them stored. -/
theorem stored_all (c : Dev nD) (i : ℕ) {Z : Vec F S32x512x512 .f32} (h : ∀ y : S32x512x512.Idx, (y 0).val < 32 → Z y = zF V c i y) :
    Z = zF V c i := funext fun y => h y (y 0).isLt

/-! ## The proof data -/

/-- The scoped buffers that are neither staged by this region nor its scratch. -/
abbrev restBut (c : Dev nD) : sProp 𝕄 :=
  Pipeline.scopedRestBut (Ix := Unit) (Name := ℕ) (U := UR sig nD τ) (Lvl := ℕ) (Val := Elt F) spec2 c [cc2_scratch0, cc2_scratch1, cc2_scratch2]

/-- The region's invariant before point `n`. -/
def phi (c : Dev nD) (n : ℕ) : sProp 𝕄 :=
  iprop(∃ Z, ∃ M, ∃ St, ⌜Inv V c n Z M St⌝ ∗ owns (c : Thread nD τ) (Memref.whole cc2_scratch0) fullShare Z
    ∗ owns (c : Thread nD τ) (Memref.whole cc2_scratch1) fullShare M ∗ owns (c : Thread nD τ) (Memref.whole cc2_scratch2) fullShare St ∗ restBut c)

/-- The scratch buffers among the call's own. -/
theorem scoped_split (c : Dev nD) :
    (Pipeline.scopedRest (Ix := Unit) (Name := ℕ) (U := UR sig nD τ) (Lvl := ℕ) (Val := Elt F) spec2 c : sProp 𝕄)
      = iprop(((∃ f, owns (c : Thread nD τ) (Memref.whole cc2_scratch0) fullShare f) ∗ (∃ f, owns (c : Thread nD τ) (Memref.whole cc2_scratch1) fullShare f)
        ∗ (∃ f, owns (c : Thread nD τ) (Memref.whole cc2_scratch2) fullShare f)) ∗ restBut c) := by
  rw [Pipeline.scopedRest_split_of_list spec2 c [cc2_scratch0, cc2_scratch1, cc2_scratch2] (by decide) (by decide)]
  simp only [owns_whole, bigSepL_cons_cons, bigSepL_singleton]
  rfl

/-- The invariant at a row block's start is the scratch held with any contents. -/
theorem phi_of_scoped (c : Dev nD) (n : ℕ) (h : n % 64 = 0) :
    (Pipeline.scopedRest (Ix := Unit) (Name := ℕ) (U := UR sig nD τ) (Lvl := ℕ) (Val := Elt F) spec2 c : sProp 𝕄) ⊢ phi V c n := by
  rw [scoped_split]; unfold phi
  iintro ⟨⟨⟨%Z, H0⟩, ⟨%M, H1⟩, ⟨%St, H2⟩⟩, HR⟩
  iexists Z; iexists M; iexists St
  isplitr
  · ipureintro
    exact ⟨fun y hy => absurd hy (by omega), fun h' => absurd h' (by omega), fun h' => absurd h' (by omega)⟩
  isplitl [H0]; · iexact H0
  isplitl [H1]; · iexact H1
  isplitl [H2]; · iexact H2
  iexact HR

/-- The invariant at a row block's start is the scratch held with any contents. -/
theorem scoped_of_phi (c : Dev nD) (n : ℕ) :
    phi V c n ⊢ (Pipeline.scopedRest (Ix := Unit) (Name := ℕ) (U := UR sig nD τ) (Lvl := ℕ) (Val := Elt F) spec2 c : sProp 𝕄) := by
  rw [scoped_split]; unfold phi
  iintro ⟨%Z, %M, %St, -, H0, H1, H2, HR⟩
  isplitr [HR]
  · isplitl [H0]; · iexists Z; iexact H0
    isplitl [H1]; · iexists M; iexact H1
    iexists St; iexact H2
  iexact HR

/-- The proof data of the pipeline on core `c`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => outF V c t
    | ⟨5, _⟩ => thrF V c (t.val / 64)
    | ⟨6, _⟩ => marF V c (t.val / 64)
  Φ n := phi V c n.val
  q _ := fullShare
  owed _ := 0

/-- The arrays at entry. -/
theorem A_eq (c : Dev nD) (w : Fin cfg2.W) : (dat V c).A w = V c (Pipeline.arrRef spec2 w) := by
  dsimp only [dat]
/-- What the body leaves in the window's buffer. -/
theorem after0_0 (c : Dev nD) (t : Fin cfg2.N) : (dat V c).after 0 t = iblk V c 0 t := by dsimp only [dat]
/-- What the body leaves in the window's buffer. -/
theorem after0_1 (c : Dev nD) (t : Fin cfg2.N) : (dat V c).after 1 t = iblk V c 1 t := by dsimp only [dat]
/-- What the body leaves in the window's buffer. -/
theorem after0_2 (c : Dev nD) (t : Fin cfg2.N) : (dat V c).after 2 t = iblk V c 2 t := by dsimp only [dat]
/-- What the body leaves in the window's buffer. -/
theorem after0_3 (c : Dev nD) (t : Fin cfg2.N) : (dat V c).after 3 t = iblk V c 3 t := by dsimp only [dat]
/-- What the body leaves in the window's buffer. -/
theorem after0_4 (c : Dev nD) (t : Fin cfg2.N) : (dat V c).after 4 t = outF V c t := by dsimp only [dat]
/-- What the body leaves in the window's buffer. -/
theorem after0_5 (c : Dev nD) (t : Fin cfg2.N) : (dat V c).after 5 t = thrF V c (t.val / 64) := by dsimp only [dat]
/-- What the body leaves in the window's buffer. -/
theorem after0_6 (c : Dev nD) (t : Fin cfg2.N) : (dat V c).after 6 t = marF V c (t.val / 64) := by dsimp only [dat]
/-- What the body finds in the window's buffer. -/
theorem before0_0 (c : Dev nD) (t : Fin cfg2.N) (d) : (dat V c).before 0 t d = iblk V c 0 t :=
  before0_0_of V (dat V c) (A_eq V c 0) (after0_0 V c) t d
/-- What the body finds in the window's buffer. -/
theorem before0_1 (c : Dev nD) (t : Fin cfg2.N) (d) : (dat V c).before 1 t d = iblk V c 1 t :=
  before0_1_of V (dat V c) (A_eq V c 1) (after0_1 V c) t d
/-- What the body finds in the window's buffer. -/
theorem before0_2 (c : Dev nD) (t : Fin cfg2.N) (d) : (dat V c).before 2 t d = iblk V c 2 t :=
  before0_2_of V (dat V c) (A_eq V c 2) (after0_2 V c) t d
/-- What the body finds in the window's buffer. -/
theorem before0_3 (c : Dev nD) (t : Fin cfg2.N) (d) : (dat V c).before 3 t d = iblk V c 3 t :=
  before0_3_of V (dat V c) (A_eq V c 3) (after0_3 V c) t d

/-- After its row block's last vocabulary block, window 5's buffer is carried to the end of the row block. -/
theorem before0_5 (c : Dev nD) (m : ℕ) : ∀ (t : Fin cfg2.N) (d), t.val % 64 = 32 + m → (dat V c).before 5 t d = thrF V c (t.val / 64) := by
  induction m with
  | zero =>
    intro t d ht
    have hp : (cfg2.win 5).flush ⟨t.val - 1, Nat.lt_of_le_of_lt (Nat.sub_le _ _) t.isLt⟩ = false :=
      Bool.eq_false_iff.2 fun h => by have := (flush2_5 _).1 h; simp only at this; omega
    rw [(dat V c).before_of_pos 5 t (by omega) ((cfg2.win 5).fetch_out rfl t), hp, if_neg Bool.false_ne_true]
    have hi : cfg2.idle 5 (cfg2.grid.coords ⟨t.val - 1, Nat.lt_of_le_of_lt (Nat.sub_le _ _) t.isLt⟩) = false := by
      refine (idle5 _).trans ?_; simp only [Bool.not_eq_false', decide_eq_true_eq]; omega
    unfold Dat.left; rw [hi]
    show (dat V c).kept 5 _ d = _
    unfold Dat.kept
    rw [Pipeline.fill_of_clip_none (cfg := cfg2) 5 _ (fun _ => rfl) d ((dat V c).after 5 _), Window.fill_cut, after0_5]
    congr 1; show (t.val - 1) / 64 = _; omega
  | succ m ih =>
    intro t d ht
    have hp : (cfg2.win 5).flush ⟨t.val - 1, Nat.lt_of_le_of_lt (Nat.sub_le _ _) t.isLt⟩ = false :=
      Bool.eq_false_iff.2 fun h => by have := (flush2_5 _).1 h; simp only at this; omega
    rw [(dat V c).before_of_pos 5 t (by omega) ((cfg2.win 5).fetch_out rfl t), hp, if_neg Bool.false_ne_true]
    have hi : cfg2.idle 5 (cfg2.grid.coords ⟨t.val - 1, Nat.lt_of_le_of_lt (Nat.sub_le _ _) t.isLt⟩) = true := by
      refine (idle5 _).trans ?_; simp only [Bool.not_eq_true', decide_eq_false_iff_not]; omega
    unfold Dat.left; rw [hi]
    show (dat V c).before 5 _ d = _
    rw [ih _ d (by show (t.val - 1) % 64 = _; omega)]
    congr 1; show (t.val - 1) / 64 = _; omega

/-- After its row block's last vocabulary block, window 6's buffer is carried to the end of the row block. -/
theorem before0_6 (c : Dev nD) (m : ℕ) : ∀ (t : Fin cfg2.N) (d), t.val % 64 = 32 + m → (dat V c).before 6 t d = marF V c (t.val / 64) := by
  induction m with
  | zero =>
    intro t d ht
    have hp : (cfg2.win 6).flush ⟨t.val - 1, Nat.lt_of_le_of_lt (Nat.sub_le _ _) t.isLt⟩ = false :=
      Bool.eq_false_iff.2 fun h => by have := (flush2_6 _).1 h; simp only at this; omega
    rw [(dat V c).before_of_pos 6 t (by omega) ((cfg2.win 6).fetch_out rfl t), hp, if_neg Bool.false_ne_true]
    have hi : cfg2.idle 6 (cfg2.grid.coords ⟨t.val - 1, Nat.lt_of_le_of_lt (Nat.sub_le _ _) t.isLt⟩) = false := by
      refine (idle6 _).trans ?_; simp only [Bool.not_eq_false', decide_eq_true_eq]; omega
    unfold Dat.left; rw [hi]
    show (dat V c).kept 6 _ d = _
    unfold Dat.kept
    rw [Pipeline.fill_of_clip_none (cfg := cfg2) 6 _ (fun _ => rfl) d ((dat V c).after 6 _), Window.fill_cut, after0_6]
    congr 1; show (t.val - 1) / 64 = _; omega
  | succ m ih =>
    intro t d ht
    have hp : (cfg2.win 6).flush ⟨t.val - 1, Nat.lt_of_le_of_lt (Nat.sub_le _ _) t.isLt⟩ = false :=
      Bool.eq_false_iff.2 fun h => by have := (flush2_6 _).1 h; simp only at this; omega
    rw [(dat V c).before_of_pos 6 t (by omega) ((cfg2.win 6).fetch_out rfl t), hp, if_neg Bool.false_ne_true]
    have hi : cfg2.idle 6 (cfg2.grid.coords ⟨t.val - 1, Nat.lt_of_le_of_lt (Nat.sub_le _ _) t.isLt⟩) = true := by
      refine (idle6 _).trans ?_; simp only [Bool.not_eq_true', decide_eq_false_iff_not]; omega
    unfold Dat.left; rw [hi]
    show (dat V c).before 6 _ d = _
    rw [ih _ d (by show (t.val - 1) % 64 = _; omega)]
    congr 1; show (t.val - 1) / 64 = _; omega

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t) ∗ owns (c : Thread nD τ) (st2_1 t) fullShare ((dat V c).after 1 t) ∗ owns (c : Thread nD τ) (st2_2 t) fullShare ((dat V c).after 2 t) ∗ owns (c : Thread nD τ) (st2_3 t) fullShare ((dat V c).after 3 t)
    ∗ (dat V c).leavesExact 4 t ∗ (dat V c).leavesExact 5 t ∗ (dat V c).leavesExact 6 t)

/-- What a window's buffer holds after the body. -/
theorem leaves_live (c : Dev nD) (w : Fin cfg2.W) (t : Fin cfg2.N) (h : cfg2.idle w (cfg2.grid.coords t) = false) :
    (dat V c).leavesExact w t = owns (c : Thread nD τ) ((cfg2.win w).stage (cfg2.slots t w)) fullShare ((dat V c).after w t) := by
  unfold Dat.leavesExact; rw [h]
/-- What a window's buffer holds after the body. -/
theorem leaves_flush (c : Dev nD) (w : Fin cfg2.W) (t : Fin cfg2.N) (h : cfg2.idle w (cfg2.grid.coords t) = true) (hf : (cfg2.win w).flush t = true) :
    (dat V c).leavesExact w t = owns (c : Thread nD τ) ((cfg2.win w).stage (cfg2.slots t w)) fullShare ((dat V c).after w t) := by
  unfold Dat.leavesExact; rw [h, hf]

/-- The body at the first step of a row block. -/
theorem body_first (c : Dev nD) (t : Fin cfg2.N) (h0 : t.val % 64 = 0) :
    bodyPre V c t ⊢ wp frame (wpE (defs₀ (F := F)) Variants.none c none) Set.univ (bodyAt2 t) (fun _ => bodyPost V c t) := by
  have hN := lt768 t
  have e64 : (t.val + 1) % 64 = t.val % 64 + 1 := by omega
  have d64 : (t.val + 1) / 64 = t.val / 64 := by omega
  unfold bodyPre bodyPost bodyAt2
  rw [show (dat V c).Φ t.succ = phi V c (t.val + 1) from rfl, show (dat V c).Φ t.castSucc = phi V c t.val from rfl,
    show (dat V c).owesAt () t.succ = (dat V c).owesAt () t.castSucc from rfl, after0_0, after0_1, after0_2, after0_3]
  simp only [before0_0, before0_1, before0_2, before0_3]
  unfold phi
  rw [(dat V c).leavesExact_idle 4 t ((idle4 t).trans (by simp only [Bool.not_eq_true', decide_eq_false_iff_not]; omega)) (Bool.eq_false_iff.2 fun h => by have := (flush2_4 t).1 h; omega), (dat V c).leavesExact_idle 5 t ((idle5 t).trans (by simp only [Bool.not_eq_true', decide_eq_false_iff_not]; omega)) (Bool.eq_false_iff.2 fun h => by have := (flush2_5 t).1 h; omega), (dat V c).leavesExact_idle 6 t ((idle6 t).trans (by simp only [Bool.not_eq_true', decide_eq_false_iff_not]; omega)) (Bool.eq_false_iff.2 fun h => by have := (flush2_6 t).1 h; omega), iblk_0, iblk_1 V c t (by omega)]
  iintro ⟨⟨%Z, %M, %St, %hI, HZ, HM, HS, HR⟩, Ho, ⟨%d0, H0⟩, ⟨%d1, H1⟩, ⟨%d2, H2⟩, ⟨%d3, H3⟩, ⟨%d4, H4⟩, ⟨%d5, H5⟩, ⟨%d6, H6⟩⟩
  iapply (sound_first c Set.univ (grid2.coords t) _ _ _ _ _ _ _ _ _ _ _ _ _ _ _ _ _ _ _ _ ((c1_iff t).2 h0) ((c2_iff t).2 (by omega)) (fun h => by have := (c3_iff t).1 h; omega) (fun h => by have := (c4_iff t).1 h; omega) _ _ Z _)
  isplitl [H0]; · iexact H0
  isplitl [H1]; · iexact H1
  isplitl [HZ]; · iexact HZ
  isplitl [HM]; · iexists _; iexact HM
  iintro ⟨%Z', %hs, H0, H1, HZ, HM⟩
  isplitl [HZ HM HS HR]
  · iexists Z'; iexists _; iexists _
    isplitr
    swap
    · isplitl [HZ]; · iexact HZ
      isplitl [HM]; · iexact HM
      isplitl [HS]; · iexact HS
      iexact HR
    ipureintro
    refine ⟨?_, fun _ => ?_, fun h => absurd h (by omega)⟩
    · rw [e64, d64]; exact stored_step V c t _ hI.1 hs
    · rw [e64, d64, h0]; rfl
  isplitl [Ho]; · iexact Ho
  isplitl [H0]; · iexact H0
  isplitl [H1]; · iexact H1
  isplitl [H2]; · iexact H2
  isplitl [H3]; · iexact H3
  isplitl [H4]; · iexists d4; iexact H4
  isplitl [H5]; · iexists d5; iexact H5
  iexists d6; iexact H6

/-- The body at a later step before the last vocabulary block. -/
theorem body_mid (c : Dev nD) (t : Fin cfg2.N) (h0 : t.val % 64 ≠ 0) (h31 : t.val % 64 < 31) :
    bodyPre V c t ⊢ wp frame (wpE (defs₀ (F := F)) Variants.none c none) Set.univ (bodyAt2 t) (fun _ => bodyPost V c t) := by
  have hN := lt768 t
  have e64 : (t.val + 1) % 64 = t.val % 64 + 1 := by omega
  have d64 : (t.val + 1) / 64 = t.val / 64 := by omega
  unfold bodyPre bodyPost bodyAt2
  rw [show (dat V c).Φ t.succ = phi V c (t.val + 1) from rfl, show (dat V c).Φ t.castSucc = phi V c t.val from rfl,
    show (dat V c).owesAt () t.succ = (dat V c).owesAt () t.castSucc from rfl, after0_0, after0_1, after0_2, after0_3]
  simp only [before0_0, before0_1, before0_2, before0_3]
  unfold phi
  rw [(dat V c).leavesExact_idle 4 t ((idle4 t).trans (by simp only [Bool.not_eq_true', decide_eq_false_iff_not]; omega)) (Bool.eq_false_iff.2 fun h => by have := (flush2_4 t).1 h; omega), (dat V c).leavesExact_idle 5 t ((idle5 t).trans (by simp only [Bool.not_eq_true', decide_eq_false_iff_not]; omega)) (Bool.eq_false_iff.2 fun h => by have := (flush2_5 t).1 h; omega), (dat V c).leavesExact_idle 6 t ((idle6 t).trans (by simp only [Bool.not_eq_true', decide_eq_false_iff_not]; omega)) (Bool.eq_false_iff.2 fun h => by have := (flush2_6 t).1 h; omega), iblk_0, iblk_1 V c t (by omega)]
  iintro ⟨⟨%Z, %M, %St, %hI, HZ, HM, HS, HR⟩, Ho, ⟨%d0, H0⟩, ⟨%d1, H1⟩, ⟨%d2, H2⟩, ⟨%d3, H3⟩, ⟨%d4, H4⟩, ⟨%d5, H5⟩, ⟨%d6, H6⟩⟩
  iapply (sound_mid c Set.univ (grid2.coords t) _ _ _ _ _ _ _ _ _ _ _ _ _ _ _ _ _ _ _ _ (fun h => h0 ((c1_iff t).1 h)) ((c2_iff t).2 (by omega)) (fun h => by have := (c3_iff t).1 h; omega) (fun h => by have := (c4_iff t).1 h; omega) _ _ Z M _)
  isplitl [H0]; · iexact H0
  isplitl [H1]; · iexact H1
  isplitl [HZ]; · iexact HZ
  isplitl [HM]; · iexact HM
  iintro ⟨%Z', %hs, H0, H1, HZ, HM⟩
  isplitl [HZ HM HS HR]
  · iexists Z'; iexists _; iexists _
    isplitr
    swap
    · isplitl [HZ]; · iexact HZ
      isplitl [HM]; · iexact HM
      isplitl [HS]; · iexact HS
      iexact HR
    ipureintro
    refine ⟨?_, fun _ => ?_, fun h => absurd h (by omega)⟩
    · rw [e64, d64]; exact stored_step V c t _ hI.1 hs
    · rw [e64, d64, hI.2.1 (by omega), Nat.min_eq_left (by omega), Nat.min_eq_left (by omega)]; rfl
  isplitl [Ho]; · iexact Ho
  isplitl [H0]; · iexact H0
  isplitl [H1]; · iexact H1
  isplitl [H2]; · iexact H2
  isplitl [H3]; · iexact H3
  isplitl [H4]; · iexists d4; iexact H4
  isplitl [H5]; · iexists d5; iexact H5
  iexists d6; iexact H6

/-- The body at the last vocabulary block. -/
theorem body_last (c : Dev nD) (t : Fin cfg2.N) (h31 : t.val % 64 = 31) :
    bodyPre V c t ⊢ wp frame (wpE (defs₀ (F := F)) Variants.none c none) Set.univ (bodyAt2 t) (fun _ => bodyPost V c t) := by
  have hN := lt768 t
  have e64 : (t.val + 1) % 64 = t.val % 64 + 1 := by omega
  have d64 : (t.val + 1) / 64 = t.val / 64 := by omega
  unfold bodyPre bodyPost bodyAt2
  rw [show (dat V c).Φ t.succ = phi V c (t.val + 1) from rfl, show (dat V c).Φ t.castSucc = phi V c t.val from rfl,
    show (dat V c).owesAt () t.succ = (dat V c).owesAt () t.castSucc from rfl, after0_0, after0_1, after0_2, after0_3]
  simp only [before0_0, before0_1, before0_2, before0_3]
  unfold phi
  rw [(dat V c).leavesExact_idle 4 t ((idle4 t).trans (by simp only [Bool.not_eq_true', decide_eq_false_iff_not]; omega)) (Bool.eq_false_iff.2 fun h => by have := (flush2_4 t).1 h; omega), leaves_live V c 5 t ((idle5 t).trans (by simp only [Bool.not_eq_false', decide_eq_true_eq]; omega)), leaves_live V c 6 t ((idle6 t).trans (by simp only [Bool.not_eq_false', decide_eq_true_eq]; omega)), after0_5, after0_6, iblk_0, iblk_1 V c t (by omega), iblk_2, iblk_3]
  iintro ⟨⟨%Z, %M, %St, %hI, HZ, HM, HS, HR⟩, Ho, ⟨%d0, H0⟩, ⟨%d1, H1⟩, ⟨%d2, H2⟩, ⟨%d3, H3⟩, ⟨%d4, H4⟩, ⟨%d5, H5⟩, ⟨%d6, H6⟩⟩
  have hM : k2_pay4 (xB V c (t.val / 64)) (wB V c (t.val % 64)) M = mF V c (t.val / 64) 32 := by
    rw [hI.2.1 (by omega), Nat.min_eq_left (by omega), h31]; rfl
  iapply (sound_last c Set.univ (grid2.coords t) _ _ _ _ _ _ _ _ _ _ _ _ _ _ _ _ _ _ _ _ (fun h => by have := (c1_iff t).1 h; omega) ((c2_iff t).2 (by omega)) ((c3_iff t).2 h31) (fun h => by have := (c4_iff t).1 h; omega) _ _ _ _ Z M _)
  isplitl [H0]; · iexact H0
  isplitl [H1]; · iexact H1
  isplitl [H2]; · iexact H2
  isplitl [H3]; · iexact H3
  isplitl [H5]; · iexists _; iexact H5
  isplitl [H6]; · iexists _; iexact H6
  isplitl [HZ]; · iexact HZ
  isplitl [HM]; · iexact HM
  isplitl [HS]; · iexists _; iexact HS
  rw [hM]
  iintro ⟨%Z', %hs, H0, H1, H2, H3, HZ, HM, H5, H6, HS⟩
  have hZ : Z' = zF V c (t.val / 64) := stored_all V c _ fun y hy => stored_step V c t _ hI.1 hs y (by omega)
  subst hZ
  isplitl [HZ HM HS HR]
  · iexists _; iexists _; iexists _
    isplitr
    swap
    · isplitl [HZ]; · iexact HZ
      isplitl [HM]; · iexact HM
      isplitl [HS]; · iexact HS
      iexact HR
    ipureintro
    refine ⟨fun y _ => ?_, fun _ => ?_, fun _ => ?_⟩
    · rw [d64]
    · rw [d64, Nat.min_eq_right (by omega)]
    · rw [d64]; rfl
  isplitl [Ho]; · iexact Ho
  isplitl [H0]; · iexact H0
  isplitl [H1]; · iexact H1
  isplitl [H2]; · iexact H2
  isplitl [H3]; · iexact H3
  isplitl [H4]; · iexists d4; iexact H4
  isplitl [H5]; · iexact H5
  iexact H6

/-- The body at a step of the output pass before its last. -/
theorem body_out (c : Dev nD) (t : Fin cfg2.N) (h32 : 32 ≤ t.val % 64) (h63 : t.val % 64 < 63) :
    bodyPre V c t ⊢ wp frame (wpE (defs₀ (F := F)) Variants.none c none) Set.univ (bodyAt2 t) (fun _ => bodyPost V c t) := by
  have hN := lt768 t
  have e64 : (t.val + 1) % 64 = t.val % 64 + 1 := by omega
  have d64 : (t.val + 1) / 64 = t.val / 64 := by omega
  unfold bodyPre bodyPost bodyAt2
  rw [show (dat V c).Φ t.succ = phi V c (t.val + 1) from rfl, show (dat V c).Φ t.castSucc = phi V c t.val from rfl,
    show (dat V c).owesAt () t.succ = (dat V c).owesAt () t.castSucc from rfl, after0_0, after0_1, after0_2, after0_3]
  simp only [before0_0, before0_1, before0_2, before0_3]
  unfold phi
  have h4 := (c4_iff t).2 h32
  rw [leaves_live V c 4 t ((idle4 t).trans (by simp only [Bool.not_eq_false', decide_eq_true_eq]; omega)), (dat V c).leavesExact_idle 5 t ((idle5 t).trans (by simp only [Bool.not_eq_true', decide_eq_false_iff_not]; omega)) (Bool.eq_false_iff.2 fun h => by have := (flush2_5 t).1 h; omega), (dat V c).leavesExact_idle 6 t ((idle6 t).trans (by simp only [Bool.not_eq_true', decide_eq_false_iff_not]; omega)) (Bool.eq_false_iff.2 fun h => by have := (flush2_6 t).1 h; omega), after0_4]
  iintro ⟨⟨%Z, %M, %St, %hI, HZ, HM, HS, HR⟩, Ho, ⟨%d0, H0⟩, ⟨%d1, H1⟩, ⟨%d2, H2⟩, ⟨%d3, H3⟩, ⟨%d4, H4⟩, ⟨%d5, H5⟩, ⟨%d6, H6⟩⟩
  have hZ : Z = zF V c (t.val / 64) := stored_all V c _ fun y hy => hI.1 y (by omega)
  have hS : St = stF V c (t.val / 64) := hI.2.2 h32
  have hM : M = mF V c (t.val / 64) 32 := by rw [hI.2.1 (by omega), Nat.min_eq_right h32]
  have hO : outF V c t = View.canon (p6 (grid2.coords t) h4 (zF V c (t.val / 64)) (stF V c (t.val / 64))) := by unfold outF; rw [dif_pos h4]
  subst hZ hS
  rw [hO]
  iapply (sound_out c Set.univ (grid2.coords t) _ _ _ _ _ _ _ _ _ _ _ _ _ _ _ _ _ _ _ _ (fun h => by have := (c1_iff t).1 h; omega) (fun h => by have := (c2_iff t).1 h; omega) (fun h => by have := (c3_iff t).1 h; omega) h4 _ _ _)
  isplitl [H4]; · iexists _; iexact H4
  isplitl [HZ]; · iexact HZ
  isplitl [HS]; · iexact HS
  iintro ⟨HZ, HS, H4⟩
  isplitl [HZ HM HS HR]
  · iexists _; iexists _; iexists _
    isplitr
    swap
    · isplitl [HZ]; · iexact HZ
      isplitl [HM]; · iexact HM
      isplitl [HS]; · iexact HS
      iexact HR
    ipureintro
    refine ⟨fun y _ => ?_, fun _ => ?_, fun _ => ?_⟩
    · rw [d64]
    · rw [d64, Nat.min_eq_right (by omega)]; exact hM
    · rw [d64]
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  iexists d6; iexact H6

/-- The body at the last step of a row block. -/
theorem body_end (c : Dev nD) (t : Fin cfg2.N) (h63 : t.val % 64 = 63) :
    bodyPre V c t ⊢ wp frame (wpE (defs₀ (F := F)) Variants.none c none) Set.univ (bodyAt2 t) (fun _ => bodyPost V c t) := by
  have hN := lt768 t
  have h32 : 32 ≤ t.val % 64 := by omega
  unfold bodyPre bodyPost bodyAt2
  rw [show (dat V c).Φ t.succ = phi V c (t.val + 1) from rfl, show (dat V c).Φ t.castSucc = phi V c t.val from rfl,
    show (dat V c).owesAt () t.succ = (dat V c).owesAt () t.castSucc from rfl, after0_0, after0_1, after0_2, after0_3]
  simp only [before0_0, before0_1, before0_2, before0_3]
  unfold phi
  have h4 := (c4_iff t).2 h32
  rw [leaves_live V c 4 t ((idle4 t).trans (by simp only [Bool.not_eq_false', decide_eq_true_eq]; omega)), leaves_flush V c 5 t ((idle5 t).trans (by simp only [Bool.not_eq_true', decide_eq_false_iff_not]; omega)) ((flush2_5 t).2 (by omega)), leaves_flush V c 6 t ((idle6 t).trans (by simp only [Bool.not_eq_true', decide_eq_false_iff_not]; omega)) ((flush2_6 t).2 (by omega)), after0_4, after0_5, after0_6]
  simp only [before0_5 V c (t.val % 64 - 32) t _ (by omega), before0_6 V c (t.val % 64 - 32) t _ (by omega)]
  iintro ⟨⟨%Z, %M, %St, %hI, HZ, HM, HS, HR⟩, Ho, ⟨%d0, H0⟩, ⟨%d1, H1⟩, ⟨%d2, H2⟩, ⟨%d3, H3⟩, ⟨%d4, H4⟩, ⟨%d5, H5⟩, ⟨%d6, H6⟩⟩
  have hZ : Z = zF V c (t.val / 64) := stored_all V c _ fun y hy => hI.1 y (by omega)
  have hS : St = stF V c (t.val / 64) := hI.2.2 h32
  have hM : M = mF V c (t.val / 64) 32 := by rw [hI.2.1 (by omega), Nat.min_eq_right h32]
  have hO : outF V c t = View.canon (p6 (grid2.coords t) h4 (zF V c (t.val / 64)) (stF V c (t.val / 64))) := by unfold outF; rw [dif_pos h4]
  subst hZ hS
  rw [hO]
  iapply (sound_out c Set.univ (grid2.coords t) _ _ _ _ _ _ _ _ _ _ _ _ _ _ _ _ _ _ _ _ (fun h => by have := (c1_iff t).1 h; omega) (fun h => by have := (c2_iff t).1 h; omega) (fun h => by have := (c3_iff t).1 h; omega) h4 _ _ _)
  isplitl [H4]; · iexists _; iexact H4
  isplitl [HZ]; · iexact HZ
  isplitl [HS]; · iexact HS
  iintro ⟨HZ, HS, H4⟩
  isplitl [HZ HM HS HR]
  · iexists _; iexists _; iexists _
    isplitr
    swap
    · isplitl [HZ]; · iexact HZ
      isplitl [HM]; · iexact HM
      isplitl [HS]; · iexact HS
      iexact HR
    ipureintro
    exact ⟨fun y hy => absurd hy (by omega), fun h => absurd h (by omega), fun h => absurd h (by omega)⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfg2.N) :
    bodyPre V c t ⊢ wp frame (wpE (defs₀ (F := F)) Variants.none c none) Set.univ (bodyAt2 t) (fun _ => bodyPost V c t) := by
  by_cases h0 : t.val % 64 = 0
  · exact body_first V c t h0
  by_cases h1 : t.val % 64 < 31
  · exact body_mid V c t h0 h1
  by_cases h2 : t.val % 64 = 31
  · exact body_last V c t h2
  by_cases h3 : t.val % 64 < 63
  · exact body_out V c t (by omega) h3
  · exact body_end V c t (by omega)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.R2

end
-- ==== Proof.KernelIdeal.Run.lean ====
/- The kernel program's run: its three regions chained between the two host stretches, over the contents each one leaves
   (`W1` … `W5`); every execution ends with the arguments as launched and the results at `W5`. -/
module

public import proofs.«01_k».proof.Proof.KernelIdeal.PrepW
public import proofs.«01_k».proof.Proof.KernelIdeal.PrepX
public import proofs.«01_k».proof.Proof.KernelIdeal.Head
public import Idealize.ShloMosaic.Lib.Pipeline.RegionArraysS

@[expose] public section

set_option maxRecDepth 16384

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- A valuation read at the references of the core's own buffers. -/
abbrev atRefs (W : Dev nD → Valuation τ sig (Elt F)) (c : Dev nD) (b : Ref sig .tc) : Buf (Elt F) ((c : Thread nD τ).loc b) :=
  W c (Proc.devRef .tc b)

/-- The contents after the first host stretch. -/
def W1 (c : Dev nD) : Valuation τ sig (Elt F) := Gen.V1 m c
/-- The contents after region 0. -/
def W2 (c : Dev nD) : Valuation τ sig (Elt F) := Pipeline.afterRegion (R0.dat (atRefs (W1 m)) c) (W1 m c)
/-- The contents after region 1. -/
def W3 (c : Dev nD) : Valuation τ sig (Elt F) := Pipeline.afterRegion (R1.dat (atRefs (W2 m)) c) (W2 m c)
/-- The contents after region 2. -/
def W4 (c : Dev nD) : Valuation τ sig (Elt F) := Pipeline.afterRegion (R2.dat (atRefs (W3 m)) c) (W3 m c)
/-- The contents after the last host stretch. -/
def W5 (c : Dev nD) : Valuation τ sig (Elt F) := StableHlo.after hostOps3 (W4 m c)

/-- The call leaves every other array alone. -/
theorem W2_keeps (c : Dev nD) (r : Ref sig .tc) (h : ∀ w : Fin 3, Pipeline.arrRef spec0 w = r → (cfg0.win w).isOut = false) :
    W2 m c r = W1 m c r :=
  Pipeline.afterRegion_keeps (R0.dat (atRefs (W1 m)) c) (W1 m c) winFacts0.arr_inj (fun w => R0.A_eq _ c w) r h
/-- The call leaves every other array alone. -/
theorem W3_keeps (c : Dev nD) (r : Ref sig .tc) (h : ∀ w : Fin 3, Pipeline.arrRef spec1 w = r → (cfg1.win w).isOut = false) :
    W3 m c r = W2 m c r :=
  Pipeline.afterRegion_keeps (R1.dat (atRefs (W2 m)) c) (W2 m c) winFacts1.arr_inj (fun w => R1.A_eq _ c w) r h
/-- The call leaves every other array alone. -/
theorem W4_keeps (c : Dev nD) (r : Ref sig .tc) (h : ∀ w : Fin 7, Pipeline.arrRef spec2 w = r → (cfg2.win w).isOut = false) :
    W4 m c r = W3 m c r :=
  Pipeline.afterRegion_keeps (R2.dat (atRefs (W3 m)) c) (W3 m c) winFacts2.arr_inj (fun w => R2.A_eq _ c w) r h

/-- A reference no item writes ends as launched. -/
theorem W5_launch (c : Dev nD) (r : Ref sig .tc) (h0 : r ∉ hostOps0_W) (h3 : r ∉ hostOps3_W)
    (k0 : ∀ w : Fin 3, Pipeline.arrRef spec0 w = r → (cfg0.win w).isOut = false)
    (k1 : ∀ w : Fin 3, Pipeline.arrRef spec1 w = r → (cfg1.win w).isOut = false)
    (k2 : ∀ w : Fin 7, Pipeline.arrRef spec2 w = r → (cfg2.win w).isOut = false) :
    W5 m c r = m ((c : Thread nD τ).loc r) :=
  (StableHlo.after_of_writes_sub hostOps3 _ hostOps3_writes h3).trans <| (W4_keeps m c r k2).trans <|
    (W3_keeps m c r k1).trans <| (W2_keeps m c r k0).trans <| (V1_of m c r h0).trans rfl

/-! ## The regions' records -/

/-- The proof data of the three pipelines, each over what it finds. -/
def pdats : (p : Fin 3) → (c : Dev nD) → Dat τ (Elt F) Unit ℕ (UR sig nD τ) ℕ (cfgs p) c
  | ⟨0, _⟩ => R0.dat (atRefs (W1 m))
  | ⟨1, _⟩ => R1.dat (atRefs (W2 m))
  | ⟨2, _⟩ => R2.dat (atRefs (W3 m))
  | ⟨_ + 3, h⟩ => absurd h (by omega)

/-- The level assignment: one index at every cell of a TensorCore. -/
def lvls (g : GSem nD τ sig) : Finset Unit := if g.1.2 = .tc then {()} else ∅

/-- The calls' levels. -/
theorem cut (p : Fin 3) : Pipeline.LevelCut (pcfgs (F := F)) adm () lvls (fun _ _ => (0 : ℕ)) p (fun _ : Dev nD => (0 : CellTallies nD τ sig Unit)) (fun _ => 0) :=
  ⟨fun c w s => by simp [lvls], fun _ _ _ => le_refl _, fun c g i h => absurd h (by simp)⟩

/-- What rides beside the buffers between the items: nothing owed. -/
abbrev E (c : Dev nD) : sProp 𝕄 := iprop((∃ Wd, owes (c : Thread nD τ) (0 : CellTallies nD τ sig Unit) Wd) ∗ emp ∗ emp)

/-- An entailment of the frame. -/
theorem owes_of_E (c : Dev nD) : (E c : sProp 𝕄) ⊢ iprop(∃ Wd, owes (c : Thread nD τ) (0 : CellTallies nD τ sig Unit) Wd) := by
  iintro ⟨H, -⟩; iexact H
/-- An entailment of the frame. -/
theorem add_emp (P : sProp 𝕄) : P ⊢ iprop(P ∗ emp) := by
  iintro H; isplitl [H]; · iexact H
  iempintro

/-- The body's obligation at the call. -/
theorem body0 (c : Dev nD) : Pipeline.BodyObligationLoose (R0.dat (atRefs (W1 m)) c) defs₀ Variants.none () Set.univ :=
  (R0.body_obligation (atRefs (W1 m)) c).loose
/-- The window's share. -/
theorem share0 (c : Dev nD) (w : Fin cfg0.W) : (R0.dat (atRefs (W1 m)) c).share w = fullShare := by
  unfold Dat.share; split <;> rfl
/-- The invariant at the call's start and end. -/
theorem hin0 (c : Dev nD) : (iprop(Pipeline.scopedRest spec0 c ∗ emp) : sProp 𝕄) ⊢ (R0.dat (atRefs (W1 m)) c).Φ 0 := by
  rw [show (R0.dat (atRefs (W1 m)) c).Φ 0 = Pipeline.scopedRest spec0 c from rfl]
  iintro ⟨H, -⟩; iexact H
/-- The invariant at the call's start and end. -/
theorem hout0 (c : Dev nD) : (R0.dat (atRefs (W1 m)) c).Φ (Fin.last cfg0.N) ⊢ iprop(Pipeline.scopedRest spec0 c ∗ emp) := by
  dsimp only [R0.dat]; exact add_emp (F := F) (Pipeline.scopedRest spec0 c)
set_option backward.isDefEq.respectTransparency.types false in
/-- Region 0's record. -/
def seg0' : RegionSeg (pcfgs (F := F)) adm (pdats m) () defs₀ Variants.none lvls (fun _ _ => (0 : ℕ)) 0 :=
  RegionSeg.ofHeldIn (pcfgs (F := F)) adm (pdats m) () defs₀ Variants.none lvls (fun _ _ => (0 : ℕ)) 0 (fun _ => 0)
    (Pipeline.ucRefs τ sig) (fun _ => iprop(emp)) (fun _ => iprop(emp)) launch0.toP rfl
    (fun c => body0 m c) (fun _ _ => rfl) (fun _ => rfl)
    (fun c w => share0 m c w) (fun c => hin0 m c) (fun c => hout0 m c)
    (fun _ => 0) (cut 0) (fun _ => iprop(emp)) (W1 m) (fun c w => R0.A_eq (atRefs (W1 m)) c w)

/-- The body's obligation at the call. -/
theorem body1 (c : Dev nD) : Pipeline.BodyObligationLoose (R1.dat (atRefs (W2 m)) c) defs₀ Variants.none () Set.univ :=
  (R1.body_obligation (atRefs (W2 m)) c).loose
/-- The window's share. -/
theorem share1 (c : Dev nD) (w : Fin cfg1.W) : (R1.dat (atRefs (W2 m)) c).share w = fullShare := by
  unfold Dat.share; split <;> rfl
/-- The invariant at the call's start and end. -/
theorem hin1 (c : Dev nD) : (iprop(Pipeline.scopedRest spec1 c ∗ emp) : sProp 𝕄) ⊢ (R1.dat (atRefs (W2 m)) c).Φ 0 := by
  rw [show (R1.dat (atRefs (W2 m)) c).Φ 0 = Pipeline.scopedRest spec1 c from rfl]
  iintro ⟨H, -⟩; iexact H
/-- The invariant at the call's start and end. -/
theorem hout1 (c : Dev nD) : (R1.dat (atRefs (W2 m)) c).Φ (Fin.last cfg1.N) ⊢ iprop(Pipeline.scopedRest spec1 c ∗ emp) := by
  dsimp only [R1.dat]; exact add_emp (F := F) (Pipeline.scopedRest spec1 c)
set_option backward.isDefEq.respectTransparency.types false in
/-- Region 1's record. -/
def seg1' : RegionSeg (pcfgs (F := F)) adm (pdats m) () defs₀ Variants.none lvls (fun _ _ => (0 : ℕ)) 1 :=
  RegionSeg.ofHeldIn (pcfgs (F := F)) adm (pdats m) () defs₀ Variants.none lvls (fun _ _ => (0 : ℕ)) 1 (fun _ => 0)
    (Pipeline.ucRefs τ sig) (fun _ => iprop(emp)) (fun _ => iprop(emp)) launch1.toP rfl
    (fun c => body1 m c) (fun _ _ => rfl) (fun _ => rfl)
    (fun c w => share1 m c w) (fun c => hin1 m c) (fun c => hout1 m c)
    (fun _ => 0) (cut 1) (fun _ => iprop(emp)) (W2 m) (fun c w => R1.A_eq (atRefs (W2 m)) c w)

/-- The body's obligation at the call. -/
theorem body2 (c : Dev nD) : Pipeline.BodyObligationLoose (R2.dat (atRefs (W3 m)) c) defs₀ Variants.none () Set.univ :=
  (R2.body_obligation (atRefs (W3 m)) c).loose
/-- The window's share. -/
theorem share2 (c : Dev nD) (w : Fin cfg2.W) : (R2.dat (atRefs (W3 m)) c).share w = fullShare := by
  unfold Dat.share; split <;> rfl
/-- The invariant at the call's start and end. -/
theorem hin2 (c : Dev nD) : (iprop(Pipeline.scopedRest spec2 c ∗ emp) : sProp 𝕄) ⊢ (R2.dat (atRefs (W3 m)) c).Φ 0 := by
  rw [show (R2.dat (atRefs (W3 m)) c).Φ 0 = R2.phi (atRefs (W3 m)) c 0 from rfl]
  iintro ⟨H, -⟩
  iapply (R2.phi_of_scoped (atRefs (W3 m)) c 0 rfl); iexact H
/-- The invariant at the call's start and end. -/
theorem hout2 (c : Dev nD) : (R2.dat (atRefs (W3 m)) c).Φ (Fin.last cfg2.N) ⊢ iprop(Pipeline.scopedRest spec2 c ∗ emp) := by
  refine BIBase.Entails.trans ?_ (add_emp (F := F) (Pipeline.scopedRest spec2 c))
  dsimp only [R2.dat]; exact R2.scoped_of_phi (atRefs (W3 m)) c _
set_option backward.isDefEq.respectTransparency.types false in
/-- Region 2's record. -/
def seg2' : RegionSeg (pcfgs (F := F)) adm (pdats m) () defs₀ Variants.none lvls (fun _ _ => (0 : ℕ)) 2 :=
  RegionSeg.ofHeldIn (pcfgs (F := F)) adm (pdats m) () defs₀ Variants.none lvls (fun _ _ => (0 : ℕ)) 2 (fun _ => 0)
    (Pipeline.ucRefs τ sig) (fun _ => iprop(emp)) (fun _ => iprop(emp)) launch2.toP rfl
    (fun c => body2 m c) (fun _ _ => rfl) (fun _ => rfl)
    (fun c w => share2 m c w) (fun c => hin2 m c) (fun c => hout2 m c)
    (fun _ => 0) (cut 2) (fun _ => iprop(emp)) (W3 m) (fun c w => R2.A_eq (atRefs (W3 m)) c w)

/-- The call's arrays are among the program's. -/
theorem arrs0_sub : Pipeline.arrRefs (τ := τ) spec0 ⊆ Pipeline.ucRefs τ sig := by decide
/-- The call's arrays are among the program's. -/
theorem arrs1_sub : Pipeline.arrRefs (τ := τ) spec1 ⊆ Pipeline.ucRefs τ sig := by decide
/-- The call's arrays are among the program's. -/
theorem arrs2_sub : Pipeline.arrRefs (τ := τ) spec2 ⊆ Pipeline.ucRefs τ sig := by decide

set_option backward.isDefEq.respectTransparency.types false in
/-- Region 0 is entered from `W1` and left at `W2`. -/
theorem pre0 (c : Dev nD) : (iprop(StableHlo.held (c : Thread nD τ) (Pipeline.ucRefs τ sig) (W1 m c) ∗ E c) : sProp 𝕄) ⊢ (seg0' m).pre c := by
  show _ ⊢ (iprop(StableHlo.held (c : Thread nD τ) (Pipeline.arrRefs spec0) (W1 m c) ∗ emp
    ∗ (StableHlo.held (c : Thread nD τ) (Pipeline.ucRefs τ sig \ Pipeline.arrRefs spec0) (W1 m c) ∗ emp)
    ∗ ∃ Wd, owes (c : Thread nD τ) (0 : CellTallies nD τ sig Unit) Wd) : sProp 𝕄)
  rw [StableHlo.held_sub_split (c : Thread nD τ) arrs0_sub (W1 m c)]
  iintro ⟨⟨Ha, Hu⟩, HO, -⟩
  isplitl [Ha]; · iexact Ha
  isplitr; · iempintro
  isplitl [Hu]
  · isplitl [Hu]; · iexact Hu
    iempintro
  iexact HO
set_option backward.isDefEq.respectTransparency.types false in
/-- What stands after the call. -/
theorem post0 (c : Dev nD) : (seg0' m).post c ⊢ iprop(StableHlo.held (c : Thread nD τ) (Pipeline.ucRefs τ sig) (W2 m c) ∗ E c) := by
  unfold seg0'; exact RegionSeg.ofHeldIn_post (pcs := pcfgs (F := F)) (p := 0) arrs0_sub c

set_option backward.isDefEq.respectTransparency.types false in
/-- Region 1 is entered from `W2` and left at `W3`. -/
theorem pre1 (c : Dev nD) : (iprop(StableHlo.held (c : Thread nD τ) (Pipeline.ucRefs τ sig) (W2 m c) ∗ E c) : sProp 𝕄) ⊢ (seg1' m).pre c := by
  show _ ⊢ (iprop(StableHlo.held (c : Thread nD τ) (Pipeline.arrRefs spec1) (W2 m c) ∗ emp
    ∗ (StableHlo.held (c : Thread nD τ) (Pipeline.ucRefs τ sig \ Pipeline.arrRefs spec1) (W2 m c) ∗ emp)
    ∗ ∃ Wd, owes (c : Thread nD τ) (0 : CellTallies nD τ sig Unit) Wd) : sProp 𝕄)
  rw [StableHlo.held_sub_split (c : Thread nD τ) arrs1_sub (W2 m c)]
  iintro ⟨⟨Ha, Hu⟩, HO, -⟩
  isplitl [Ha]; · iexact Ha
  isplitr; · iempintro
  isplitl [Hu]
  · isplitl [Hu]; · iexact Hu
    iempintro
  iexact HO
set_option backward.isDefEq.respectTransparency.types false in
/-- What stands after the call. -/
theorem post1 (c : Dev nD) : (seg1' m).post c ⊢ iprop(StableHlo.held (c : Thread nD τ) (Pipeline.ucRefs τ sig) (W3 m c) ∗ E c) := by
  unfold seg1'; exact RegionSeg.ofHeldIn_post (pcs := pcfgs (F := F)) (p := 1) arrs1_sub c

set_option backward.isDefEq.respectTransparency.types false in
/-- Region 2 is entered from `W3` and left at `W4`. -/
theorem pre2 (c : Dev nD) : (iprop(StableHlo.held (c : Thread nD τ) (Pipeline.ucRefs τ sig) (W3 m c) ∗ E c) : sProp 𝕄) ⊢ (seg2' m).pre c := by
  show _ ⊢ (iprop(StableHlo.held (c : Thread nD τ) (Pipeline.arrRefs spec2) (W3 m c) ∗ emp
    ∗ (StableHlo.held (c : Thread nD τ) (Pipeline.ucRefs τ sig \ Pipeline.arrRefs spec2) (W3 m c) ∗ emp)
    ∗ ∃ Wd, owes (c : Thread nD τ) (0 : CellTallies nD τ sig Unit) Wd) : sProp 𝕄)
  rw [StableHlo.held_sub_split (c : Thread nD τ) arrs2_sub (W3 m c)]
  iintro ⟨⟨Ha, Hu⟩, HO, -⟩
  isplitl [Ha]; · iexact Ha
  isplitr; · iempintro
  isplitl [Hu]
  · isplitl [Hu]; · iexact Hu
    iempintro
  iexact HO
set_option backward.isDefEq.respectTransparency.types false in
/-- What stands after the call. -/
theorem post2 (c : Dev nD) : (seg2' m).post c ⊢ iprop(StableHlo.held (c : Thread nD τ) (Pipeline.ucRefs τ sig) (W4 m c) ∗ E c) := by
  unfold seg2'; exact RegionSeg.ofHeldIn_post (pcs := pcfgs (F := F)) (p := 2) arrs2_sub c

/-- The last host stretch, from what region 2 leaves. -/
def seg4' : HostSeg (Ix := Unit) (Name := ℕ) (U := UR sig nD τ) (Lvl := ℕ) (pcfgs (F := F)) defs₀ Variants.none lvls (fun _ _ => (0 : ℕ)) :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W4 m) E

/-- The program's items in order. -/
abbrev segs' (c : Dev nD) : List (Seg (pcfgs (F := F)) adm (pdats m) () defs₀ Variants.none lvls (fun _ _ => (0 : ℕ))) :=
  [.host (Gen.seg0 m Variants.none lvls (fun _ _ => (0 : ℕ)) (fun _ => E)), .region (seg0' m), .region (seg1' m), .region (seg2' m), .host (seg4' m)]

/-- What a final memory holds on core `c`: the arguments as launched, the three results at `W5`. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5))
  ∧ s.mem ((c.tc : Thread nD τ).loc main_v8) = W5 m c main_v8
  ∧ s.mem ((c.tc : Thread nD τ).loc main_v9) = W5 m c main_v9
  ∧ s.mem ((c.tc : Thread nD τ).loc main_v10) = W5 m c main_v10

set_option backward.isDefEq.respectTransparency.types false in
/-- Every execution from memory `m` with zero counters terminates, and ends on every core with the arguments as launched,
    the results at `W5`, and every counter at zero. -/
theorem run (ρ : Dev nD → PrngReg) :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj
    emb₁ defs₀ Variants.none lvls (fun _ _ => (0 : ℕ)) m ρ main
    (segs' m)
    (fun c Q => by
      rewrite [main_chain c, Seg.run_eq_chain,
        show (segs' m c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs', Seg.pipes_host, Seg.pipes_region, Seg.pipes_nil]; decide) (fun _ => 0)
    (fun g h => by simp [lvls, h]) (fun _ => iprop(emp)) (initOf (Pipeline.cells cfgs cellOf_inj) (Pipeline.launchToks cfgs cellOf_inj)) ?_
    (T₀ := fun c => iprop(StableHlo.held (c : Thread nD τ) (Pipeline.ucRefs τ sig) (Gen.V0 m c) ∗ E c))
    (Tₙ := fun c => StableHlo.held (c : Thread nD τ) (Pipeline.ucRefs τ sig) (W5 m c))
    (hch := fun c => ⟨.rfl, pre0 m c, (post0 m c).trans (pre1 m c), (post1 m c).trans (pre2 m c), post2 m c,
      sep_mono .rfl (owes_of_E c)⟩)
    (hinit := ?_) (QY := Ends m)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ (fun c : Dev nD => iprop(StableHlo.held (c : Thread nD τ) (Pipeline.ucRefs τ sig) (Gen.V0 m c) ∗ E c)) : sProp 𝕄) :=
      bigSep_mono fun c _ => by
        rw [← Pipeline.unscopedBufs_held (Ix := Unit) (Name := ℕ) (U := UR sig nD τ) (Lvl := ℕ) c (Gen.V0 m c)]
        show iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp) ⊢ iprop(unscopedBufs c (fun b => m ((c.tc : Thread nD τ).loc b)) ∗ E c)
        iintro ⟨Hb, -, HO, -⟩
        isplitl [Hb]; · iexact Hb
        isplitl [HO]; · iexists ∅; iexact HO
        isplitr <;> iempintro
    iintro ⟨H, -⟩
    imodintro
    iapply hsplit; iexact H
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro
      have hm : ∀ r : Ref sig .tc, ¬ r.isScoped → s'.mem.mem ((c.tc : Thread nD τ).loc r) = W5 m c r := fun r hr =>
        h (Proc.devRef .tc r) (Finset.mem_filter.mpr ⟨StableHlo.devRef_mem_tcRefs r, hr⟩)
      exact ⟨⟨(hm main_arg0 (by decide)).trans (W5_launch m c main_arg0 (by decide) (by decide) (by decide) (by decide) (by decide)),
        (hm main_arg1 (by decide)).trans (W5_launch m c main_arg1 (by decide) (by decide) (by decide) (by decide) (by decide)),
        (hm main_arg2 (by decide)).trans (W5_launch m c main_arg2 (by decide) (by decide) (by decide) (by decide) (by decide)),
        (hm main_arg3 (by decide)).trans (W5_launch m c main_arg3 (by decide) (by decide) (by decide) (by decide) (by decide)),
        (hm main_arg4 (by decide)).trans (W5_launch m c main_arg4 (by decide) (by decide) (by decide) (by decide) (by decide)),
        (hm main_arg5 (by decide)).trans (W5_launch m c main_arg5 (by decide) (by decide) (by decide) (by decide) (by decide))⟩,
        hm main_v8 (by decide), hm main_v9 (by decide), hm main_v10 (by decide)⟩
    · iexact HSI

/-- The frame: the arguments end as launched, every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).1, h.2⟩) (run m ρ)

end Cert.KernelIdeal

end
-- ==== Proof.Decode.lean ====
/- The number formats: a 4-bit float's value, the two ways its bits become that value, and a power-of-two scale's two
   ways. -/
module

public import Idealize.ShloMosaic.Lib.Pipeline.ValueKit
public import Idealize.ShloMosaic.Lib.BitcastFour

@[expose] public section
set_option maxRecDepth 16384
noncomputable section
open Idealize.ShloMosaic
namespace Cert.Decode

/-- The magnitude of a 4-bit float: one sign bit, two of exponent, one of fraction. -/
def e2m1Mag (n : BitVec 4) : ℝ :=
  if n.extractLsb' 0 3 = 0#3 then 0 else if n.extractLsb' 0 3 = 1#3 then 1/2 else if n.extractLsb' 0 3 = 2#3 then 1
  else if n.extractLsb' 0 3 = 3#3 then 3/2 else if n.extractLsb' 0 3 = 4#3 then 2 else if n.extractLsb' 0 3 = 5#3 then 3
  else if n.extractLsb' 0 3 = 6#3 then 4 else 6

/-- The value of a 4-bit float. -/
def e2m1 (n : BitVec 4) : ℝ := if n.getLsbD 3 then - e2m1Mag n else e2m1Mag n

/-- The low (`h = 0`) or high half of a byte. -/
def nib (w : BitVec 8) (h : ℕ) : BitVec 4 := w.extractLsb' (4 * h) 4

/-- A 4-bit float's bits at an 8-bit float's places. -/
def spread (n : BitVec 4) : BitVec 8 := ((n.setWidth 8 <<< 2) &&& 28#8) ||| ((n.setWidth 8 <<< 4) &&& 128#8)

/-- The masks and shifts spread a half's four bits over an fp8 code's. -/
theorem spread_lo : ∀ b : BitVec 8, ((b <<< 2) &&& 28#8) ||| ((b <<< 4) &&& 128#8) = spread (nib b 0) := by decide +kernel
/-- The masks and shifts spread a half's four bits over an fp8 code's. -/
theorem spread_hi : ∀ b : BitVec 8, ((b >>> 2) &&& 28#8) ||| (b &&& 128#8) = spread (nib b 1) := by decide +kernel

/-- The 8-bit float at those bits is the 4-bit float's value over 64. -/
theorem ofBits_spread (n : BitVec 4) : Ideal.ofBits .fp8e4m3 (spread n) * Ideal.ofBits .bf16 0x4280#16 = ((e2m1 n : ℝ) : EReal) := by
  rcases n with ⟨⟨n, h⟩⟩
  have h' : n < 16 := h
  have e : Ideal.ofBits .bf16 0x4280#16 = ((64 : ℝ) : EReal) := by
    simp [Ideal.ofBits, Ideal.ieee]
    rw [← EReal.coe_mul]; norm_num
  rw [e]
  interval_cases n <;>
    (simp [spread, e2m1, e2m1Mag, Ideal.ofBits, Ideal.e4m3fn]
     try (simp only [← EReal.coe_mul, ← EReal.coe_one, ← EReal.coe_neg]; exact congrArg _ (by norm_num)))

/-- The half of a byte as the reference takes it. -/
theorem half0 : ∀ w : BitVec 8, IntOp.andi (IntOp.shrsi .host (w.setWidth 32) 0#32) 15#32 = (nib w 0).setWidth 32 := by decide +kernel
/-- The high half, shifted and masked. -/
theorem half1 : ∀ w : BitVec 8, IntOp.andi (IntOp.shrsi .host (w.setWidth 32) 4#32) 15#32 = (nib w 1).setWidth 32 := by decide +kernel

/-- The reference's choice among constants by the bits of a code. -/
def choose (c : BitVec 32) : EReal :=
  Scalar.select (IntOp.cmpi .ne (IntOp.andi c 4#32) 0#32)
    (Scalar.select (IntOp.cmpi .ne (IntOp.andi c 2#32) 0#32)
      (Scalar.select (IntOp.cmpi .ne (IntOp.andi c 1#32) 0#32) (Ideal.ofBits .f32 1086324736#32) (Ideal.ofBits .f32 1082130432#32))
      (Scalar.select (IntOp.cmpi .ne (IntOp.andi c 1#32) 0#32) (Ideal.ofBits .f32 1077936128#32) (Ideal.ofBits .f32 1073741824#32)))
    (Scalar.select (IntOp.cmpi .ne (IntOp.andi c 2#32) 0#32)
      (Scalar.select (IntOp.cmpi .ne (IntOp.andi c 1#32) 0#32) (Ideal.ofBits .f32 1069547520#32) (1 : EReal))
      (Scalar.select (IntOp.cmpi .ne (IntOp.andi c 1#32) 0#32) (Ideal.ofBits .f32 1056964608#32) (0 : EReal)))

/-- It is the code's value. -/
theorem choose_eq (n : BitVec 4) :
    Scalar.select (IntOp.cmpi .ne (IntOp.andi (n.setWidth 32) 8#32) 0#32) (-choose (n.setWidth 32)) (choose (n.setWidth 32))
      = ((e2m1 n : ℝ) : EReal) := by
  have e6 : Ideal.ofBits .f32 1086324736#32 = ((6 : ℝ) : EReal) := by
    simp [Ideal.ofBits, Ideal.ieee]; simp only [← EReal.coe_mul]; exact congrArg _ (by norm_num)
  have e4 : Ideal.ofBits .f32 1082130432#32 = ((4 : ℝ) : EReal) := by
    simp [Ideal.ofBits, Ideal.ieee]; simp only [← EReal.coe_mul]; exact congrArg _ (by norm_num)
  have e3 : Ideal.ofBits .f32 1077936128#32 = ((3 : ℝ) : EReal) := by
    simp [Ideal.ofBits, Ideal.ieee]; simp only [← EReal.coe_mul]; exact congrArg _ (by norm_num)
  have e2 : Ideal.ofBits .f32 1073741824#32 = ((2 : ℝ) : EReal) := by
    simp [Ideal.ofBits, Ideal.ieee]; simp only [← EReal.coe_mul]; exact congrArg _ (by norm_num)
  have e15 : Ideal.ofBits .f32 1069547520#32 = ((3/2 : ℝ) : EReal) := by
    simp [Ideal.ofBits, Ideal.ieee]; simp only [← EReal.coe_mul]; exact congrArg _ (by norm_num)
  have e05 : Ideal.ofBits .f32 1056964608#32 = ((1/2 : ℝ) : EReal) := by
    simp [Ideal.ofBits, Ideal.ieee]; simp only [← EReal.coe_mul]; exact congrArg _ (by norm_num)
  unfold choose
  rw [e6, e4, e3, e2, e15, e05]
  rcases n with ⟨⟨n, h⟩⟩
  have h' : n < 16 := h
  interval_cases n <;>
    simp [e2m1, e2m1Mag, Scalar.select, IntOp.cmpi, IntOp.andi]

/-- A power-of-two scale: the byte at a 16-bit float's exponent. -/
def scale (s : BitVec 8) : EReal := Ideal.ofBits .bf16 (s.setWidth 16 <<< 7)

/-- A scale byte shifted into the exponent field: sign zero, no fraction, the byte as exponent. -/
theorem scale_bits : ∀ s : BitVec 8, (s.setWidth 16 <<< 7 : BitVec 16).extractLsb' 15 1 = 0#1 ∧
    ((s.setWidth 16 <<< 7 : BitVec 16).extractLsb' 7 8).toNat = s.toNat ∧ ((s.setWidth 16 <<< 7 : BitVec 16).extractLsb' 0 7).toNat = 0 := by
  decide +kernel

/-- Off the two ends it is two to the byte less 127. -/
theorem scale_eq (s : BitVec 8) (h1 : 1 ≤ s.toNat) (h2 : s.toNat ≤ 254) : scale s = (((2 : ℝ) ^ ((s.toNat : ℤ) - 127) : ℝ) : EReal) := by
  obtain ⟨a, b, c⟩ := scale_bits s
  show Ideal.ieee 8 7 (s.setWidth 16 <<< 7 : BitVec 16) = _
  unfold Ideal.ieee
  simp only [Nat.reduceAdd, a, b, c]
  rw [if_neg (by norm_num; omega), if_neg (by omega)]
  refine congrArg _ ?_
  have : ((s.toNat : ℤ) - (2 ^ (8 - 1) - 1) - (7 : ℕ)) = ((s.toNat : ℤ) - 127) + (-7) := by norm_num; ring
  rw [this, zpow_add₀ (by norm_num)]
  norm_num
  ring

/-- The exponent that the reference takes of a byte. -/
theorem scale_int : ∀ s : BitVec 8, (IntOp.subi (s.setWidth 32) 127#32).toInt = (s.toNat : ℤ) - 127 := by decide +kernel

/-- The reference's power is that scale. -/
theorem pow_eq (s : BitVec 8) (h1 : 1 ≤ s.toNat) (h2 : s.toNat ≤ 254) :
    Ideal.pow (Ideal.ofBits .f32 1073741824#32) (FloatOps.sitofp (F := Ideal) .f32 (IntOp.subi (s.setWidth 32) 127#32)) = scale s := by
  rw [scale_eq s h1 h2]
  have e2 : Ideal.ofBits .f32 1073741824#32 = ((2 : ℝ) : EReal) := by
    simp [Ideal.ofBits, Ideal.ieee]; simp only [← EReal.coe_mul]; exact congrArg _ (by norm_num)
  have e : FloatOps.sitofp (F := Ideal) .f32 (IntOp.subi (s.setWidth 32) 127#32) = ((((s.toNat : ℤ) - 127 : ℤ) : ℝ) : EReal) := by
    show (((IntOp.subi (s.setWidth 32) 127#32).toInt : ℝ) : EReal) = _
    rw [scale_int]
  rw [e2, e, Ideal.pow_coe_coe, Real.rpow_eq_pow, Real.rpow_intCast]

/-! ## Four bytes to a word -/

/-- A byte of a word read back as rows of bytes. -/
theorem bytes_at {R r n : ℕ} (y : (⟨2, ![r, n]⟩ : Shape).Idx → BitVec 32) (h : (⟨2, ![r, n]⟩ : Shape).Bitcasts 32 ⟨2, ![R, n]⟩ 8)
    (p : Fin R) (l : Fin n) (a : Fin r) (ha : a.val = p.val / 4) :
    bitcast ⟨2, ![R, n]⟩ 8 y h (ix2 p l) = (y (ix2 a l)).extractLsb' (8 * (p.val % 4)) 8 := by
  apply BitVec.eq_of_getLsbD_eq
  intro q hq
  rw [bitcast_getLsbD y h _ q hq (by decide), BitVec.getLsbD_extractLsb']
  have hr : (⟨2, ![R, n]⟩ : Shape).row (ix2 p l) = p.val := rfl
  have e1 : ((⟨2, ![R, n]⟩ : Shape).row (ix2 p l) * 8 + q) / 32 = a.val := by rw [hr]; omega
  have e2 : ((⟨2, ![R, n]⟩ : Shape).row (ix2 p l) * 8 + q) % 32 = 8 * (p.val % 4) + q := by rw [hr]; omega
  rw [e2]
  simp only [hq, decide_true, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- A byte of a word packed from rows of bytes. -/
theorem word_at {R r n : ℕ} (x : (⟨2, ![R, n]⟩ : Shape).Idx → BitVec 8) (h : (⟨2, ![R, n]⟩ : Shape).Bitcasts 8 ⟨2, ![r, n]⟩ 32)
    (a : Fin r) (l : Fin n) (k : ℕ) (hk : k < 4) (p : Fin R) (hp : p.val = 4 * a.val + k) :
    (bitcast ⟨2, ![r, n]⟩ 32 x h (ix2 a l)).extractLsb' (8 * k) 8 = x (ix2 p l) := by
  apply BitVec.eq_of_getLsbD_eq
  intro q hq
  rw [BitVec.getLsbD_extractLsb']
  refine (congrArg (fun b => decide (q < 8) && b) (bitcast_8_32_getLsbD_ix2 x h a l (8 * k + q) (by omega) p (by omega))).trans ?_
  simp only [hq, decide_true, Bool.true_and]
  have e : (8 * k + q) % 8 = q := by omega
  rw [e]; rfl

/-- The word's masks and shifts, read at one of its bytes. -/
theorem lo_byte (w : BitVec 32) (k : ℕ) (hk : k < 4) :
    (((w <<< 2) &&& 471604252#32) ||| ((w <<< 4) &&& 2155905152#32)).extractLsb' (8 * k) 8 = spread (nib (w.extractLsb' (8 * k) 8) 0) := by
  rw [← spread_lo]
  apply BitVec.eq_of_getLsbD_eq
  intro q hq
  interval_cases k <;> interval_cases q <;> simp [BitVec.getLsbD_extractLsb']

/-- The word's masks and shifts, read at one of its bytes. -/
theorem hi_byte (w : BitVec 32) (k : ℕ) (hk : k < 4) :
    (((w.sshiftRight 2) &&& 471604252#32) ||| (w &&& 2155905152#32)).extractLsb' (8 * k) 8 = spread (nib (w.extractLsb' (8 * k) 8) 1) := by
  rw [← spread_hi]
  apply BitVec.eq_of_getLsbD_eq
  intro q hq
  interval_cases k <;> interval_cases q <;> simp [BitVec.getLsbD_extractLsb', BitVec.getLsbD_sshiftRight, BitVec.getElem_sshiftRight]

end Cert.Decode
end
end
-- ==== Proof.KernelIdeal.PrepReads.lean ====
/- What the two decoding regions write, as numbers: the decoded weights and the clipped activations, times their scales,
   in the order the products are taken (chunks of 128 lanes, low halves or even elements before high or odd). -/
module

public import proofs.«01_k».proof.Proof.KernelIdeal.PrepW
public import proofs.«01_k».proof.Proof.KernelIdeal.PrepX
public import proofs.«01_k».proof.Proof.Decode
public import Idealize.ShloMosaic.Lib.Pointwise
public import Idealize.ShloMosaic.Lib.Pipeline.ValueKit
public import Idealize.ShloMosaic.Lib.Pipeline.Covers

@[expose] public section
set_option maxRecDepth 16384
noncomputable section
namespace Cert.KernelIdeal
open Cert.KernelIdeal.Gen Cert.Decode
open Idealize.ShloMosaic Idealize.ShloMosaic.TcCoe Idealize.ShloMosaic.Tactic

/-- A rank-2 index from its two coordinates. -/
theorem exists_ix2 {n m : ℕ} (x : (⟨2, ![n, m]⟩ : Shape).Idx) : ∃ (a : Fin n) (b : Fin m), x = ix2 a b :=
  ⟨x 0, x 1, by funext c; match c with | ⟨0, _⟩ => rfl | ⟨1, _⟩ => rfl⟩

/-- A lane's sixteenth. -/
theorem lane16_at (a : Fin 64) (l : Fin 128) : lane16 (ix2 a l) = BitVec.ofNat 32 (l.val / 16) := by
  pointwise [lane16, k1_pay8, k1_pay7]
  revert l
  decide +kernel

/-- The gather's wrapped index. -/
theorem col_idx : ∀ (l : Fin 128) (k : Fin 16),
    (Scalar.select (IntOp.cmpi .slt (IntOp.addi (BitVec.ofNat 32 (l.val / 16)) (BitVec.ofNat 32 (8 * k.val))) 0#32)
      (IntOp.addi (IntOp.addi (BitVec.ofNat 32 (l.val / 16)) (BitVec.ofNat 32 (8 * k.val))) 128#32)
      (IntOp.addi (BitVec.ofNat 32 (l.val / 16)) (BitVec.ofNat 32 (8 * k.val)))).toNat % 128 = l.val / 16 + 8 * k.val := by decide +kernel

/-- The scale words a chunk's lanes read. -/
theorem scaleWord_at (w : IVec S64x128 32) (k : Fin 16) (a : Fin 64) (l : Fin 128) :
    scaleWord w (BitVec.ofNat 32 (8 * k.val)) (ix2 a l) = w (ix2 a ⟨l.val / 16 + 8 * k.val, by omega⟩) := by
  pointwise [scaleWord]
  simp only [lane16_at]
  exact congrArg (fun b => w (ix2 a b)) (Fin.ext (col_idx l k))

/-- A chunk's scales. -/
theorem scaleAt_at (x1 : Vec Ideal S256x128 .i8) (k : Fin 16) (a : Fin 256) (l : Fin 128) :
    scaleAt (F := Ideal) (bitcast S64x128 32 x1 bitcasts_S256x128_w8_S64x128_w32) (BitVec.ofNat 32 (8 * k.val)) (ix2 a l)
      = scale (x1 (ix2 a ⟨l.val / 16 + 8 * k.val, by omega⟩)) := by
  pointwise [scaleAt]
  rw [bytes_at _ bitcasts_S64x128_w32_S256x128_w8 a l ⟨a.val / 4, by omega⟩ rfl, scaleWord_at,
    word_at _ bitcasts_S256x128_w8_S64x128_w32 _ _ (a.val % 4) (by omega) a (by show a.val = 4 * (a.val / 4) + a.val % 4; omega)]
  rfl

/-- A word of spread halves. -/
theorem wlo_at (w : IVec S64x128 32) (a : Fin 64) (l : Fin 128) :
    wlo w (ix2 a l) = ((w (ix2 a l) <<< 2) &&& 471604252#32) ||| ((w (ix2 a l) <<< 4) &&& 2155905152#32) := by
  pointwise [wlo]; rfl
/-- A word of spread halves. -/
theorem whi_at (w : IVec S64x128 32) (a : Fin 64) (l : Fin 128) :
    whi w (ix2 a l) = (((w (ix2 a l)).sshiftRight 2) &&& 471604252#32) ||| (w (ix2 a l) &&& 2155905152#32) := by
  pointwise [whi]; rfl

/-- A chunk's low halves, decoded and scaled. -/
theorem wOutLo_at (x1 wc : Vec Ideal S256x128 .i8) (k : Fin 16) (a : Fin 256) (l : Fin 128) :
    wOutLo (F := Ideal) x1 wc (BitVec.ofNat 32 (8 * k.val)) (ix2 a l)
      = ((e2m1 (nib (wc (ix2 a l)) 0) : ℝ) : EReal) * scale (x1 (ix2 a ⟨l.val / 16 + 8 * k.val, by omega⟩)) := by
  unfold wOutLo
  pointwise [wmul]
  rw [scaleAt_at, bytes_at _ bitcasts_S64x128_w32_S256x128_w8 a l ⟨a.val / 4, by omega⟩ rfl, wlo_at, lo_byte _ _ (by omega),
    word_at _ bitcasts_S256x128_w8_S64x128_w32 _ _ (a.val % 4) (by omega) a (by show a.val = 4 * (a.val / 4) + a.val % 4; omega), ofBits_spread]
/-- A chunk's high halves, decoded and scaled. -/
theorem wOutHi_at (x1 wc : Vec Ideal S256x128 .i8) (k : Fin 16) (a : Fin 256) (l : Fin 128) :
    wOutHi (F := Ideal) x1 wc (BitVec.ofNat 32 (8 * k.val)) (ix2 a l)
      = ((e2m1 (nib (wc (ix2 a l)) 1) : ℝ) : EReal) * scale (x1 (ix2 a ⟨l.val / 16 + 8 * k.val, by omega⟩)) := by
  unfold wOutHi
  pointwise [wmul]
  rw [scaleAt_at, bytes_at _ bitcasts_S64x128_w32_S256x128_w8 a l ⟨a.val / 4, by omega⟩ rfl, whi_at, hi_byte _ _ (by omega),
    word_at _ bitcasts_S256x128_w8_S64x128_w32 _ _ (a.val % 4) (by omega) a (by show a.val = 4 * (a.val / 4) + a.val % 4; omega), ofBits_spread]

/-- The clip to the 8-bit format's range. -/
def clip (x : EReal) : EReal := min (Ideal.ofBits .f32 1138753536#32) (max (Ideal.ofBits .f32 3286237184#32) x)

/-- The gather's lane. -/
theorem xidx_at0 (a : Fin 256) (l : Fin 128) : (xidx 0#32 (ix2 a l)).toNat % 128 = 2 * l.val % 128 := by
  pointwise [xidx, k1_pay3]
  revert l
  decide +kernel
/-- The gather's lane. -/
theorem xidx_at1 (a : Fin 256) (l : Fin 128) : (xidx 1#32 (ix2 a l)).toNat % 128 = 2 * l.val % 128 + 1 := by
  pointwise [xidx, k1_pay3]
  revert l
  decide +kernel
/-- The first 64 lanes. -/
theorem lane_lt : ∀ l : Fin 128, IntOp.cmpi .slt (BitVec.ofNat 32 l.val) 64#32 = if l.val < 64 then 1#1 else 0#1 := by decide +kernel

/-- One stored or carried value, at an element. -/
theorem pay2_eq (x1 : Vec Ideal S256x128 .i8) : k1_pay2 (F := Ideal) x1 = bitcast S64x128 32 x1 bitcasts_S256x128_w8_S64x128_w32 := by
  funext y
  obtain ⟨a, l, rfl⟩ := exists_ix2 y
  pointwise [k1_pay2]
/-- One stored or carried value, at an element. -/
theorem pay5_at (x : Vec Ideal S256x128 .fp8e4m3) (a : Fin 256) (l : Fin 128) : k1_pay5 x (ix2 a l) = clip (x (ix2 a l)) := by
  pointwise [k1_pay5]; rfl

/-- A chunk's even (`h = 0`) or odd elements, clipped and scaled. -/
theorem xOut_at (x1 : Vec Ideal S256x128 .i8) (x y : Vec Ideal S256x128 .fp8e4m3) (h : Fin 2) (k : Fin 16) (a : Fin 256) (l : Fin 128) :
    xOut (F := Ideal) x1 x y (BitVec.ofNat 32 h.val) (BitVec.ofNat 32 (8 * k.val)) (ix2 a l)
      = clip (if l.val < 64 then x (ix2 a ⟨2 * l.val % 128 + h.val, by omega⟩) else y (ix2 a ⟨2 * l.val % 128 + h.val, by omega⟩))
        * scale (x1 (ix2 a ⟨l.val / 16 + 8 * k.val, by omega⟩)) := by
  have hx : (xidx (BitVec.ofNat 32 h.val) (ix2 a l)).toNat % 128 = 2 * l.val % 128 + h.val := by
    match h with
    | ⟨0, _⟩ => exact xidx_at0 a l
    | ⟨1, _⟩ => exact xidx_at1 a l
  have hs : scaleAt (F := Ideal) (k1_pay2 (F := Ideal) x1) (BitVec.ofNat 32 (8 * k.val)) (ix2 a l) = scale (x1 (ix2 a ⟨l.val / 16 + 8 * k.val, by omega⟩)) := by
    rw [pay2_eq]
    exact scaleAt_at x1 k a l
  have h5 : ∀ (x : Vec Ideal S256x128 .fp8e4m3) (a : Fin 256) (l : Fin 128), k1_pay5 x (ix2 a l) = clip (x (ix2 a l)) := by
    exact pay5_at
  pointwise [xOut, k1_pay4]
  rw [hs, h5, h5, lane_lt]
  have e : ∀ p, (⟨(xidx (BitVec.ofNat 32 h.val) (ix2 a l)).toNat % 128, p⟩ : Fin 128) = ⟨2 * l.val % 128 + h.val, by omega⟩ := fun p => Fin.ext hx
  rw [e]
  by_cases hl : l.val < 64
  · rw [if_pos hl, if_pos hl]; rfl
  · rw [if_neg hl, if_neg hl]; rfl

/-! ## A block of rows -/

/-- The element a contraction position's chunk and lane name. -/
abbrev ql (p : ℕ) : ℕ := p / 256 * 128 + p % 128
/-- Which half. -/
abbrev qh (p : ℕ) : ℕ := p / 128 % 2

/-- The decoded weights of `R` rows in product order. -/
def wVal {R : ℕ} (A : (⟨2, ![R, 2048]⟩ : Shape).Idx → BitVec 8) (B : (⟨2, ![R, 128]⟩ : Shape).Idx → BitVec 8) (a : Fin R) (p : Fin 4096) : EReal :=
  ((e2m1 (nib (A (ix2 a ⟨ql p.val, by unfold ql; omega⟩)) (qh p.val)) : ℝ) : EReal) * scale (B (ix2 a ⟨ql p.val / 16, by unfold ql; omega⟩))
/-- The scaled activations of `R` rows in product order. -/
def xVal {R : ℕ} (A : (⟨2, ![R, 4096]⟩ : Shape).Idx → EReal) (B : (⟨2, ![R, 128]⟩ : Shape).Idx → BitVec 8) (a : Fin R) (p : Fin 4096) : EReal :=
  clip (A (ix2 a ⟨2 * ql p.val + qh p.val, by unfold ql qh; omega⟩)) * scale (B (ix2 a ⟨ql p.val / 16, by unfold ql; omega⟩))

namespace R0
variable (x0 : Vec Ideal S256x2048 .i8) (x1 : Vec Ideal S256x128 .i8)

/-- A load of the whole block. -/
theorem ld_whole (x1 : Vec Ideal S256x128 .i8) : View.ld x1 r0_0 = x1 := by
  funext y
  obtain ⟨a, l, rfl⟩ := exists_ix2 y
  exact View.ld_unit_apply_of x1 _ _ _ _ _ (fun c => by match c with | ⟨0, _⟩ => exact (Nat.zero_add _).symm | ⟨1, _⟩ => exact (Nat.zero_add _).symm)

/-- The block's contents. -/
abbrev WG : Vec Ideal S256x4096 .bf16 := fun y => wVal x0 x1 (y 0) (y 1)

/-- A stored piece is a part of the block's value. -/
theorem piece_lo (k : Fin 16) (i0) (i1) (y : S256x128.Idx) :
    wOutLo (F := Ideal) (View.ld x1 r0_0) (View.ld x0 (Rect.unit (s := S256x2048) ![0, 128 * k.val] S256x128.size i0)) (BitVec.ofNat 32 (8 * k.val)) y
      = WG x0 x1 ((Rect.unit (s := S256x4096) ![0, 256 * k.val] S256x128.size i1).emb y) := by
  rw [ld_whole]
  obtain ⟨a, l, rfl⟩ := exists_ix2 y
  refine (wOutLo_at x1 _ k a l).trans ?_
  have e0 : ((Rect.unit (s := S256x4096) ![0, 256 * k.val] S256x128.size i1).emb (ix2 a l)) 0 = a := Fin.ext (by show 0 + 1 * a.val = a.val; omega)
  have e1 : (((Rect.unit (s := S256x4096) ![0, 256 * k.val] S256x128.size i1).emb (ix2 a l)) 1).val = 256 * k.val + l.val := by
    show 256 * k.val + 1 * l.val = _; omega
  unfold WG wVal
  simp only [e0, e1]
  have hq : ql (256 * k.val + l.val) = 128 * k.val + l.val := by unfold ql; omega
  have hh : qh (256 * k.val + l.val) = 0 := by unfold qh; omega
  rw [hh]
  congr 1
  · congr 3
    refine View.ld_unit_apply_of x0 _ _ _ _ _ (fun c => ?_)
    match c with
    | ⟨0, _⟩ => exact (Nat.zero_add _).symm
    | ⟨1, _⟩ => exact hq
  · congr 2
    congr 1
    exact Fin.ext (by show l.val / 16 + 8 * k.val = ql _ / 16; rw [hq]; omega)

/-- A stored piece is a part of the block's value. -/
theorem piece_hi (k : Fin 16) (i0) (i1) (y : S256x128.Idx) :
    wOutHi (F := Ideal) (View.ld x1 r0_0) (View.ld x0 (Rect.unit (s := S256x2048) ![0, 128 * k.val] S256x128.size i0)) (BitVec.ofNat 32 (8 * k.val)) y
      = WG x0 x1 ((Rect.unit (s := S256x4096) ![0, 256 * k.val + 128] S256x128.size i1).emb y) := by
  rw [ld_whole]
  obtain ⟨a, l, rfl⟩ := exists_ix2 y
  refine (wOutHi_at x1 _ k a l).trans ?_
  have e0 : ((Rect.unit (s := S256x4096) ![0, 256 * k.val + 128] S256x128.size i1).emb (ix2 a l)) 0 = a := Fin.ext (by show 0 + 1 * a.val = a.val; omega)
  have e1 : (((Rect.unit (s := S256x4096) ![0, 256 * k.val + 128] S256x128.size i1).emb (ix2 a l)) 1).val = 256 * k.val + 128 + l.val := by
    show 256 * k.val + 128 + 1 * l.val = _; omega
  unfold WG wVal
  simp only [e0, e1]
  have hq : ql (256 * k.val + 128 + l.val) = 128 * k.val + l.val := by unfold ql; omega
  have hh : qh (256 * k.val + 128 + l.val) = 1 := by unfold qh; omega
  rw [hh]
  congr 1
  · congr 3
    refine View.ld_unit_apply_of x0 _ _ _ _ _ (fun c => ?_)
    match c with
    | ⟨0, _⟩ => exact (Nat.zero_add _).symm
    | ⟨1, _⟩ => exact hq
  · congr 2
    congr 1
    exact Fin.ext (by show l.val / 16 + 8 * k.val = ql _ / 16; rw [hq]; omega)

/-- A block's output. -/
theorem out0_2_eq : out0_2 (F := Ideal) x0 x1 = WG x0 x1 := by
  funext y
  unfold out0_2
  refine View.canon_apply_of_pieces (Val := Elt Ideal) (e := .bf16) (WG x0 x1) _ ?_ y (cover0_2 _ _ _ _ _ _ _ _ _ _ _ _ _ _ _ _ _ _ _ _ _ _ _ _ _ _ _ _ _ _ _ _ y)
  simp only [List.forall_mem_cons]
  refine ⟨piece_hi x0 x1 15 _ _, piece_lo x0 x1 15 _ _, piece_hi x0 x1 14 _ _, piece_lo x0 x1 14 _ _, piece_hi x0 x1 13 _ _, piece_lo x0 x1 13 _ _,
    piece_hi x0 x1 12 _ _, piece_lo x0 x1 12 _ _, piece_hi x0 x1 11 _ _, piece_lo x0 x1 11 _ _, piece_hi x0 x1 10 _ _, piece_lo x0 x1 10 _ _,
    piece_hi x0 x1 9 _ _, piece_lo x0 x1 9 _ _, piece_hi x0 x1 8 _ _, piece_lo x0 x1 8 _ _, piece_hi x0 x1 7 _ _, piece_lo x0 x1 7 _ _,
    piece_hi x0 x1 6 _ _, piece_lo x0 x1 6 _ _, piece_hi x0 x1 5 _ _, piece_lo x0 x1 5 _ _, piece_hi x0 x1 4 _ _, piece_lo x0 x1 4 _ _,
    piece_hi x0 x1 3 _ _, piece_lo x0 x1 3 _ _, piece_hi x0 x1 2 _ _, piece_lo x0 x1 2 _ _, piece_hi x0 x1 1 _ _, piece_lo x0 x1 1 _ _,
    piece_hi x0 x1 0 _ _, piece_lo x0 x1 0 _ _, fun _ h => absurd h List.not_mem_nil⟩
end R0

namespace R1
variable (x0 : Vec Ideal S256x4096 .fp8e4m3) (x1 : Vec Ideal S256x128 .i8)

/-- The block's contents. -/
abbrev XG : Vec Ideal S256x4096 .bf16 := fun y => xVal x0 x1 (y 0) (y 1)

/-- A stored piece is a part of the block's value. -/
theorem piece (h : Fin 2) (k : Fin 16) (i0) (i1) (i2) (y : S256x128.Idx) :
    xOut (F := Ideal) (View.ld x1 r0_0) (View.ld x0 (Rect.unit (s := S256x4096) ![0, 256 * k.val] S256x128.size i0))
        (View.ld x0 (Rect.unit (s := S256x4096) ![0, 256 * k.val + 128] S256x128.size i1)) (BitVec.ofNat 32 h.val) (BitVec.ofNat 32 (8 * k.val)) y
      = XG x0 x1 ((Rect.unit (s := S256x4096) ![0, 256 * k.val + 128 * h.val] S256x128.size i2).emb y) := by
  rw [show View.ld x1 r0_0 = x1 from R0.ld_whole x1]
  obtain ⟨a, l, rfl⟩ := exists_ix2 y
  refine (xOut_at x1 _ _ h k a l).trans ?_
  have e0 : ((Rect.unit (s := S256x4096) ![0, 256 * k.val + 128 * h.val] S256x128.size i2).emb (ix2 a l)) 0 = a := Fin.ext (by show 0 + 1 * a.val = a.val; omega)
  have e1 : (((Rect.unit (s := S256x4096) ![0, 256 * k.val + 128 * h.val] S256x128.size i2).emb (ix2 a l)) 1).val = 256 * k.val + 128 * h.val + l.val := by
    show 256 * k.val + 128 * h.val + 1 * l.val = _; omega
  unfold XG xVal
  simp only [e0, e1]
  have hq : ql (256 * k.val + 128 * h.val + l.val) = 128 * k.val + l.val := by unfold ql; omega
  have hh : qh (256 * k.val + 128 * h.val + l.val) = h.val := by unfold qh; omega
  congr 1
  · congr 1
    by_cases hl : l.val < 64
    · rw [if_pos hl]
      refine View.ld_unit_apply_of x0 _ _ _ _ _ (fun c => ?_)
      match c with
      | ⟨0, _⟩ => exact (Nat.zero_add _).symm
      | ⟨1, _⟩ => show 2 * ql _ + qh _ = 256 * k.val + (2 * l.val % 128 + h.val); rw [hq, hh]; omega
    · rw [if_neg hl]
      refine View.ld_unit_apply_of x0 _ _ _ _ _ (fun c => ?_)
      match c with
      | ⟨0, _⟩ => exact (Nat.zero_add _).symm
      | ⟨1, _⟩ => show 2 * ql _ + qh _ = 256 * k.val + 128 + (2 * l.val % 128 + h.val); rw [hq, hh]; omega
  · congr 2
    congr 1
    exact Fin.ext (by show l.val / 16 + 8 * k.val = ql _ / 16; rw [hq]; omega)

/-- A block's output. -/
theorem out0_2_eq : out0_2 (F := Ideal) x0 x1 = XG x0 x1 := by
  funext y
  unfold out0_2
  refine View.canon_apply_of_pieces (Val := Elt Ideal) (e := .bf16) (XG x0 x1) _ ?_ y (cover0_2 _ _ _ _ _ _ _ _ _ _ _ _ _ _ _ _ _ _ _ _ _ _ _ _ _ _ _ _ _ _ _ _ y)
  simp only [List.forall_mem_cons]
  refine ⟨piece x0 x1 1 15 _ _ _, piece x0 x1 0 15 _ _ _, piece x0 x1 1 14 _ _ _, piece x0 x1 0 14 _ _ _, piece x0 x1 1 13 _ _ _, piece x0 x1 0 13 _ _ _,
    piece x0 x1 1 12 _ _ _, piece x0 x1 0 12 _ _ _, piece x0 x1 1 11 _ _ _, piece x0 x1 0 11 _ _ _, piece x0 x1 1 10 _ _ _, piece x0 x1 0 10 _ _ _,
    piece x0 x1 1 9 _ _ _, piece x0 x1 0 9 _ _ _, piece x0 x1 1 8 _ _ _, piece x0 x1 0 8 _ _ _, piece x0 x1 1 7 _ _ _, piece x0 x1 0 7 _ _ _,
    piece x0 x1 1 6 _ _ _, piece x0 x1 0 6 _ _ _, piece x0 x1 1 5 _ _ _, piece x0 x1 0 5 _ _ _, piece x0 x1 1 4 _ _ _, piece x0 x1 0 4 _ _ _,
    piece x0 x1 1 3 _ _ _, piece x0 x1 0 3 _ _ _, piece x0 x1 1 2 _ _ _, piece x0 x1 0 2 _ _ _, piece x0 x1 1 1 _ _ _, piece x0 x1 0 1 _ _ _,
    piece x0 x1 1 0 _ _ _, piece x0 x1 0 0 _ _ _, fun _ h => absurd h List.not_mem_nil⟩
end R1

end Cert.KernelIdeal
end
end
-- ==== Proof.KernelIdeal.ValPrep.lean ====
/- The arrays the two decoding regions leave: every row of the decoded operands. -/
module

public import proofs.«01_k».proof.Proof.KernelIdeal.PrepReads

@[expose] public section
set_option maxRecDepth 16384
noncomputable section
namespace Cert.KernelIdeal
open Cert.KernelIdeal.Gen Cert.Decode
open Idealize.ShloMosaic Idealize.ShloMosaic.TcCoe Idealize.ShloMosaic.Tactic Idealize.SL.Sem

variable (V : (c : Dev nD) → (b : Ref sig .tc) → Buf (Elt Ideal) ((c : Thread nD τ).loc b))

/-- Equal entries give equal values. -/
theorem wVal_congr {R R' : ℕ} {A : (⟨2, ![R, 2048]⟩ : Shape).Idx → BitVec 8} {B : (⟨2, ![R, 128]⟩ : Shape).Idx → BitVec 8}
    {A' : (⟨2, ![R', 2048]⟩ : Shape).Idx → BitVec 8} {B' : (⟨2, ![R', 128]⟩ : Shape).Idx → BitVec 8} {a : Fin R} {a' : Fin R'} {p p' : Fin 4096}
    (hp : p = p') (hA : ∀ j, A (ix2 a j) = A' (ix2 a' j)) (hB : ∀ j, B (ix2 a j) = B' (ix2 a' j)) : wVal A B a p = wVal A' B' a' p' := by
  subst hp; unfold wVal; rw [hA, hB]
/-- Equal entries give equal values. -/
theorem xVal_congr {R R' : ℕ} {A : (⟨2, ![R, 4096]⟩ : Shape).Idx → EReal} {B : (⟨2, ![R, 128]⟩ : Shape).Idx → BitVec 8}
    {A' : (⟨2, ![R', 4096]⟩ : Shape).Idx → EReal} {B' : (⟨2, ![R', 128]⟩ : Shape).Idx → BitVec 8} {a : Fin R} {a' : Fin R'} {p p' : Fin 4096}
    (hp : p = p') (hA : ∀ j, A (ix2 a j) = A' (ix2 a' j)) (hB : ∀ j, B (ix2 a j) = B' (ix2 a' j)) : xVal A B a p = xVal A' B' a' p' := by
  subst hp; unfold xVal; rw [hA, hB]

namespace R0
/-- The block that the window shows at a grid point. -/
theorem idx0_0 : ∀ t : Fin cfg0.N, win0_0.index t = ![t.val, 0] := (by decide +kernel : ∀ t : Fin grid0.N, win0_0.index t = ![t.val, 0])
/-- The block that the window shows at a grid point. -/
theorem idx0_1 : ∀ t : Fin cfg0.N, win0_1.index t = ![t.val, 0] := (by decide +kernel : ∀ t : Fin grid0.N, win0_1.index t = ![t.val, 0])
/-- The block that the window shows at a grid point. -/
theorem idx0_2 : ∀ t : Fin cfg0.N, win0_2.index t = ![t.val, 0] := (by decide +kernel : ∀ t : Fin grid0.N, win0_2.index t = ![t.val, 0])

/-- The decoded weights. -/
theorem arr (c : Dev nD) : (dat (F := Ideal) V c).arrAt 2 cfg0.N
    = (fun y => wVal (V c main_arg2) (V c main_arg3) (y 0) (y 1) : FVec Ideal S16384x4096 .bf16) := by
  refine (dat (F := Ideal) V c).arrAt_eq_of_covers 2 _ (by decide +kernel) fun t _ y => ?_
  blk_simp
  rw [after0_2, out0_2_eq]
  obtain ⟨a, p, rfl⟩ := exists_ix2 y
  refine wVal_congr ?_ (fun j => ?_) (fun j => ?_)
  · refine Fin.ext ?_
    blk_simp
    simp [idx0_2 t]
  · unfold iblk; blk_ext [idx0_0 t, idx0_2 t]
  · unfold iblk; blk_ext [idx0_1 t, idx0_2 t]
end R0
namespace R1
/-- The block that the window shows at a grid point. -/
theorem idx1_0 : ∀ t : Fin cfg1.N, win1_0.index t = ![t.val, 0] := (by decide +kernel : ∀ t : Fin grid1.N, win1_0.index t = ![t.val, 0])
/-- The block that the window shows at a grid point. -/
theorem idx1_1 : ∀ t : Fin cfg1.N, win1_1.index t = ![t.val, 0] := (by decide +kernel : ∀ t : Fin grid1.N, win1_1.index t = ![t.val, 0])
/-- The block that the window shows at a grid point. -/
theorem idx1_2 : ∀ t : Fin cfg1.N, win1_2.index t = ![t.val, 0] := (by decide +kernel : ∀ t : Fin grid1.N, win1_2.index t = ![t.val, 0])

/-- The scaled activations. -/
theorem arr (c : Dev nD) : (dat (F := Ideal) V c).arrAt 2 cfg1.N
    = (fun y => xVal (V c main_v0) (V c main_v1) (y 0) (y 1) : FVec Ideal S6144x4096 .bf16) := by
  refine (dat (F := Ideal) V c).arrAt_eq_of_covers 2 _ (by decide +kernel) fun t _ y => ?_
  blk_simp
  rw [after0_2, out0_2_eq]
  obtain ⟨a, p, rfl⟩ := exists_ix2 y
  refine xVal_congr ?_ (fun j => ?_) (fun j => ?_)
  · refine Fin.ext ?_
    blk_simp
    simp [idx1_2 t]
  · unfold iblk; blk_ext [idx1_0 t, idx1_2 t]
  · unfold iblk; blk_ext [idx1_1 t, idx1_2 t]
end R1
end Cert.KernelIdeal
end
end
-- ==== Proof.KernelIdeal.HeadReads.lean ====
/- What the head region's values are, entry by entry: the group's sums, minimum and cut as formulas over a row of logits. -/
module

public import proofs.«01_k».proof.Proof.KernelIdeal.ValPrep
public import proofs.«01_k».proof.Proof.KernelIdeal.Head

@[expose] public section
set_option maxRecDepth 16384
noncomputable section
namespace Cert.KernelIdeal.R2
open Cert.KernelIdeal Cert.KernelIdeal.Gen
open Idealize.ShloMosaic Idealize.ShloMosaic.TcCoe Idealize.ShloMosaic.Tactic Idealize.SL.Sem

/-! ## Lanes and blocks of a row of 16384 logits -/

/-- A row's entries summed lane by lane, block by block, lane group by lane group. -/
theorem lanes_sum (f : ℕ → EReal) :
    (∑ l : Fin 128, ∑ k ∈ Finset.range 32, ∑ q ∈ Finset.range 4, f (512 * k + 128 * q + l.val)) = ∑ v : Fin 16384, f v.val := by
  rw [← Finset.sum_range (fun v => f v), ← Finset.sum_range (fun l => ∑ k ∈ Finset.range 32, ∑ q ∈ Finset.range 4, f (512 * k + 128 * q + l)),
    show (16384 : ℕ) = 32 * 512 from rfl, Finset.sum_range_mul_split, Finset.sum_comm]
  refine Finset.sum_congr rfl fun k _ => ?_
  rw [show (512 : ℕ) = 4 * 128 from rfl, Finset.sum_range_mul_split, Finset.sum_comm]
  refine Finset.sum_congr rfl fun q _ => Finset.sum_congr rfl fun l _ => ?_
  congr 1; omega

/-- The constant is infinite. -/
theorem inf_top : Ideal.ofBits FTy.f32 2139095040#32 = (⊤ : EReal) := by simp [Ideal.ofBits, Ideal.ieee]
/-- The constant is infinite. -/
theorem inf_bot : Ideal.ofBits FTy.f32 4286578688#32 = (⊥ : EReal) := by simp [Ideal.ofBits, Ideal.ieee]

/-- The least of the lanes' least entries is the row's least entry. -/
theorem lanes_min (f : ℕ → EReal) (g : Fin 128 → EReal) (hg : ∀ l x, x ≤ g l ↔ ∀ k < 32, ∀ q < 4, x ≤ f (512 * k + 128 * q + l.val)) :
    Finset.fold min (Ideal.ofBits FTy.f32 2139095040#32) g Finset.univ
      = Finset.fold min (Ideal.ofBits FTy.f32 2139095040#32) (fun v : Fin 16384 => f v.val) Finset.univ := by
  refine eq_of_forall_le_iff fun x => ?_
  rw [Finset.le_fold_min, Finset.le_fold_min]
  refine and_congr_right fun _ => ⟨fun h v _ => ?_, fun h l _ => (hg l x).2 fun k hk q hq => ?_⟩
  · have := (hg ⟨v.val % 128, by omega⟩ x).1 (h _ (Finset.mem_univ _)) (v.val / 512) (by omega) (v.val / 128 % 4) (by omega)
    rwa [show 512 * (v.val / 512) + 128 * (v.val / 128 % 4) + v.val % 128 = v.val by omega] at this
  · exact h ⟨512 * k + 128 * q + l.val, by omega⟩ (Finset.mem_univ _)
/-- The greatest of the lanes' greatest entries is the row's greatest entry. -/
theorem lanes_max (f : ℕ → EReal) (g : Fin 128 → EReal) (hg : ∀ l x, g l ≤ x ↔ ∀ k < 32, ∀ q < 4, f (512 * k + 128 * q + l.val) ≤ x) :
    Finset.fold max (Ideal.ofBits FTy.f32 4286578688#32) g Finset.univ
      = Finset.fold max (Ideal.ofBits FTy.f32 4286578688#32) (fun v : Fin 16384 => f v.val) Finset.univ := by
  refine eq_of_forall_ge_iff fun x => ?_
  rw [Finset.fold_max_le, Finset.fold_max_le]
  refine and_congr_right fun _ => ⟨fun h v _ => ?_, fun h l _ => (hg l x).2 fun k hk q hq => ?_⟩
  · have := (hg ⟨v.val % 128, by omega⟩ x).1 (h _ (Finset.mem_univ _)) (v.val / 512) (by omega) (v.val / 128 % 4) (by omega)
    rwa [show 512 * (v.val / 512) + 128 * (v.val / 128 % 4) + v.val % 128 = v.val by omega] at this
  · exact h ⟨512 * k + 128 * q + l.val, by omega⟩ (Finset.mem_univ _)

/-! ## A row's numbers, as the kernel computes them -/

/-- The unnormalized probability of a logit. -/
def kE (m t x : EReal) : EReal := Ideal.exp ((x - m) * Ideal.div 1 t)
/-- The cut on the logits. -/
def kCut (m t l : EReal) : EReal := m + l * t
/-- A kept entry's unnormalized probability, nothing for the others. -/
def kK (m t l x : EReal) : EReal := if 0 ≤ x - kCut m t l then kE m t x else 0
/-- The threshold on the logarithms of the probabilities. -/
def kThr (z : ℕ → EReal) (m t l : EReal) : EReal := l - Ideal.log (∑ v : Fin 16384, kE m t (z v.val))
/-- The margin. -/
def kMar (z : ℕ → EReal) (m t l : EReal) : EReal :=
  Finset.fold min (Ideal.ofBits FTy.f32 2139095040#32) (fun v : Fin 16384 => FloatOps.absf (F := Ideal) (φ := .f32) (z v.val - kCut m t l)) Finset.univ * Ideal.div 1 t
/-- The offset of the kept logits. -/
def kOff (z : ℕ → EReal) (m t l : EReal) : EReal := m * Ideal.div 1 t + Ideal.log (∑ v : Fin 16384, kK m t l (z v.val))
/-- A row's greatest lane. -/
def rM (M : Vec Ideal S512x128 .f32) (a : Fin 512) : EReal := Finset.fold max (Ideal.ofBits FTy.f32 4286578688#32) (fun l => M (ix2 a l)) Finset.univ

/-! ## The payloads at an index -/

/-- One stored or carried value, at an element. -/
theorem pay3_at (x w : Vec Ideal S512x4096 .bf16) (b c : Fin 512) : k2_pay3 (F := Ideal) x w (ix3 0 b c) = ∑ p, x (ix2 b p) * w (ix2 c p) := by
  pointwise [k2_pay3, k2_pay2]
/-- One stored or carried value, at an element. -/
theorem pay2_at (x w : Vec Ideal S512x4096 .bf16) (b c : Fin 512) : k2_pay2 (F := Ideal) x w (ix2 b c) = ∑ p, x (ix2 b p) * w (ix2 c p) := by
  pointwise [k2_pay2]
/-- One stored or carried value, at an element. -/
theorem pay1_at (a : Fin 512) (l : Fin 128) : k2_pay1 (F := Ideal) (ix2 a l) = ⊥ := by
  pointwise [k2_pay1]
  exact inf_bot
/-- One stored or carried value, at an element. -/
theorem pay4_at (x w : Vec Ideal S512x4096 .bf16) (v : Vec Ideal S512x128 .f32) (b : Fin 512) (l : Fin 128) : k2_pay4 (F := Ideal) x w v (ix2 b l)
    = max (max (max (max (v (ix2 b l)) (k2_pay2 x w (ix2 b ⟨l.val, by omega⟩))) (k2_pay2 x w (ix2 b ⟨128 + l.val, by omega⟩))) (k2_pay2 x w (ix2 b ⟨256 + l.val, by omega⟩)))
        (k2_pay2 x w (ix2 b ⟨384 + l.val, by omega⟩)) := by
  pointwise [k2_pay4]

section group
variable (Z : Vec Ideal S32x512x512 .f32) (M : Vec Ideal S512x128 .f32) (T L : Vec Ideal S512x1 .f32) (r : Fin k2_t1_loop.trips) (b : Fin 64) (a : Fin 512)

/-- A row group's load, at an element. -/
theorem gM_at (ha : a.val = 64 * r.val + b.val) (l : Fin 128) : gM M r (ix2 b l) = M (ix2 a l) := by
  refine View.ld_unit_apply_of M _ _ _ _ _ fun c => ?_
  rw [congrFun (k2_off2_eq r) c]
  match c with
  | ⟨0, _⟩ => exact ha
  | ⟨1, _⟩ => exact (Nat.zero_add _).symm
/-- A row group's load, at an element. -/
theorem gC_at (ha : a.val = 64 * r.val + b.val) : gC T r (ix2 b 0) = T (ix2 a 0) := by
  refine View.ld_unit_apply_of T _ _ _ _ _ fun c => ?_
  rw [congrFun (k2_off3_eq r) c]
  match c with
  | ⟨0, _⟩ => exact ha
  | ⟨1, _⟩ => rfl

/-- One stored or carried value, at an element. -/
theorem pay23_at (ha : a.val = 64 * r.val + b.val) : k2_pay23 (F := Ideal) (gM M r) (ix2 b 0) = rM M a := by
  pointwise [k2_pay23]
  unfold rM
  simp only [gM_at M r b a ha]
/-- One stored or carried value, at an element. -/
theorem pay24_at (ha : a.val = 64 * r.val + b.val) : k2_pay24 (F := Ideal) (gC T r) (ix2 b 0) = Ideal.div 1 (T (ix2 a 0)) := by
  pointwise [k2_pay24]
  rw [gC_at T r b a ha]
/-- One stored or carried value, at an element. -/
theorem pay26_at (ha : a.val = 64 * r.val + b.val) : k2_pay26 (F := Ideal) (gM M r) (gC L r) (gC T r) (ix2 b 0) = kCut (rM M a) (T (ix2 a 0)) (L (ix2 a 0)) := by
  pointwise [k2_pay26, k2_pay25]
  rw [pay23_at M r b a ha, gC_at T r b a ha, gC_at L r b a ha, kCut]

variable (ζ : ℕ → EReal) (k : Fin k2_t2_loop.trips) (l : Fin 128)

/-- A chunk's quarter of the logits. -/
theorem z0_at (ha : a.val = 64 * r.val + b.val) (hz : ∀ (j : Fin 32) (c : Fin 512), Z (ix3 j a c) = ζ (512 * j.val + c.val)) (hk : k.val < 32) :
    z0 Z r k (ix3 0 b l) = ζ (512 * k.val + 128 * 0 + l.val) := by
  refine (View.ld_unit_apply_of Z _ _ _ _ (ix3 ⟨k.val, hk⟩ a ⟨l.val, by omega⟩) fun c => ?_).trans ((hz _ _).trans (congrArg ζ ?_))
  · rw [congrFun (k2_off4_eq r k) c]
    match c with
    | ⟨0, _⟩ => rfl
    | ⟨1, _⟩ => exact ha
    | ⟨2, _⟩ => exact (Nat.zero_add _).symm
  · show 512 * k.val + l.val = _; omega
/-- A chunk's quarter of the logits. -/
theorem z1_at (ha : a.val = 64 * r.val + b.val) (hz : ∀ (j : Fin 32) (c : Fin 512), Z (ix3 j a c) = ζ (512 * j.val + c.val)) (hk : k.val < 32) :
    z1 Z r k (ix3 0 b l) = ζ (512 * k.val + 128 * 1 + l.val) := by
  refine (View.ld_unit_apply_of Z _ _ _ _ (ix3 ⟨k.val, hk⟩ a ⟨128 + l.val, by omega⟩) fun c => ?_).trans ((hz _ _).trans (congrArg ζ ?_))
  · rw [congrFun (k2_off5_eq r k) c]
    match c with
    | ⟨0, _⟩ => rfl
    | ⟨1, _⟩ => exact ha
    | ⟨2, _⟩ => rfl
  · show 512 * k.val + (128 + l.val) = _; omega
/-- A chunk's quarter of the logits. -/
theorem z2_at (ha : a.val = 64 * r.val + b.val) (hz : ∀ (j : Fin 32) (c : Fin 512), Z (ix3 j a c) = ζ (512 * j.val + c.val)) (hk : k.val < 32) :
    z2 Z r k (ix3 0 b l) = ζ (512 * k.val + 128 * 2 + l.val) := by
  refine (View.ld_unit_apply_of Z _ _ _ _ (ix3 ⟨k.val, hk⟩ a ⟨256 + l.val, by omega⟩) fun c => ?_).trans ((hz _ _).trans (congrArg ζ ?_))
  · rw [congrFun (k2_off6_eq r k) c]
    match c with
    | ⟨0, _⟩ => rfl
    | ⟨1, _⟩ => exact ha
    | ⟨2, _⟩ => rfl
  · show 512 * k.val + (256 + l.val) = _; omega
/-- A chunk's quarter of the logits. -/
theorem z3_at (ha : a.val = 64 * r.val + b.val) (hz : ∀ (j : Fin 32) (c : Fin 512), Z (ix3 j a c) = ζ (512 * j.val + c.val)) (hk : k.val < 32) :
    z3 Z r k (ix3 0 b l) = ζ (512 * k.val + 128 * 3 + l.val) := by
  refine (View.ld_unit_apply_of Z _ _ _ _ (ix3 ⟨k.val, hk⟩ a ⟨384 + l.val, by omega⟩) fun c => ?_).trans ((hz _ _).trans (congrArg ζ ?_))
  · rw [congrFun (k2_off7_eq r k) c]
    match c with
    | ⟨0, _⟩ => rfl
    | ⟨1, _⟩ => exact ha
    | ⟨2, _⟩ => rfl
  · show 512 * k.val + (384 + l.val) = _; omega
end group

/-! ## One block's step -/

section trip
variable (v15 : Vec Ideal S64x128 .f32) (v19 v24 v27 : Vec Ideal S64x1 .f32) (a0 a1 a2 a3 : Vec Ideal S1x64x128 .f32) (A : Acc Ideal) (b : Fin 64) (k : Fin 128)

/-- What a trip makes of an accumulator. -/
theorem trip1_at : (trip v15 v19 v24 v27 a0 a1 a2 a3 A).1 (ix2 b k)
    = A.1 (ix2 b k) + Ideal.exp ((a0 (ix3 0 b k) - k2_pay23 v15 (ix2 b 0)) * k2_pay24 v19 (ix2 b 0))
      + Ideal.exp ((a1 (ix3 0 b k) - k2_pay23 v15 (ix2 b 0)) * k2_pay24 v19 (ix2 b 0))
      + Ideal.exp ((a2 (ix3 0 b k) - k2_pay23 v15 (ix2 b 0)) * k2_pay24 v19 (ix2 b 0))
      + Ideal.exp ((a3 (ix3 0 b k) - k2_pay23 v15 (ix2 b 0)) * k2_pay24 v19 (ix2 b 0)) := by
  unfold trip
  pointwise [k2_pay33, k2_pay31, k2_pay30, k2_pay21, k2_pay11, k2_pay14, k2_pay19, k2_pay10, k2_pay13, k2_pay18]
/-- What a trip makes of an accumulator. -/
theorem trip2_at : (trip v15 v19 v24 v27 a0 a1 a2 a3 A).2.1 (ix2 b k)
    = A.2.1 (ix2 b k) + (if 0 ≤ a0 (ix3 0 b k) - k2_pay26 v15 v24 v27 (ix2 b 0) then Ideal.exp ((a0 (ix3 0 b k) - k2_pay23 v15 (ix2 b 0)) * k2_pay24 v19 (ix2 b 0)) else 0)
      + (if 0 ≤ a1 (ix3 0 b k) - k2_pay26 v15 v24 v27 (ix2 b 0) then Ideal.exp ((a1 (ix3 0 b k) - k2_pay23 v15 (ix2 b 0)) * k2_pay24 v19 (ix2 b 0)) else 0)
      + (if 0 ≤ a2 (ix3 0 b k) - k2_pay26 v15 v24 v27 (ix2 b 0) then Ideal.exp ((a2 (ix3 0 b k) - k2_pay23 v15 (ix2 b 0)) * k2_pay24 v19 (ix2 b 0)) else 0)
      + (if 0 ≤ a3 (ix3 0 b k) - k2_pay26 v15 v24 v27 (ix2 b 0) then Ideal.exp ((a3 (ix3 0 b k) - k2_pay23 v15 (ix2 b 0)) * k2_pay24 v19 (ix2 b 0)) else 0) := by
  unfold trip
  pointwise [k2_pay34, k2_pay32, k2_pay31, k2_pay30, k2_pay16, k2_pay22, k2_pay11, k2_pay12, k2_pay14, k2_pay15, k2_pay19, k2_pay20, k2_pay10, k2_pay13, k2_pay18]
/-- What a trip makes of an accumulator. -/
theorem trip3_at : (trip v15 v19 v24 v27 a0 a1 a2 a3 A).2.2 (ix2 b k)
    = min (min (min (min (A.2.2 (ix2 b k)) (FloatOps.absf (F := Ideal) (φ := .f32) (a0 (ix3 0 b k) - k2_pay26 v15 v24 v27 (ix2 b 0))))
        (FloatOps.absf (F := Ideal) (φ := .f32) (a1 (ix3 0 b k) - k2_pay26 v15 v24 v27 (ix2 b 0))))
        (FloatOps.absf (F := Ideal) (φ := .f32) (a2 (ix3 0 b k) - k2_pay26 v15 v24 v27 (ix2 b 0))))
        (FloatOps.absf (F := Ideal) (φ := .f32) (a3 (ix3 0 b k) - k2_pay26 v15 v24 v27 (ix2 b 0))) := by
  unfold trip
  pointwise [k2_pay35, k2_pay32, k2_pay31, k2_pay30, k2_pay17, k2_pay22, k2_pay11, k2_pay12, k2_pay14, k2_pay15, k2_pay19, k2_pay20, k2_pay10, k2_pay13, k2_pay18]
/-- One stored or carried value, at an element. -/
theorem pay27_at : k2_pay27 (F := Ideal) (ix2 b k) = 0 := by pointwise [k2_pay27]
/-- One stored or carried value, at an element. -/
theorem pay28_at : k2_pay28 (F := Ideal) (ix2 b k) = 0 := by pointwise [k2_pay28]
/-- One stored or carried value, at an element. -/
theorem pay29_at : k2_pay29 (F := Ideal) (ix2 b k) = ⊤ := by
  pointwise [k2_pay29]
  exact inf_top
end trip

/-- A constant of the loops. -/
theorem trips2 : k2_t2_loop.trips = 32 := by decide +kernel

/-! ## All blocks -/

section accs
variable (Z : Vec Ideal S32x512x512 .f32) (M : Vec Ideal S512x128 .f32) (T L : Vec Ideal S512x1 .f32) (r : Fin k2_t1_loop.trips) (b : Fin 64) (a : Fin 512)
  (ζ : ℕ → EReal) (ha : a.val = 64 * r.val + b.val) (hz : ∀ (j : Fin 32) (c : Fin 512), Z (ix3 j a c) = ζ (512 * j.val + c.val)) (l : Fin 128)

include ha hz in
/-- An accumulator after some trips. -/
theorem accs1 (n : ℕ) (hn : n ≤ 32) : (accs Z r (gM M r) (gC T r) (gC L r) (gC T r) n).1 (ix2 b l)
    = ∑ k ∈ Finset.range n, ∑ q ∈ Finset.range 4, kE (rM M a) (T (ix2 a 0)) (ζ (512 * k + 128 * q + l.val)) := by
  induction n with
  | zero => rw [Finset.sum_range_zero]; exact pay27_at b l
  | succ n ih =>
    have hk : n < k2_t2_loop.trips := by rw [trips2]; omega
    rw [accs_succ Z r _ _ _ _ ⟨n, hk⟩, trip1_at, Finset.sum_range_succ, ← ih (by omega), pay23_at M r b a ha, pay24_at T r b a ha,
      z0_at Z r b a ζ ⟨n, hk⟩ l ha hz (by show n < 32; omega), z1_at Z r b a ζ ⟨n, hk⟩ l ha hz (by show n < 32; omega),
      z2_at Z r b a ζ ⟨n, hk⟩ l ha hz (by show n < 32; omega), z3_at Z r b a ζ ⟨n, hk⟩ l ha hz (by show n < 32; omega)]
    simp only [Finset.sum_range_succ, Finset.sum_range_zero, zero_add, kE, add_assoc]
include ha hz in
/-- An accumulator after some trips. -/
theorem accs2 (n : ℕ) (hn : n ≤ 32) : (accs Z r (gM M r) (gC T r) (gC L r) (gC T r) n).2.1 (ix2 b l)
    = ∑ k ∈ Finset.range n, ∑ q ∈ Finset.range 4, kK (rM M a) (T (ix2 a 0)) (L (ix2 a 0)) (ζ (512 * k + 128 * q + l.val)) := by
  induction n with
  | zero => rw [Finset.sum_range_zero]; exact pay28_at b l
  | succ n ih =>
    have hk : n < k2_t2_loop.trips := by rw [trips2]; omega
    rw [accs_succ Z r _ _ _ _ ⟨n, hk⟩, trip2_at, Finset.sum_range_succ, ← ih (by omega), pay23_at M r b a ha, pay24_at T r b a ha, pay26_at M T L r b a ha,
      z0_at Z r b a ζ ⟨n, hk⟩ l ha hz (by show n < 32; omega), z1_at Z r b a ζ ⟨n, hk⟩ l ha hz (by show n < 32; omega),
      z2_at Z r b a ζ ⟨n, hk⟩ l ha hz (by show n < 32; omega), z3_at Z r b a ζ ⟨n, hk⟩ l ha hz (by show n < 32; omega)]
    simp only [Finset.sum_range_succ, Finset.sum_range_zero, zero_add, kK, kE, add_assoc]
include ha hz in
/-- An accumulator after some trips. -/
theorem accs3 (n : ℕ) (hn : n ≤ 32) (x : EReal) : x ≤ (accs Z r (gM M r) (gC T r) (gC L r) (gC T r) n).2.2 (ix2 b l)
    ↔ ∀ k < n, ∀ q < 4, x ≤ FloatOps.absf (F := Ideal) (φ := .f32) (ζ (512 * k + 128 * q + l.val) - kCut (rM M a) (T (ix2 a 0)) (L (ix2 a 0))) := by
  induction n with
  | zero => exact ⟨fun _ k hk => absurd hk (Nat.not_lt_zero _), fun _ => le_of_le_of_eq le_top (pay29_at b l).symm⟩
  | succ n ih =>
    have hk : n < k2_t2_loop.trips := by rw [trips2]; omega
    rw [accs_succ Z r _ _ _ _ ⟨n, hk⟩, trip3_at, pay26_at M T L r b a ha,
      z0_at Z r b a ζ ⟨n, hk⟩ l ha hz (by show n < 32; omega), z1_at Z r b a ζ ⟨n, hk⟩ l ha hz (by show n < 32; omega),
      z2_at Z r b a ζ ⟨n, hk⟩ l ha hz (by show n < 32; omega), z3_at Z r b a ζ ⟨n, hk⟩ l ha hz (by show n < 32; omega)]
    simp only [le_min_iff]
    rw [ih (by omega)]
    constructor
    · rintro ⟨⟨⟨⟨h, h0⟩, h1⟩, h2⟩, h3⟩ k hk' q hq
      rcases Nat.lt_succ_iff_lt_or_eq.1 hk' with h' | rfl
      · exact h k h' q hq
      · match q, hq with
        | 0, _ => exact h0
        | 1, _ => exact h1
        | 2, _ => exact h2
        | 3, _ => exact h3
    · intro h
      exact ⟨⟨⟨⟨fun k hk' => h k (by omega), h n (by omega) 0 (by omega)⟩, h n (by omega) 1 (by omega)⟩, h n (by omega) 2 (by omega)⟩, h n (by omega) 3 (by omega)⟩

include ha hz in
/-- The threshold stored. -/
theorem gThr_at : gThr Z M T L r (ix2 b 0) = kThr ζ (rM M a) (T (ix2 a 0)) (L (ix2 a 0)) := by
  unfold gThr
  pointwise [k2_pay37, k2_pay25]
  unfold gAcc kThr
  rw [trips2, gC_at L r b a ha, ← lanes_sum (fun v => kE (rM M a) (T (ix2 a 0)) (ζ v))]
  simp only [accs1 Z M T L r b a ζ ha hz _ 32 le_rfl]
include ha hz in
/-- The margin stored. -/
theorem gMar_at : gMar Z M T L r (ix2 b 0) = kMar ζ (rM M a) (T (ix2 a 0)) (L (ix2 a 0)) := by
  unfold gMar
  pointwise [k2_pay38]
  unfold gAcc kMar
  rw [trips2, pay24_at T r b a ha]
  refine congrArg (· * Ideal.div 1 (T (ix2 a 0))) ?_
  exact lanes_min (fun v => FloatOps.absf (F := Ideal) (φ := .f32) (ζ v - kCut (rM M a) (T (ix2 a 0)) (L (ix2 a 0)))) _
    fun l x => accs3 Z M T L r b a ζ ha hz l 32 le_rfl x
include ha in
/-- The cut stored. -/
theorem gSt0_at : gSt0 Z M T L r (ix3 0 b l) = kCut (rM M a) (T (ix2 a 0)) (L (ix2 a 0)) := by
  unfold gSt0
  pointwise [k2_pay5, k2_pay39]
  exact pay26_at M T L r b a ha
include ha hz in
/-- The offset stored. -/
theorem gSt1_at : gSt1 Z M T L r (ix3 0 b l) = kOff ζ (rM M a) (T (ix2 a 0)) (L (ix2 a 0)) := by
  unfold gSt1
  pointwise [k2_pay6, k2_pay36]
  unfold gAcc kOff
  rw [trips2, pay23_at M r b a ha, pay24_at T r b a ha, ← lanes_sum (fun v => kK (rM M a) (T (ix2 a 0)) (L (ix2 a 0)) (ζ v))]
  simp only [accs2 Z M T L r b a ζ ha hz _ 32 le_rfl]
include ha in
/-- The reciprocal temperature stored. -/
theorem gSt2_at : gSt2 T r (ix3 0 b l) = Ideal.div 1 (T (ix2 a 0)) := by
  unfold gSt2
  pointwise [k2_pay7]
  exact pay24_at T r b a ha
end accs
end Cert.KernelIdeal.R2
end
end
-- ==== Proof.KernelIdeal.HeadBlocks.lean ====
/- The blocks the head region's row block leaves, entry by entry, over the row block's logits. -/
module

public import proofs.«01_k».proof.Proof.KernelIdeal.HeadReads

@[expose] public section
set_option maxRecDepth 16384
noncomputable section
namespace Cert.KernelIdeal.R2
open Cert.KernelIdeal Cert.KernelIdeal.Gen
open Idealize.ShloMosaic Idealize.ShloMosaic.TcCoe Idealize.ShloMosaic.Tactic Idealize.SL.Sem

/-- Every index is a triple. -/
theorem exists_ix3 {n0 n1 n2 : ℕ} (i : Shape.Idx ⟨3, ![n0, n1, n2]⟩) : ∃ (a : Fin n0) (b : Fin n1) (c : Fin n2), i = ix3 a b c :=
  ⟨i 0, i 1, i 2, by funext x; match x with | ⟨0, _⟩ => rfl | ⟨1, _⟩ => rfl | ⟨2, _⟩ => rfl⟩

section pieces
variable (Z : Vec Ideal S32x512x512 .f32) (M : Vec Ideal S512x128 .f32) (T L : Vec Ideal S512x1 .f32) (ζ : Fin 512 → ℕ → EReal)
  (hz : ∀ (a : Fin 512) (j : Fin 32) (c : Fin 512), Z (ix3 j a c) = ζ a (512 * j.val + c.val))

/-- The row block's thresholds, -/
abbrev GThr : Vec Ideal S512x1 .f32 := fun y => kThr (ζ (y 0)) (rM M (y 0)) (T (ix2 (y 0) 0)) (L (ix2 (y 0) 0))
/-- margins -/
abbrev GMar : Vec Ideal S512x1 .f32 := fun y => kMar (ζ (y 0)) (rM M (y 0)) (T (ix2 (y 0) 0)) (L (ix2 (y 0) 0))
/-- and the three numbers of the output pass. -/
abbrev GSt : Vec Ideal S3x512x128 .f32 := fun y =>
  if (y 0).val = 0 then kCut (rM M (y 1)) (T (ix2 (y 1) 0)) (L (ix2 (y 1) 0))
  else if (y 0).val = 1 then kOff (ζ (y 1)) (rM M (y 1)) (T (ix2 (y 1) 0)) (L (ix2 (y 1) 0)) else Ideal.div 1 (T (ix2 (y 1) 0))

/-- Where a stored piece's element lies in the whole. -/
theorem emb3_val (r : Fin k2_t1_loop.trips) (b : Fin 64) :
    (((Rect.unit (s := S512x1) (k2_off3 r) S64x1.size (k2_off3_inb i31 r h31)).emb (ix2 b 0)) 0).val = 64 * r.val + b.val := by
  rw [ValueKit.rect_emb_unit_val, congrFun (k2_off3_eq r) 0]; rfl

include hz in
/-- Every stored piece is a part of the whole. -/
theorem p7_pieces : ∀ n ≤ 8, ∀ p ∈ p7 Z M T L n, ∀ x : p.1.shape.Idx, p.2 x = GThr M T L ζ (p.1.emb x)
  | 0, _, p, hp, _ => absurd hp List.not_mem_nil
  | n + 1, hn, p, hp, x => by
    have hk : n < k2_t1_loop.trips := by rw [trips1]; omega
    rw [show n + 1 = (⟨n, hk⟩ : Fin k2_t1_loop.trips).val + 1 from rfl, p7_succ] at hp
    rcases List.mem_cons.1 hp with rfl | hp
    · obtain ⟨b, z, rfl⟩ := exists_ix2 (n := 64) (m := 1) x
      obtain rfl : z = 0 := Subsingleton.elim _ _
      exact gThr_at Z M T L ⟨n, hk⟩ b _ _ (emb3_val ⟨n, hk⟩ b) (fun j c => hz _ j c)
    · exact p7_pieces n (by omega) p hp x
include hz in
/-- Every stored piece is a part of the whole. -/
theorem p8_pieces : ∀ n ≤ 8, ∀ p ∈ p8 Z M T L n, ∀ x : p.1.shape.Idx, p.2 x = GMar M T L ζ (p.1.emb x)
  | 0, _, p, hp, _ => absurd hp List.not_mem_nil
  | n + 1, hn, p, hp, x => by
    have hk : n < k2_t1_loop.trips := by rw [trips1]; omega
    rw [show n + 1 = (⟨n, hk⟩ : Fin k2_t1_loop.trips).val + 1 from rfl, p8_succ] at hp
    rcases List.mem_cons.1 hp with rfl | hp
    · obtain ⟨b, z, rfl⟩ := exists_ix2 (n := 64) (m := 1) x
      obtain rfl : z = 0 := Subsingleton.elim _ _
      exact gMar_at Z M T L ⟨n, hk⟩ b _ _ (emb3_val ⟨n, hk⟩ b) (fun j c => hz _ j c)
    · exact p8_pieces n (by omega) p hp x

/-- Where a stored piece's element lies in the whole. -/
theorem embS (o : ℕ) (n : ℕ) (off : Fin 3 → ℕ) (he : off = ![o, 64 * n, 0]) (inb) (b : Fin 64) (l : Fin 128) :
    (((Rect.unit (s := S3x512x128) off S1x64x128.size inb).emb (ix3 0 b l)) 0).val = o
      ∧ (((Rect.unit (s := S3x512x128) off S1x64x128.size inb).emb (ix3 0 b l)) 1).val = 64 * n + b.val := by
  subst he
  exact ⟨by rw [ValueKit.rect_emb_unit_val]; rfl, by rw [ValueKit.rect_emb_unit_val]; rfl⟩

include hz in
/-- Every stored piece is a part of the whole. -/
theorem p11_pieces : ∀ n ≤ 8, ∀ p ∈ p11 Z M T L n, ∀ x : p.1.shape.Idx, p.2 x = GSt M T L ζ (p.1.emb x)
  | 0, _, p, hp, _ => absurd hp List.not_mem_nil
  | n + 1, hn, p, hp, x => by
    have hk : n < k2_t1_loop.trips := by rw [trips1]; omega
    rw [show n + 1 = (⟨n, hk⟩ : Fin k2_t1_loop.trips).val + 1 from rfl, p11_succ] at hp
    rcases List.mem_cons.1 hp with rfl | hp
    · obtain ⟨z, b, l, rfl⟩ := exists_ix3 (n0 := 1) (n1 := 64) (n2 := 128) x
      obtain rfl : z = 0 := Subsingleton.elim _ _
      have e := embS 2 n _ (k2_off10_eq ⟨n, hk⟩) (k2_off10_inb i31 ⟨n, hk⟩ h31) b l
      refine (gSt2_at T ⟨n, hk⟩ b _ e.2 l).trans ?_
      unfold GSt
      rw [if_neg (fun h => by have := e.1.symm.trans h; omega), if_neg (fun h => by have := e.1.symm.trans h; omega)]
    rcases List.mem_cons.1 hp with rfl | hp
    · obtain ⟨z, b, l, rfl⟩ := exists_ix3 (n0 := 1) (n1 := 64) (n2 := 128) x
      obtain rfl : z = 0 := Subsingleton.elim _ _
      have e := embS 1 n _ (k2_off9_eq ⟨n, hk⟩) (k2_off9_inb i31 ⟨n, hk⟩ h31) b l
      refine (gSt1_at Z M T L ⟨n, hk⟩ b _ _ e.2 (fun j c => hz _ j c) l).trans ?_
      unfold GSt
      rw [if_neg (fun h => by have := e.1.symm.trans h; omega), if_pos e.1]
    rcases List.mem_cons.1 hp with rfl | hp
    · obtain ⟨z, b, l, rfl⟩ := exists_ix3 (n0 := 1) (n1 := 64) (n2 := 128) x
      obtain rfl : z = 0 := Subsingleton.elim _ _
      have e := embS 0 n _ (k2_off8_eq ⟨n, hk⟩) (k2_off8_inb i31 ⟨n, hk⟩ h31) b l
      refine (gSt0_at Z M T L ⟨n, hk⟩ b _ e.2 l).trans ?_
      unfold GSt
      rw [if_pos e.1]
    · exact p11_pieces n (by omega) p hp x

include hz in
/-- The stored pieces together are the whole. -/
theorem canon7 : View.canon (p7 Z M T L k2_t1_loop.trips) = GThr M T L ζ := funext fun y =>
  View.canon_apply_of_pieces (Val := Elt Ideal) (e := .f32) (GThr M T L ζ) _ (by rw [trips1]; exact p7_pieces Z M T L ζ hz 8 le_rfl) y (full7 Z M T L y)
include hz in
/-- The stored pieces together are the whole. -/
theorem canon8 : View.canon (p8 Z M T L k2_t1_loop.trips) = GMar M T L ζ := funext fun y =>
  View.canon_apply_of_pieces (Val := Elt Ideal) (e := .f32) (GMar M T L ζ) _ (by rw [trips1]; exact p8_pieces Z M T L ζ hz 8 le_rfl) y (full8 Z M T L y)
include hz in
/-- The stored pieces together are the whole. -/
theorem canon11 : View.canon (p11 Z M T L k2_t1_loop.trips) = GSt M T L ζ := funext fun y =>
  View.canon_apply_of_pieces (Val := Elt Ideal) (e := .f32) (GSt M T L ζ) _ (by rw [trips1]; exact p11_pieces Z M T L ζ hz 8 le_rfl) y (full11 Z M T L y)
end pieces

/-! ## The output pass -/

/-- A logit's output. -/
def kOut (cut off rt x : EReal) : EReal := if cut ≤ x then x * rt - off else 0

section out
variable (i : grid2.Coords) (h4 : k2_cond4 i = 1#1) (Z : Vec Ideal S32x512x512 .f32) (St : Vec Ideal S3x512x128 .f32)

/-- A slab of the statistics. -/
theorem s0_at (a : Fin 512) (l : Fin 128) : s0 St (ix3 0 a l) = St (ix3 0 a l) := by
  refine View.ld_unit_apply_of St _ _ _ _ _ fun c => ?_
  match c with
  | ⟨0, _⟩ => rfl
  | ⟨1, _⟩ => exact (Nat.zero_add _).symm
  | ⟨2, _⟩ => exact (Nat.zero_add _).symm
/-- A slab of the statistics. -/
theorem s1_at (a : Fin 512) (l : Fin 128) : s1 St (ix3 0 a l) = St (ix3 1 a l) := by
  refine View.ld_unit_apply_of St _ _ _ _ _ fun c => ?_
  match c with
  | ⟨0, _⟩ => rfl
  | ⟨1, _⟩ => exact (Nat.zero_add _).symm
  | ⟨2, _⟩ => exact (Nat.zero_add _).symm
/-- A slab of the statistics. -/
theorem s2_at (a : Fin 512) (l : Fin 128) : s2 St (ix3 0 a l) = St (ix3 2 a l) := by
  refine View.ld_unit_apply_of St _ _ _ _ _ fun c => ?_
  match c with
  | ⟨0, _⟩ => rfl
  | ⟨1, _⟩ => exact (Nat.zero_add _).symm
  | ⟨2, _⟩ => exact (Nat.zero_add _).symm

variable (x0 x1 x2 x3 : Vec Ideal S1x512x128 .f32) (a : Fin 512) (l : Fin 128)
/-- One stored or carried value, at an element. -/
theorem pay43_at : k2_pay43 x0 x1 x2 x3 (ix2 a l) = kOut (x0 (ix3 0 a l)) (x1 (ix3 0 a l)) (x2 (ix3 0 a l)) (x3 (ix3 0 a l)) := by
  pointwise [k2_pay43, k2_pay40, k2_pay41, k2_pay42, kOut]
/-- One stored or carried value, at an element. -/
theorem pay44_at : k2_pay44 x0 x1 x2 x3 (ix2 a l) = kOut (x0 (ix3 0 a l)) (x1 (ix3 0 a l)) (x2 (ix3 0 a l)) (x3 (ix3 0 a l)) := by
  pointwise [k2_pay44, k2_pay40, k2_pay41, k2_pay42, kOut]
/-- One stored or carried value, at an element. -/
theorem pay8_at : k2_pay8 (k2_pay41 x1) (k2_pay46 x0 x3) (k2_pay47 x2 x3) (ix2 a l) = kOut (x0 (ix3 0 a l)) (x1 (ix3 0 a l)) (x2 (ix3 0 a l)) (x3 (ix3 0 a l)) := by
  pointwise [k2_pay8, k2_pay46, k2_pay47, k2_pay45, k2_pay40, k2_pay41, k2_pay42, kOut]
/-- One stored or carried value, at an element. -/
theorem pay9_at : k2_pay9 (k2_pay40 x0) (k2_pay41 x1) (k2_pay42 x2) x3 (ix2 a l) = kOut (x0 (ix3 0 a l)) (x1 (ix3 0 a l)) (x2 (ix3 0 a l)) (x3 (ix3 0 a l)) := by
  pointwise [k2_pay9, k2_pay40, k2_pay41, k2_pay42, kOut]
end out

/-- Where the load lies. -/
theorem off11_eq : ∀ t : Fin cfg2.N, 32 ≤ t.val % 64 → k2_off11 (grid2.coords t) = ![t.val % 64 - 32, 0, 0] :=
  (by decide +kernel : ∀ t : Fin grid2.N, 32 ≤ t.val % 64 → k2_off11 (grid2.coords t) = ![t.val % 64 - 32, 0, 0])
/-- Where the load lies. -/
theorem off12_eq : ∀ t : Fin cfg2.N, 32 ≤ t.val % 64 → k2_off12 (grid2.coords t) = ![t.val % 64 - 32, 0, 128] :=
  (by decide +kernel : ∀ t : Fin grid2.N, 32 ≤ t.val % 64 → k2_off12 (grid2.coords t) = ![t.val % 64 - 32, 0, 128])
/-- Where the load lies. -/
theorem off13_eq : ∀ t : Fin cfg2.N, 32 ≤ t.val % 64 → k2_off13 (grid2.coords t) = ![t.val % 64 - 32, 0, 256] :=
  (by decide +kernel : ∀ t : Fin grid2.N, 32 ≤ t.val % 64 → k2_off13 (grid2.coords t) = ![t.val % 64 - 32, 0, 256])
/-- Where the load lies. -/
theorem off14_eq : ∀ t : Fin cfg2.N, 32 ≤ t.val % 64 → k2_off14 (grid2.coords t) = ![t.val % 64 - 32, 0, 384] :=
  (by decide +kernel : ∀ t : Fin grid2.N, 32 ≤ t.val % 64 → k2_off14 (grid2.coords t) = ![t.val % 64 - 32, 0, 384])

section outBlock
variable (t : Fin cfg2.N) (h4 : k2_cond4 (grid2.coords t) = 1#1) (Z : Vec Ideal S32x512x512 .f32) (St : Vec Ideal S3x512x128 .f32)
  (ζ : Fin 512 → ℕ → EReal) (cut off rt : Fin 512 → EReal)
  (hz : ∀ (a : Fin 512) (j : Fin 32) (c : Fin 512), Z (ix3 j a c) = ζ a (512 * j.val + c.val))
  (h0 : ∀ a l, St (ix3 0 a l) = cut a) (h1 : ∀ a l, St (ix3 1 a l) = off a) (h2 : ∀ a l, St (ix3 2 a l) = rt a)

/-- The output block. -/
abbrev GOut : Vec Ideal S512x512 .bf16 := fun y => kOut (cut (y 0)) (off (y 0)) (rt (y 0)) (ζ (y 0) (512 * (t.val % 64 - 32) + (y 1).val))

include hz h0 h1 h2 in
/-- A quarter of the output block. -/
theorem out_piece (h32 : 32 ≤ t.val % 64) (o : ℕ) (f : Vec Ideal S512x128 .bf16) (fo : Fin 3 → ℕ) (he : fo = ![t.val % 64 - 32, 0, o]) (inb) (inb')
    (hf : ∀ a l, f (ix2 a l) = kOut (s0 St (ix3 0 a l)) (s1 St (ix3 0 a l)) (s2 St (ix3 0 a l)) (View.ld Z (Rect.unit (s := S32x512x512) fo S1x512x128.size inb) (ix3 0 a l)))
    (y : S512x128.Idx) : f y = GOut t ζ cut off rt ((Rect.unit (s := S512x512) ![0, o] S512x128.size inb').emb y) := by
  subst he
  obtain ⟨a, l, rfl⟩ := exists_ix2 y
  have ho : o + 128 ≤ 512 := inb' 1
  rw [hf, s0_at, s1_at, s2_at, h0, h1, h2]
  have e0 : ((Rect.unit (s := S512x512) ![0, o] S512x128.size inb').emb (ix2 a l)) 0 = a := Fin.ext (by show 0 + 1 * a.val = a.val; omega)
  have e1 : (((Rect.unit (s := S512x512) ![0, o] S512x128.size inb').emb (ix2 a l)) 1).val = o + l.val := by show o + 1 * l.val = _; omega
  unfold GOut
  simp only [e0, e1]
  congr 1
  refine (View.ld_unit_apply_of Z _ _ _ _ (ix3 ⟨t.val % 64 - 32, by omega⟩ a ⟨o + l.val, by omega⟩) fun c => ?_).trans (hz _ _ _)
  match c with
  | ⟨0, _⟩ => rfl
  | ⟨1, _⟩ => exact (Nat.zero_add _).symm
  | ⟨2, _⟩ => rfl

include hz h0 h1 h2 in
/-- The stored pieces together are the whole. -/
theorem canon6 (h32 : 32 ≤ t.val % 64) : View.canon (p6 (grid2.coords t) h4 Z St) = GOut t ζ cut off rt := by
  funext y
  refine View.canon_apply_of_pieces (Val := Elt Ideal) (e := .bf16) (GOut t ζ cut off rt) _ ?_ y (cover6 _ h4 Z St y)
  unfold p6
  simp only [List.forall_mem_cons]
  exact ⟨out_piece t Z St ζ cut off rt hz h0 h1 h2 h32 384 _ _ (off14_eq t h32) _ _ (fun a l => pay9_at _ _ _ _ a l),
    out_piece t Z St ζ cut off rt hz h0 h1 h2 h32 256 _ _ (off13_eq t h32) _ _ (fun a l => pay8_at _ _ _ _ a l),
    out_piece t Z St ζ cut off rt hz h0 h1 h2 h32 128 _ _ (off12_eq t h32) _ _ (fun a l => pay44_at _ _ _ _ a l),
    out_piece t Z St ζ cut off rt hz h0 h1 h2 h32 0 _ _ (off11_eq t h32) _ _ (fun a l => pay43_at _ _ _ _ a l),
    fun _ h => absurd h List.not_mem_nil⟩
end outBlock

/-! ## The row block's values -/

section rowBlock
variable (V : (c : Dev nD) → (b : Ref sig .tc) → Buf (Elt Ideal) ((c : Thread nD τ).loc b)) (c : Dev nD) (i : ℕ)
  (ζ : Fin 512 → ℕ → EReal)
  (hζ : ∀ (a : Fin 512) (j : Fin 32) (k : Fin 512), (∑ p : Fin 4096, xB V c i (ix2 a p) * wB V c j.val (ix2 k p)) = ζ a (512 * j.val + k.val))

include hζ in
/-- The logits in the scratch. -/
theorem zF_at (a : Fin 512) (j : Fin 32) (k : Fin 512) : zF V c i (ix3 j a k) = ζ a (512 * j.val + k.val) :=
  (pay3_at (xB V c i) (wB V c j.val) a k).trans (hζ a j k)

include hζ in
/-- The running maximum is the least upper bound of the logits seen. -/
theorem mF_le (a : Fin 512) (l : Fin 128) (x : EReal) : ∀ n ≤ 32, mF V c i n (ix2 a l) ≤ x ↔ ∀ k < n, ∀ q < 4, ζ a (512 * k + 128 * q + l.val) ≤ x
  | 0, _ => ⟨fun _ k hk => absurd hk (Nat.not_lt_zero _), fun _ => le_of_eq_of_le (pay1_at a l) bot_le⟩
  | n + 1, hn => by
    have z : ∀ (o : ℕ) (ho : o < 512), k2_pay2 (xB V c i) (wB V c n) (ix2 a ⟨o, ho⟩) = ζ a (512 * n + o) := fun o ho =>
      (pay2_at _ _ a ⟨o, ho⟩).trans (hζ a ⟨n, by omega⟩ ⟨o, ho⟩)
    show k2_pay4 (xB V c i) (wB V c n) (mF V c i n) (ix2 a l) ≤ x ↔ _
    rw [pay4_at, z, z, z, z]
    simp only [max_le_iff]
    rw [mF_le a l x n (by omega)]
    constructor
    · rintro ⟨⟨⟨⟨h, h0⟩, h1⟩, h2⟩, h3⟩ k hk' q hq
      rcases Nat.lt_succ_iff_lt_or_eq.1 hk' with h' | rfl
      · exact h k h' q hq
      · match q, hq with
        | 0, _ => exact h0
        | 1, _ => rw [show 512 * k + 128 * 1 + l.val = 512 * k + (128 + l.val) by omega]; exact h1
        | 2, _ => rw [show 512 * k + 128 * 2 + l.val = 512 * k + (256 + l.val) by omega]; exact h2
        | 3, _ => rw [show 512 * k + 128 * 3 + l.val = 512 * k + (384 + l.val) by omega]; exact h3
    · intro h
      refine ⟨⟨⟨⟨fun k hk' => h k (by omega), h n (by omega) 0 (by omega)⟩, ?_⟩, ?_⟩, ?_⟩
      · rw [show 512 * n + (128 + l.val) = 512 * n + 128 * 1 + l.val by omega]; exact h n (by omega) 1 (by omega)
      · rw [show 512 * n + (256 + l.val) = 512 * n + 128 * 2 + l.val by omega]; exact h n (by omega) 2 (by omega)
      · rw [show 512 * n + (384 + l.val) = 512 * n + 128 * 3 + l.val by omega]; exact h n (by omega) 3 (by omega)

/-- A row's greatest logit. -/
def kMx (z : ℕ → EReal) : EReal := Finset.fold max (Ideal.ofBits FTy.f32 4286578688#32) (fun v : Fin 16384 => z v.val) Finset.univ

include hζ in
/-- The maximum over the lanes is the row's. -/
theorem rM_at (a : Fin 512) : rM (mF V c i 32) a = kMx (ζ a) :=
  lanes_max (ζ a) _ fun l x => mF_le V c i ζ hζ a l x 32 le_rfl

include hζ in
/-- A row block's thresholds. -/
theorem thrF_at (a : Fin 512) : thrF V c i (ix2 a 0) = kThr (ζ a) (kMx (ζ a)) (tB V c i (ix2 a 0)) (lB V c i (ix2 a 0)) := by
  unfold thrF
  rw [canon7 _ _ _ _ ζ (fun a j k => zF_at V c i ζ hζ a j k), ← rM_at V c i ζ hζ a]
  rfl
include hζ in
/-- A row block's margins. -/
theorem marF_at (a : Fin 512) : marF V c i (ix2 a 0) = kMar (ζ a) (kMx (ζ a)) (tB V c i (ix2 a 0)) (lB V c i (ix2 a 0)) := by
  unfold marF
  rw [canon8 _ _ _ _ ζ (fun a j k => zF_at V c i ζ hζ a j k), ← rM_at V c i ζ hζ a]
  rfl
end rowBlock

/-- An output block's entries. -/
theorem outF_at (V : (c : Dev nD) → (b : Ref sig .tc) → Buf (Elt Ideal) ((c : Thread nD τ).loc b)) (c : Dev nD) (t : Fin cfg2.N) (ζ : Fin 512 → ℕ → EReal)
    (hζ : ∀ (a : Fin 512) (j : Fin 32) (k : Fin 512), (∑ p : Fin 4096, xB V c (t.val / 64) (ix2 a p) * wB V c j.val (ix2 k p)) = ζ a (512 * j.val + k.val))
    (h32 : 32 ≤ t.val % 64) (a : Fin 512) (k : Fin 512) : outF V c t (ix2 a k)
      = kOut (kCut (kMx (ζ a)) (tB V c (t.val / 64) (ix2 a 0)) (lB V c (t.val / 64) (ix2 a 0)))
          (kOff (ζ a) (kMx (ζ a)) (tB V c (t.val / 64) (ix2 a 0)) (lB V c (t.val / 64) (ix2 a 0)))
          (Ideal.div 1 (tB V c (t.val / 64) (ix2 a 0))) (ζ a (512 * (t.val % 64 - 32) + k.val)) := by
  unfold outF
  rw [dif_pos ((c4_iff t).2 h32)]
  have hS : stF V c (t.val / 64) = GSt (mF V c (t.val / 64) 32) (tB V c (t.val / 64)) (lB V c (t.val / 64)) ζ := by
    unfold stF; exact canon11 _ _ _ _ ζ (fun a j k => zF_at V c _ ζ hζ a j k)
  rw [canon6 t ((c4_iff t).2 h32) _ _ ζ (fun a => kCut (kMx (ζ a)) (tB V c (t.val / 64) (ix2 a 0)) (lB V c (t.val / 64) (ix2 a 0)))
    (fun a => kOff (ζ a) (kMx (ζ a)) (tB V c (t.val / 64) (ix2 a 0)) (lB V c (t.val / 64) (ix2 a 0)))
    (fun a => Ideal.div 1 (tB V c (t.val / 64) (ix2 a 0))) (fun a j k => zF_at V c _ ζ hζ a j k) ?_ ?_ ?_ h32]
  · rfl
  · intro a l; rw [hS, ← rM_at V c _ ζ hζ a]; rfl
  · intro a l; rw [hS, ← rM_at V c _ ζ hζ a]; rfl
  · intro a l; rw [hS]; rfl
end Cert.KernelIdeal.R2
end
end
-- ==== Proof.KernelIdeal.ValHead.lean ====
/- The arrays the head region leaves, entry by entry, over the arrays it reads. -/
module

public import proofs.«01_k».proof.Proof.KernelIdeal.HeadBlocks

@[expose] public section
set_option maxRecDepth 16384
noncomputable section
namespace Cert.KernelIdeal.R2
open Cert.KernelIdeal Cert.KernelIdeal.Gen
open Idealize.ShloMosaic Idealize.ShloMosaic.TcCoe Idealize.ShloMosaic.Tactic Idealize.SL.Sem

variable (V : (c : Dev nD) → (b : Ref sig .tc) → Buf (Elt Ideal) ((c : Thread nD τ).loc b)) (c : Dev nD)

/-- A point's row block or column block. -/
theorem pt_row (i : ℕ) (hi : i < 12) : (pt i 0).val / 64 = i := by show (64 * i + 0) % 768 / 64 = i; omega
/-- A point's row block or column block. -/
theorem pt_col (j : ℕ) (hj : j < 32) : min ((pt 0 j).val % 64) 31 = j := by show min ((64 * 0 + j) % 768 % 64) 31 = j; omega

/-- A block of the array, at an element. -/
theorem xB_at (i : ℕ) (hi : i < 12) (a : Fin 512) (p : Fin 4096) : xB V c i (ix2 a p) = V c main_v6 (ix2 (⟨512 * i + a.val, by omega⟩ : Fin 6144) p) := by
  unfold xB iblk; blk_ext [idx2_0 (pt i 0), pt_row i hi]
/-- A block of the array, at an element. -/
theorem wB_at (j : ℕ) (hj : j < 32) (k : Fin 512) (p : Fin 4096) : wB V c j (ix2 k p) = V c main_v5 (ix2 (⟨512 * j + k.val, by omega⟩ : Fin 16384) p) := by
  unfold wB iblk; blk_ext [idx2_1 (pt 0 j), pt_col j hj]
/-- A block of the array, at an element. -/
theorem tB_at (i : ℕ) (hi : i < 12) (a : Fin 512) : tB V c i (ix2 a 0) = V c main_v2 (ix2 (⟨512 * i + a.val, by omega⟩ : Fin 6144) 0) := by
  unfold tB iblk; blk_ext [idx2_2 (pt i 0), pt_row i hi]
/-- A block of the array, at an element. -/
theorem lB_at (i : ℕ) (hi : i < 12) (a : Fin 512) : lB V c i (ix2 a 0) = V c main_v4 (ix2 (⟨512 * i + a.val, by omega⟩ : Fin 6144) 0) := by
  unfold lB iblk; blk_ext [idx2_3 (pt i 0), pt_row i hi]

/-- A token's logits. -/
def kZ (X : Vec Ideal S6144x4096 .bf16) (W : Vec Ideal S16384x4096 .bf16) (R : Fin 6144) (n : ℕ) : EReal :=
  if h : n < 16384 then ∑ p : Fin 4096, X (ix2 R p) * W (ix2 (⟨n, h⟩ : Fin 16384) p) else 0

/-- A block's product is the logit of the arrays. -/
theorem logits (i : ℕ) (hi : i < 12) (a : Fin 512) (j : Fin 32) (k : Fin 512) :
    (∑ p : Fin 4096, xB V c i (ix2 a p) * wB V c j.val (ix2 k p)) = kZ (V c main_v6) (V c main_v5) ⟨512 * i + a.val, by omega⟩ (512 * j.val + k.val) := by
  unfold kZ
  rw [dif_pos (by omega)]
  exact Finset.sum_congr rfl fun p _ => by rw [xB_at V c i hi, wB_at V c j.val j.isLt]

/-- A token's output, -/
def hOut (R : Fin 6144) (n : ℕ) : EReal :=
  kOut (kCut (kMx (kZ (V c main_v6) (V c main_v5) R)) (V c main_v2 (ix2 R 0)) (V c main_v4 (ix2 R 0)))
    (kOff (kZ (V c main_v6) (V c main_v5) R) (kMx (kZ (V c main_v6) (V c main_v5) R)) (V c main_v2 (ix2 R 0)) (V c main_v4 (ix2 R 0)))
    (Ideal.div 1 (V c main_v2 (ix2 R 0))) (kZ (V c main_v6) (V c main_v5) R n)
/-- threshold -/
def hThr (R : Fin 6144) : EReal :=
  kThr (kZ (V c main_v6) (V c main_v5) R) (kMx (kZ (V c main_v6) (V c main_v5) R)) (V c main_v2 (ix2 R 0)) (V c main_v4 (ix2 R 0))
/-- and margin. -/
def hMar (R : Fin 6144) : EReal :=
  kMar (kZ (V c main_v6) (V c main_v5) R) (kMx (kZ (V c main_v6) (V c main_v5) R)) (V c main_v2 (ix2 R 0)) (V c main_v4 (ix2 R 0))

/-- The block that the window shows at a grid point. -/
theorem idx2_4 : ∀ t : Fin cfg2.N, win2_4.index t = ![t.val / 64, t.val % 64 - 32] := (by decide +kernel : ∀ t : Fin grid2.N, win2_4.index t = ![t.val / 64, t.val % 64 - 32])
/-- The block that the window shows at a grid point. -/
theorem idx2_5 : ∀ t : Fin cfg2.N, win2_5.index t = ![t.val / 64, 0] := (by decide +kernel : ∀ t : Fin grid2.N, win2_5.index t = ![t.val / 64, 0])
/-- The block that the window shows at a grid point. -/
theorem idx2_6 : ∀ t : Fin cfg2.N, win2_6.index t = ![t.val / 64, 0] := (by decide +kernel : ∀ t : Fin grid2.N, win2_6.index t = ![t.val / 64, 0])

/-- The outputs. -/
theorem arr4 : (dat (F := Ideal) V c).arrAt 4 cfg2.N = (fun y => hOut V c (y 0) (y 1).val : FVec Ideal S6144x16384 .bf16) := by
  refine (dat (F := Ideal) V c).arrAt_eq_of_covers 4 _ (by decide +kernel) fun t hf y => ?_
  have h32 := (flush2_4 t).1 hf
  have hi : t.val / 64 < 12 := by have := lt768 t; omega
  blk_simp
  rw [after0_4]
  obtain ⟨a, k, rfl⟩ := exists_ix2 y
  refine (outF_at V c t (fun a => kZ (V c main_v6) (V c main_v5) ⟨512 * (t.val / 64) + a.val, by omega⟩) (fun a j k => logits V c _ hi a j k) h32 a k).trans ?_
  rw [tB_at V c _ hi, lB_at V c _ hi]
  refine congrArg₂ (hOut V c) (Fin.ext ?_) ?_
  · blk_simp
    simp [idx2_4 t]
    try omega
  · blk_simp
    simp [idx2_4 t]
    try omega
/-- The thresholds. -/
theorem arr5 : (dat (F := Ideal) V c).arrAt 5 cfg2.N = (fun y => hThr V c (y 0) : FVec Ideal S6144x1 .f32) := by
  refine (dat (F := Ideal) V c).arrAt_eq_of_covers 5 _ (by decide +kernel) fun t hf y => ?_
  have hi : t.val / 64 < 12 := by have := lt768 t; omega
  blk_simp
  rw [after0_5]
  obtain ⟨a, k, rfl⟩ := exists_ix2 (n := 512) (m := 1) y
  obtain rfl : k = 0 := Subsingleton.elim _ _
  refine (thrF_at V c (t.val / 64) (fun a => kZ (V c main_v6) (V c main_v5) ⟨512 * (t.val / 64) + a.val, by omega⟩) (fun a j k => logits V c _ hi a j k) a).trans ?_
  rw [tB_at V c _ hi, lB_at V c _ hi]
  refine congrArg (hThr V c) (Fin.ext ?_)
  blk_simp
  simp [idx2_5 t]
  try omega
/-- The margins. -/
theorem arr6 : (dat (F := Ideal) V c).arrAt 6 cfg2.N = (fun y => hMar V c (y 0) : FVec Ideal S6144x1 .f32) := by
  refine (dat (F := Ideal) V c).arrAt_eq_of_covers 6 _ (by decide +kernel) fun t hf y => ?_
  have hi : t.val / 64 < 12 := by have := lt768 t; omega
  blk_simp
  rw [after0_6]
  obtain ⟨a, k, rfl⟩ := exists_ix2 (n := 512) (m := 1) y
  obtain rfl : k = 0 := Subsingleton.elim _ _
  refine (marF_at V c (t.val / 64) (fun a => kZ (V c main_v6) (V c main_v5) ⟨512 * (t.val / 64) + a.val, by omega⟩) (fun a j k => logits V c _ hi a j k) a).trans ?_
  rw [tB_at V c _ hi, lB_at V c _ hi]
  refine congrArg (hMar V c) (Fin.ext ?_)
  blk_simp
  simp [idx2_6 t]
  try omega
end Cert.KernelIdeal.R2
end
end
-- ==== Proof.KernelIdeal.ValChain.lean ====
/- The kernel program's results, entry by entry, over the launched arguments. -/
module

public import proofs.«01_k».proof.Proof.KernelIdeal.ValHead
public import proofs.«01_k».proof.Proof.KernelIdeal.Run

@[expose] public section
set_option maxRecDepth 16384
noncomputable section
namespace Cert.KernelIdeal
open Cert.KernelIdeal Cert.KernelIdeal.Gen Cert.Decode
open Idealize.ShloMosaic Idealize.ShloMosaic.TcCoe Idealize.ShloMosaic.Tactic Idealize.SL.Sem

variable (m : (ℓ : Loc nD τ sig) → Buf (Elt Ideal) ℓ) (c : Dev nD)

/-! ## The host reshapes -/

/-- An array along the program. -/
theorem w1_v0 : W1 m c main_v0 = shapeCast S6144x4096 (m ((c.tc : Thread nD τ).loc main_arg0)) shapeCasts_S24x256x4096_S6144x4096 := by
  unfold W1; simp only [StableHlo.after_cons, StableHlo.after_nil]; after_results_simp; rfl
/-- An array along the program. -/
theorem w1_v1 : W1 m c main_v1 = shapeCast S6144x128 (m ((c.tc : Thread nD τ).loc main_arg1)) shapeCasts_S24x256x128_S6144x128 := by
  unfold W1; simp only [StableHlo.after_cons, StableHlo.after_nil]; after_results_simp; rfl
/-- An array along the program. -/
theorem w1_v2 : W1 m c main_v2 = shapeCast S6144x1 (m ((c.tc : Thread nD τ).loc main_arg4)) shapeCasts_S24x256_S6144x1 := by
  unfold W1; simp only [StableHlo.after_cons, StableHlo.after_nil]; after_results_simp; rfl
/-- An array along the program. -/
theorem w1_v4 : W1 m c main_v4 = shapeCast S6144x1 (Host.log (F := Ideal) (φ := .f32) (m ((c.tc : Thread nD τ).loc main_arg5) : FVec Ideal S24x256 .f32)) shapeCasts_S24x256_S6144x1 := by
  unfold W1; simp only [StableHlo.after_cons, StableHlo.after_nil]; after_results_simp; rfl
/-- An array along the program. -/
theorem w5_v8 : W5 m c main_v8 = shapeCast S24x256x16384 (W4 m c main_v7_0) shapeCasts_S6144x16384_S24x256x16384 := by
  unfold W5; simp only [StableHlo.after_cons, StableHlo.after_nil]; after_results_simp; rfl
/-- An array along the program. -/
theorem w5_v9 : W5 m c main_v9 = shapeCast S24x256 (W4 m c main_v7_1) shapeCasts_S6144x1_S24x256 := by
  unfold W5; simp only [StableHlo.after_cons, StableHlo.after_nil]; after_results_simp; rfl
/-- An array along the program. -/
theorem w5_v10 : W5 m c main_v10 = shapeCast S24x256 (W4 m c main_v7_2) shapeCasts_S6144x1_S24x256 := by
  unfold W5; simp only [StableHlo.after_cons, StableHlo.after_nil]; after_results_simp; rfl

/-! ## The regions' arrays along the chain -/

/-- An array along the program. -/
theorem w1_2 : W1 m c main_arg2 = m ((c.tc : Thread nD τ).loc main_arg2) := (V1_of m c main_arg2 (by decide)).trans rfl
/-- An array along the program. -/
theorem w1_3 : W1 m c main_arg3 = m ((c.tc : Thread nD τ).loc main_arg3) := (V1_of m c main_arg3 (by decide)).trans rfl

/-- An array along the program. -/
theorem w3_v5 : W3 m c main_v5 = (fun y => wVal (m ((c.tc : Thread nD τ).loc main_arg2)) (m ((c.tc : Thread nD τ).loc main_arg3)) (y 0) (y 1) : FVec Ideal S16384x4096 .bf16) := by
  refine (W3_keeps m c main_v5 (by decide)).trans ?_
  refine (Pipeline.afterRegion_arr (R0.dat (atRefs (W1 m)) c) (W1 m c) winFacts0.arr_inj 2).trans ?_
  refine (R0.arr (atRefs (W1 m)) c).trans ?_
  show (fun y => wVal (W1 m c main_arg2) (W1 m c main_arg3) (y 0) (y 1) : FVec Ideal S16384x4096 .bf16) = _
  rw [w1_2, w1_3]
/-- An array along the program. -/
theorem w2_v0 : W2 m c main_v0 = shapeCast S6144x4096 (m ((c.tc : Thread nD τ).loc main_arg0)) shapeCasts_S24x256x4096_S6144x4096 :=
  (W2_keeps m c main_v0 (by decide)).trans (w1_v0 m c)
/-- An array along the program. -/
theorem w2_v1 : W2 m c main_v1 = shapeCast S6144x128 (m ((c.tc : Thread nD τ).loc main_arg1)) shapeCasts_S24x256x128_S6144x128 :=
  (W2_keeps m c main_v1 (by decide)).trans (w1_v1 m c)
/-- An array along the program. -/
theorem w3_v6 : W3 m c main_v6 = (fun y => xVal (shapeCast S6144x4096 (m ((c.tc : Thread nD τ).loc main_arg0)) shapeCasts_S24x256x4096_S6144x4096)
    (shapeCast S6144x128 (m ((c.tc : Thread nD τ).loc main_arg1)) shapeCasts_S24x256x128_S6144x128) (y 0) (y 1) : FVec Ideal S6144x4096 .bf16) := by
  refine (Pipeline.afterRegion_arr (R1.dat (atRefs (W2 m)) c) (W2 m c) winFacts1.arr_inj 2).trans ?_
  refine (R1.arr (atRefs (W2 m)) c).trans ?_
  show (fun y => xVal (W2 m c main_v0) (W2 m c main_v1) (y 0) (y 1) : FVec Ideal S6144x4096 .bf16) = _
  rw [w2_v0, w2_v1]
/-- An array along the program. -/
theorem w3_v2 : W3 m c main_v2 = shapeCast S6144x1 (m ((c.tc : Thread nD τ).loc main_arg4)) shapeCasts_S24x256_S6144x1 :=
  (W3_keeps m c main_v2 (by decide)).trans ((W2_keeps m c main_v2 (by decide)).trans (w1_v2 m c))
/-- An array along the program. -/
theorem w3_v4 : W3 m c main_v4 = shapeCast S6144x1 (Host.log (F := Ideal) (φ := .f32) (m ((c.tc : Thread nD τ).loc main_arg5) : FVec Ideal S24x256 .f32)) shapeCasts_S24x256_S6144x1 :=
  (W3_keeps m c main_v4 (by decide)).trans ((W2_keeps m c main_v4 (by decide)).trans (w1_v4 m c))
/-- An array along the program. -/
theorem w4_v7_0 : W4 m c main_v7_0 = (fun y => R2.hOut (atRefs (W3 m)) c (y 0) (y 1).val : FVec Ideal S6144x16384 .bf16) :=
  (Pipeline.afterRegion_arr (R2.dat (atRefs (W3 m)) c) (W3 m c) winFacts2.arr_inj 4).trans (R2.arr4 (atRefs (W3 m)) c)
/-- An array along the program. -/
theorem w4_v7_1 : W4 m c main_v7_1 = (fun y => R2.hThr (atRefs (W3 m)) c (y 0) : FVec Ideal S6144x1 .f32) :=
  (Pipeline.afterRegion_arr (R2.dat (atRefs (W3 m)) c) (W3 m c) winFacts2.arr_inj 5).trans (R2.arr5 (atRefs (W3 m)) c)
/-- An array along the program. -/
theorem w4_v7_2 : W4 m c main_v7_2 = (fun y => R2.hMar (atRefs (W3 m)) c (y 0) : FVec Ideal S6144x1 .f32) :=
  (Pipeline.afterRegion_arr (R2.dat (atRefs (W3 m)) c) (W3 m c) winFacts2.arr_inj 6).trans (R2.arr6 (atRefs (W3 m)) c)

/-! ## At an index -/

/-- The reshape, at an index. -/
theorem row_read {α : Type} (X : S24x256x4096.Idx → α) (b : Fin 24) (r : Fin 256) (j : Fin 4096) :
    shapeCast S6144x4096 X shapeCasts_S24x256x4096_S6144x4096 (ix2 (⟨256 * b.val + r.val, by omega⟩ : Fin 6144) j) = X (ix3 b r j) := by
  pointwise
  blk_ext []
/-- The reshape, at an index. -/
theorem row_read' {α : Type} (X : S24x256x128.Idx → α) (b : Fin 24) (r : Fin 256) (j : Fin 128) :
    shapeCast S6144x128 X shapeCasts_S24x256x128_S6144x128 (ix2 (⟨256 * b.val + r.val, by omega⟩ : Fin 6144) j) = X (ix3 b r j) := by
  pointwise
  blk_ext []
/-- The reshape, at an index. -/
theorem col_read {α : Type} (X : S24x256.Idx → α) (b : Fin 24) (r : Fin 256) :
    shapeCast S6144x1 X shapeCasts_S24x256_S6144x1 (ix2 (⟨256 * b.val + r.val, by omega⟩ : Fin 6144) 0) = X (ix2 b r) := by
  pointwise
  blk_ext []
/-- The reshape, at an index. -/
theorem out_read {α : Type} (X : S6144x16384.Idx → α) (b : Fin 24) (r : Fin 256) (v : Fin 16384) :
    shapeCast S24x256x16384 X shapeCasts_S6144x16384_S24x256x16384 (ix3 b r v) = X (ix2 (⟨256 * b.val + r.val, by omega⟩ : Fin 6144) v) := by
  pointwise
  blk_ext []
/-- The reshape, at an index. -/
theorem outc_read {α : Type} (X : S6144x1.Idx → α) (b : Fin 24) (r : Fin 256) :
    shapeCast S24x256 X shapeCasts_S6144x1_S24x256 (ix2 b r) = X (ix2 (⟨256 * b.val + r.val, by omega⟩ : Fin 6144) 0) := by
  pointwise
  blk_ext []
end Cert.KernelIdeal
end
end
-- ==== Proof.ReferenceIdeal.Terms.lean ====
/- The reference's results as terms over its arguments: the decoded operands, the logits, and the three results. -/
module

public import proofs.«01_k».proof.Proof.Gen.ReferenceIdeal.Frame
public import Idealize.ShloMosaic.Lib.Claim
public import Idealize.ShloMosaic.Lib.Pointwise

@[expose] public section
set_option maxRecDepth 16384
noncomputable section
open Idealize.ShloMosaic Idealize.ShloMosaic.TcCoe Idealize.SL.Sem
namespace Cert.ReferenceIdeal.Val
open Cert.ReferenceIdeal Cert.ReferenceIdeal.Gen

/-- The activation scales: two to the power of the exponent byte less its bias. -/
def sx (s : IVec S24x256x128 8) : FVec Ideal S24x256x128 .bf16 :=
  truncf .bf16 (Host.powf (broadcastInDim S24x256x128 ![] bcast_S_S24x256x128 (constant (F := Ideal) S_ .f32 0x40000000#32))
    (sitofp .f32 (subi (extui 32 s natLt_8_32) (broadcastInDim S24x256x128 ![] bcast_S_S24x256x128 (constantI S_ 32 127#32))))) bitsLt_bf16_f32
/-- The clipped activations, -/
def xc (x : FVec Ideal S24x256x4096 .bf16) : FVec Ideal S24x256x4096 .bf16 :=
  minimumf (broadcastInDim S24x256x4096 ![] bcast_S_S24x256x4096 (truncf .bf16 (constant (F := Ideal) S_ .f32 0x43E00000#32) bitsLt_bf16_f32))
    (maximumf (broadcastInDim S24x256x4096 ![] bcast_S_S24x256x4096 (truncf .bf16 (constant (F := Ideal) S_ .f32 0xC3E00000#32) bitsLt_bf16_f32)) x)
/-- scaled, -/
def xd (x : FVec Ideal S24x256x4096 .bf16) (s : IVec S24x256x128 8) : FVec Ideal S24x256x128x32 .bf16 :=
  mulf (shapeCast S24x256x128x32 (xc x) shapeCasts_S24x256x4096_S24x256x128x32)
    (broadcastInDim S24x256x128x32 ![0, 1, 2, 3] bcast_S24x256x128x1_S24x256x128x32_0_1_2_3 (broadcastInDim S24x256x128x1 ![0, 1, 2] bcast_S24x256x128_S24x256x128x1_0_1_2 (sx s)))
/-- their even positions before their odd ones. -/
def refX (x : FVec Ideal S24x256x4096 .bf16) (s : IVec S24x256x128 8) : FVec Ideal S24x256x4096 .bf16 :=
  shapeCast S24x256x4096 (transpose S24x256x2x2048 [0, 1, 3, 2] (shapeCast S24x256x2048x2 (xd x s) shapeCasts_S24x256x128x32_S24x256x2048x2) transposes_S24x256x2048x2_S24x256x2x2048_0_1_3_2)
    shapeCasts_S24x256x2x2048_S24x256x4096

/-- The weight scales. -/
def sw (s : IVec S16384x128 8) : FVec Ideal S16384x128 .bf16 :=
  truncf .bf16 (Host.powf (broadcastInDim S16384x128 ![] bcast_S_S16384x128 (constant (F := Ideal) S_ .f32 0x40000000#32))
    (sitofp .f32 (subi (extui 32 s natLt_8_32) (broadcastInDim S16384x128 ![] bcast_S_S16384x128 (constantI S_ 32 127#32))))) bitsLt_bf16_f32
/-- The shifts that bring a byte's low and high four bits down. -/
def shifts : IVec S2 32 := fun i => lit0 (S2.rowMajor i)
/-- The weight codes, the bytes' low halves then their high halves; -/
def cd (w : IVec S16384x2048 8) : IVec S16384x2x2048 32 :=
  andi (Host.shrsi (broadcastInDim S16384x2x2048 ![0, 1, 2] bcast_S16384x1x2048_S16384x2x2048_0_1_2 (broadcastInDim S16384x1x2048 ![0, 2] bcast_S16384x2048_S16384x1x2048_0_2 (extui 32 w natLt_8_32)))
    (broadcastInDim S16384x2x2048 ![0, 1, 2] bcast_S1x2x1_S16384x2x2048_0_1_2 (broadcastInDim S1x2x1 ![1] bcast_S2_S1x2x1_1 shifts)))
    (broadcastInDim S16384x2x2048 ![] bcast_S_S16384x2x2048 (constantI S_ 32 15#32))
/-- one bit of a code; -/
def bit (c : IVec S16384x2x2048 32) (k : BitVec 32) : IVec S16384x2x2048 1 :=
  cmpi .ne (andi c (broadcastInDim S16384x2x2048 ![] bcast_S_S16384x2x2048 (constantI S_ 32 k))) (broadcastInDim S16384x2x2048 ![] bcast_S_S16384x2x2048 (constantI S_ 32 0#32))
/-- one of two constants; -/
def pick (b : IVec S16384x2x2048 1) (p q : BitVec 32) : FVec Ideal S16384x2x2048 .f32 :=
  select b (broadcastInDim S16384x2x2048 ![] bcast_S_S16384x2x2048 (constant (F := Ideal) S_ .f32 p)) (broadcastInDim S16384x2x2048 ![] bcast_S_S16384x2x2048 (constant (F := Ideal) S_ .f32 q))
/-- a code's magnitude, -/
def mag (c : IVec S16384x2x2048 32) : FVec Ideal S16384x2x2048 .bf16 :=
  truncf .bf16 (select (bit c 4#32) (select (bit c 2#32) (pick (bit c 1#32) 0x40C00000#32 0x40800000#32) (pick (bit c 1#32) 0x40400000#32 0x40000000#32))
    (select (bit c 2#32) (pick (bit c 1#32) 0x3FC00000#32 0x3F800000#32) (pick (bit c 1#32) 0x3F000000#32 0x00000000#32))) bitsLt_bf16_f32
/-- and its value. -/
def val (c : IVec S16384x2x2048 32) : FVec Ideal S16384x2x2048 .bf16 := select (bit c 8#32) (Host.negf (mag c)) (mag c)
/-- The decoded weights. -/
def refW (w : IVec S16384x2048 8) (s : IVec S16384x128 8) : FVec Ideal S16384x4096 .bf16 :=
  shapeCast S16384x4096 (mulf (shapeCast S16384x2x128x16 (val (cd w)) shapeCasts_S16384x2x2048_S16384x2x128x16)
    (broadcastInDim S16384x2x128x16 ![0, 1, 2, 3] bcast_S16384x1x128x1_S16384x2x128x16_0_1_2_3 (broadcastInDim S16384x1x128x1 ![0, 2] bcast_S16384x128_S16384x1x128x1_0_2 (sw s))))
    shapeCasts_S16384x2x128x16_S16384x4096

/-- The logits. -/
def refZ (x : FVec Ideal S24x256x4096 .bf16) (sx : IVec S24x256x128 8) (w : IVec S16384x2048 8) (sw : IVec S16384x128 8) : FVec Ideal S24x256x16384 .f32 :=
  Host.dotGeneral dot_S24x256x4096_S16384x4096_S24x256x16384_2_1_01_0_n_n none (refX x sx) (refW w sw)

/-- A row statistic as a column, -/
abbrev col (v : FVec Ideal S24x256 .f32) : FVec Ideal S24x256x1 .f32 := broadcastInDim S24x256x1 ![0, 1] bcast_S24x256_S24x256x1_0_1 v
/-- a column along the row. -/
abbrev row (v : FVec Ideal S24x256x1 .f32) : FVec Ideal S24x256x16384 .f32 := broadcastInDim S24x256x16384 ![0, 1, 2] bcast_S24x256x1_S24x256x16384_0_1_2 v
/-- Zero along the row. -/
abbrev zr : FVec Ideal S24x256x16384 .f32 := broadcastInDim S24x256x16384 ![] bcast_S_S24x256x16384 (constant (F := Ideal) S_ .f32 0x00000000#32)
/-- The scaled logits, -/
def lg (z : FVec Ideal S24x256x16384 .f32) (t : FVec Ideal S24x256 .f32) : FVec Ideal S24x256x16384 .f32 := Host.divf z (row (col t))
/-- their maximum, -/
def mx (z : FVec Ideal S24x256x16384 .f32) (t : FVec Ideal S24x256 .f32) : FVec Ideal S24x256x1 .f32 :=
  Host.divf (col (Host.reduce FloatOps.maximumf z (constant (F := Ideal) S_ .f32 0xFF800000#32) reducesTo_S24x256x16384_S24x256_d2 h_S_)) (col t)
/-- the distances below it, -/
def sh (z : FVec Ideal S24x256x16384 .f32) (t : FVec Ideal S24x256 .f32) : FVec Ideal S24x256x16384 .f32 := subf (lg z t) (row (mx z t))
/-- the sum of a row, -/
def rsum (e : FVec Ideal S24x256x16384 .f32) : FVec Ideal S24x256 .f32 := Host.reduceAdd e (constant (F := Ideal) S_ .f32 0x00000000#32) reducesTo_S24x256x16384_S24x256_d2 h_S_
/-- the threshold's logarithm, -/
def lmp (p : FVec Ideal S24x256 .f32) : FVec Ideal S24x256x1 .f32 := col (Host.log p)
/-- the distances above the cut, -/
def dist (z : FVec Ideal S24x256x16384 .f32) (t p : FVec Ideal S24x256 .f32) : FVec Ideal S24x256x16384 .f32 := subf (sh z t) (row (lmp p))
/-- what is kept. -/
def keep (z : FVec Ideal S24x256x16384 .f32) (t p : FVec Ideal S24x256 .f32) : IVec S24x256x16384 1 := cmpf .oge (dist z t p) zr
/-- First result. -/
def refOut (z : FVec Ideal S24x256x16384 .f32) (t p : FVec Ideal S24x256 .f32) : FVec Ideal S24x256x16384 .bf16 :=
  truncf .bf16 (select (keep z t p) (subf (lg z t) (row (addf (mx z t) (Host.log (col (rsum (select (keep z t p) (Host.exp (sh z t)) zr))))))) zr) bitsLt_bf16_f32
/-- Second result. -/
def refThr (z : FVec Ideal S24x256x16384 .f32) (t p : FVec Ideal S24x256 .f32) : FVec Ideal S24x256 .f32 :=
  shapeCast S24x256 (addf (subf (mx z t) (addf (mx z t) (Host.log (col (rsum (Host.exp (sh z t))))))) (lmp p)) shapeCasts_S24x256x1_S24x256
/-- Third result. -/
def refMar (z : FVec Ideal S24x256x16384 .f32) (t p : FVec Ideal S24x256 .f32) : FVec Ideal S24x256 .f32 :=
  Host.reduce FloatOps.minimumf (Host.absf (dist z t p)) (constant (F := Ideal) S_ .f32 0x7F800000#32) reducesTo_S24x256x16384_S24x256_d2 h_S_

/-- The host operations after the first region. -/
abbrev tail : List (List (HloOp τ sig (Elt Ideal))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19]

variable (V : Valuation τ sig (Elt Ideal))

/-- The logits over what the host operations find. -/
abbrev zV : FVec Ideal S24x256x16384 .f32 := refZ (V (Proc.devRef .tc main_v0)) (V (Proc.devRef .tc main_arg1)) (V (Proc.devRef .tc main_arg2)) (V (Proc.devRef .tc main_arg3))

set_option maxHeartbeats 1600000 in
/-- They leave the first result's term in its buffer, -/
theorem tail0 (hc : V (Proc.devRef .tc main_c) = shifts) : StableHlo.after tail.flatten V (Proc.devRef .tc main_v93) = refOut (zV V) (V (Proc.devRef .tc main_arg4)) (V (Proc.devRef .tc main_arg5)) := by
  simp only [List.flatten_cons, List.flatten_nil, List.append_nil, List.cons_append, List.nil_append, StableHlo.after_cons, StableHlo.after_nil]
  after_results_simp
  rw [hc]
  rfl

set_option maxHeartbeats 1600000 in
/-- the second's -/
theorem tail1 (hc : V (Proc.devRef .tc main_c) = shifts) : StableHlo.after tail.flatten V (Proc.devRef .tc main_v80) = refThr (zV V) (V (Proc.devRef .tc main_arg4)) (V (Proc.devRef .tc main_arg5)) := by
  simp only [List.flatten_cons, List.flatten_nil, List.append_nil, List.cons_append, List.nil_append, StableHlo.after_cons, StableHlo.after_nil]
  after_results_simp
  rw [hc]
  rfl

set_option maxHeartbeats 1600000 in
/-- and the third's. -/
theorem tail2 (hc : V (Proc.devRef .tc main_c) = shifts) : StableHlo.after tail.flatten V (Proc.devRef .tc main_v95) = refMar (zV V) (V (Proc.devRef .tc main_arg4)) (V (Proc.devRef .tc main_arg5)) := by
  simp only [List.flatten_cons, List.flatten_nil, List.append_nil, List.cons_append, List.nil_append, StableHlo.after_cons, StableHlo.after_nil]
  after_results_simp
  rw [hc]
  rfl

end Cert.ReferenceIdeal.Val
end
end
-- ==== Proof.ReferenceIdeal.Reads.lean ====
/- The reference's terms at an index: its operands are the decoded numbers times their scales, its logits their products'
   sums, and its three results scalar formulas over a row. -/
module

public import proofs.«01_k».proof.Proof.ReferenceIdeal.Terms
public import proofs.«01_k».proof.Proof.Decode
public import Idealize.ShloMosaic.Lib.Pipeline.ValueKit

@[expose] public section
set_option maxRecDepth 16384
noncomputable section
open Idealize.ShloMosaic Idealize.ShloMosaic.TcCoe Idealize.SL.Sem
namespace Cert.ReferenceIdeal.Val
open Cert.ReferenceIdeal Cert.ReferenceIdeal.Gen Cert.Decode

/-- The scaled activations at their places. -/
theorem refX_at (x : FVec Ideal S24x256x4096 .bf16) (s : IVec S24x256x128 8) (hs : ∀ j, 1 ≤ (s j).toNat ∧ (s j).toNat ≤ 254) (b : Fin 24) (r : Fin 256) (p : Fin 4096) :
    refX x s (ix3 b r p) = min (Ideal.ofBits .f32 1138753536#32) (max (Ideal.ofBits .f32 3286237184#32) (x (ix3 b r ⟨2 * (p.val % 2048) + p.val / 2048, by omega⟩)))
      * scale (s (ix3 b r ⟨p.val % 2048 / 16, by omega⟩)) := by
  pointwise [refX]
  pointwise [xd, xc, sx]
  rw [pow_eq _ (hs _).1 (hs _).2]
  have e : p.val % 2048 / 16 * 32 + (p.val % 2048 % 16 * 2 + p.val / 2048) = 2 * (p.val % 2048) + p.val / 2048 := by omega
  simp only [e]

/-- A code is its byte's half. -/
theorem cd_at (w : IVec S16384x2048 8) (v : Fin 16384) (h : Fin 2) (p : Fin 2048) :
    cd w (ix3 v h p) = (nib (w (ix2 v p)) h.val).setWidth 32 := by
  pointwise [cd, shifts]
  match h with
  | ⟨0, _⟩ => exact half0 _
  | ⟨1, _⟩ => exact half1 _

/-- A code's value. -/
theorem val_at (w : IVec S16384x2048 8) (v : Fin 16384) (h : Fin 2) (p : Fin 2048) :
    val (cd w) (ix3 v h p) = ((e2m1 (nib (w (ix2 v p)) h.val) : ℝ) : EReal) := by
  have e := cd_at w v h p
  generalize cd w = c at e ⊢
  pointwise [val, mag, pick, bit]
  rw [e]
  exact choose_eq _

/-- The decoded weights at their places. -/
theorem refW_at (w : IVec S16384x2048 8) (s : IVec S16384x128 8) (hs : ∀ j, 1 ≤ (s j).toNat ∧ (s j).toNat ≤ 254) (v : Fin 16384) (p : Fin 4096) :
    refW w s (ix2 v p) = ((e2m1 (nib (w (ix2 v ⟨p.val % 2048, by omega⟩)) (p.val / 2048)) : ℝ) : EReal) * scale (s (ix2 v ⟨p.val % 2048 / 16, by omega⟩)) := by
  pointwise [refW, sw]
  rw [val_at, pow_eq _ (hs _).1 (hs _).2]
  have e1 : p.val / 16 / 128 = p.val / 2048 := by omega
  have e2 : p.val / 16 % 128 * 16 + p.val % 16 = p.val % 2048 := by omega
  have e4 : p.val % 2048 / 16 * 16 + p.val % 16 = p.val % 2048 := by omega
  have e3 : p.val / 16 % 128 = p.val % 2048 / 16 := by omega
  simp only [e1, e2, e3, e4]

/-- The logits. -/
theorem refZ_at (x : FVec Ideal S24x256x4096 .bf16) (sx : IVec S24x256x128 8) (w : IVec S16384x2048 8) (sw : IVec S16384x128 8) (b : Fin 24) (r : Fin 256) (v : Fin 16384) :
    refZ x sx w sw (ix3 b r v) = ∑ k, refX x sx (ix3 b r k) * refW w sw (ix2 v k) := by
  pointwise [refZ]

/-- A row's largest entry. -/
def rowMax (z : Fin 16384 → EReal) : EReal := Finset.fold max (Ideal.ofBits .f32 4286578688#32) z Finset.univ
/-- An entry's distance above the row's cut. -/
def rowDist (z : Fin 16384 → EReal) (t p : EReal) (v : Fin 16384) : EReal := Ideal.div (z v) t - Ideal.div (rowMax z) t - Ideal.log p
/-- The kept entries' logarithm of the probability. -/
def rowOut (z : Fin 16384 → EReal) (t p : EReal) (v : Fin 16384) : EReal :=
  if 0 ≤ rowDist z t p v then Ideal.div (z v) t - (Ideal.div (rowMax z) t
      + Ideal.log (∑ x, if 0 ≤ rowDist z t p x then Ideal.exp (Ideal.div (z x) t - Ideal.div (rowMax z) t) else 0)) else 0
/-- The cut's logarithm of the probability. -/
def rowThr (z : Fin 16384 → EReal) (t p : EReal) : EReal :=
  Ideal.div (rowMax z) t - (Ideal.div (rowMax z) t + Ideal.log (∑ x, Ideal.exp (Ideal.div (z x) t - Ideal.div (rowMax z) t))) + Ideal.log p
/-- The smallest distance from the cut. -/
def rowMar (z : Fin 16384 → EReal) (t p : EReal) : EReal :=
  Finset.fold min (Ideal.ofBits .f32 2139095040#32) (fun x => FloatOps.absf (F := Ideal) (φ := .f32) (rowDist z t p x)) Finset.univ

/-- The first result at an index. -/
theorem out_at (z : FVec Ideal S24x256x16384 .f32) (t p : FVec Ideal S24x256 .f32) (b : Fin 24) (r : Fin 256) (v : Fin 16384) :
    refOut z t p (ix3 b r v) = rowOut (fun x => z (ix3 b r x)) (t (ix2 b r)) (p (ix2 b r)) v := by
  pointwise [refOut, keep, dist, lmp, rsum, sh, mx, lg]
  rfl
/-- The second result at an index. -/
theorem thr_at (z : FVec Ideal S24x256x16384 .f32) (t p : FVec Ideal S24x256 .f32) (b : Fin 24) (r : Fin 256) :
    refThr z t p (ix2 b r) = rowThr (fun x => z (ix3 b r x)) (t (ix2 b r)) (p (ix2 b r)) := by
  pointwise [refThr, keep, dist, lmp, rsum, sh, mx, lg]
  rfl
/-- The third result at an index. -/
theorem mar_at (z : FVec Ideal S24x256x16384 .f32) (t p : FVec Ideal S24x256 .f32) (b : Fin 24) (r : Fin 256) :
    refMar z t p (ix2 b r) = rowMar (fun x => z (ix3 b r x)) (t (ix2 b r)) (p (ix2 b r)) := by
  pointwise [refMar, keep, dist, lmp, rsum, sh, mx, lg]
  rfl

end Cert.ReferenceIdeal.Val
end
end
-- ==== Proof.RowAlg.lean ====
/- A row's numbers: what the kernel computes with the reciprocal temperature and the cut on the logits is what the reference
   computes with the scaled logits and the cut on the logarithms, over the reals. -/
module

public import proofs.«01_k».proof.Proof.KernelIdeal.HeadBlocks
public import proofs.«01_k».proof.Proof.ReferenceIdeal.Reads

@[expose] public section
set_option maxRecDepth 16384
noncomputable section
open Idealize.ShloMosaic
namespace Cert.Row
open Cert.KernelIdeal.R2 Cert.ReferenceIdeal.Val

/-! ## Extended reals -/

/-- Division by a positive real. -/
theorem div_pos (x : EReal) (τ : ℝ) (h : 0 < τ) : Ideal.div x (τ : EReal) = x * ((τ⁻¹ : ℝ) : EReal) := by
  unfold Ideal.div
  rw [if_neg (by exact_mod_cast h.ne'), EReal.coe_inv]
/-- A sum of reals is real. -/
theorem coe_sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]
/-- The greatest of finitely many reals is real. -/
theorem fold_max_real (f : Fin 16384 → ℝ) : ∃ M : ℝ, Finset.fold max (Ideal.ofBits .f32 4286578688#32) (fun v => (f v : EReal)) Finset.univ = (M : EReal) := by
  obtain ⟨v0, -, h⟩ := Finset.exists_max_image Finset.univ f ⟨0, Finset.mem_univ _⟩
  refine ⟨f v0, le_antisymm ((Finset.fold_max_le _).2 ⟨?_, fun v hv => ?_⟩) ((Finset.le_fold_max _).2 (Or.inr ⟨v0, Finset.mem_univ _, le_rfl⟩))⟩
  · rw [inf_bot]; exact bot_le
  · exact EReal.coe_le_coe_iff.2 (h v hv)
/-- Scaling by a positive real keeps the order, -/
theorem mono (c : ℝ) (hc : 0 < c) : Monotone fun x : EReal => x * (c : EReal) :=
  fun x y e => mul_le_mul_of_nonneg_right e (by exact_mod_cast hc.le)
/-- an absolute value, -/
theorem abs_mul (x : EReal) (c : ℝ) (hc : 0 < c) :
    FloatOps.absf (F := Ideal) (φ := .f32) x * (c : EReal) = FloatOps.absf (F := Ideal) (φ := .f32) (x * (c : EReal)) := by
  show max x (-x) * (c : EReal) = max (x * (c : EReal)) (-(x * (c : EReal)))
  induction x using EReal.rec with
  | bot => simp [EReal.bot_mul_coe_of_pos hc, EReal.top_mul_coe_of_pos hc]
  | top => simp [EReal.bot_mul_coe_of_pos hc, EReal.top_mul_coe_of_pos hc]
  | coe x =>
    rw [← EReal.neg_mul]
    exact (mono c hc).map_max
/-- a least element, -/
theorem fold_min_mul (g : Fin 16384 → EReal) (c : ℝ) (hc : 0 < c) :
    Finset.fold min (Ideal.ofBits .f32 2139095040#32) g Finset.univ * (c : EReal)
      = Finset.fold min (Ideal.ofBits .f32 2139095040#32) (fun v => g v * (c : EReal)) Finset.univ := by
  rw [← Finset.fold_hom (op' := min) (m := fun x : EReal => x * (c : EReal))
    (fun x y => (mono c hc).map_min)]
  simp only [inf_top, EReal.top_mul_coe_of_pos hc]
/-- and a sign. -/
theorem nonneg_mul (x : EReal) (c : ℝ) (hc : 0 < c) : 0 ≤ x * (c : EReal) ↔ 0 ≤ x := by
  induction x using EReal.rec with
  | bot => simp [EReal.bot_mul_coe_of_pos hc]
  | top => simp [EReal.top_mul_coe_of_pos hc]
  | coe x => rw [← EReal.coe_mul]; exact_mod_cast mul_nonneg_iff_of_pos_right hc
/-- A real is above the cut when its distance from it is at least zero. -/
theorem cut_le (x : ℝ) (c : EReal) : c ≤ (x : EReal) ↔ 0 ≤ (x : EReal) - c := by
  induction c using EReal.rec with
  | bot => simp
  | top => simp
  | coe c => rw [← EReal.coe_sub]; norm_cast; exact sub_nonneg.symm

/-- Subtraction as addition of the negative. -/
theorem sub_coe_eq (a : EReal) (x y : ℝ) (e : x = -y) : a - (y : EReal) = (x : EReal) + a := by
  rw [e, sub_eq_add_neg, add_comm, EReal.coe_neg]

/-- A logit's distance from the cut, scaled. -/
theorem dist_eq (x M τ : ℝ) (h : 0 < τ) (l : EReal) :
    ((x : EReal) - kCut (M : EReal) (τ : EReal) l) * ((τ⁻¹ : ℝ) : EReal) = (x : EReal) * ((τ⁻¹ : ℝ) : EReal) - (M : EReal) * ((τ⁻¹ : ℝ) : EReal) - l := by
  have hi : 0 < τ⁻¹ := inv_pos.2 h
  unfold kCut
  rw [← EReal.coe_mul, ← EReal.coe_mul, ← EReal.coe_sub]
  induction l using EReal.rec with
  | bot =>
    rw [EReal.bot_mul_coe_of_pos h, EReal.add_bot, EReal.coe_sub_bot, EReal.coe_sub_bot, EReal.top_mul_coe_of_pos hi]
  | top =>
    rw [EReal.top_mul_coe_of_pos h, EReal.coe_add_top, EReal.sub_top, EReal.sub_top, EReal.bot_mul_coe_of_pos hi]
  | coe l =>
    rw [← EReal.coe_mul, ← EReal.coe_add, ← EReal.coe_sub, ← EReal.coe_mul, ← EReal.coe_sub]
    congr 1
    field_simp
    try ring

section row
variable (ζ : ℕ → EReal) (z : Fin 16384 → EReal) (f : Fin 16384 → ℝ) (τ : ℝ) (p : EReal) (h : 0 < τ)
  (hf : ∀ v, z v = (f v : EReal)) (hζ : ∀ v, ζ v.val = z v)

include hζ in
/-- The maxima agree. -/
theorem kMx_eq : kMx ζ = rowMax z := by
  unfold kMx rowMax
  simp only [hζ]

include h in
/-- The exponentials agree. -/
theorem kE_eq (x M : ℝ) : kE (M : EReal) (τ : EReal) (x : EReal) = Ideal.exp (Ideal.div (x : EReal) (τ : EReal) - Ideal.div (M : EReal) (τ : EReal)) := by
  unfold kE
  rw [div_pos _ _ h, div_pos _ _ h, div_pos _ _ h, one_mul, ← EReal.coe_sub, ← EReal.coe_mul, ← EReal.coe_mul, ← EReal.coe_mul, ← EReal.coe_sub, sub_mul]

include h in
/-- A distance. -/
theorem kDist_eq (M : ℝ) (hM : rowMax z = (M : EReal)) (hf : ∀ v, z v = (f v : EReal)) (v : Fin 16384) :
    (z v - kCut (M : EReal) (τ : EReal) (Ideal.log p)) * ((τ⁻¹ : ℝ) : EReal) = rowDist z (τ : EReal) p v := by
  unfold rowDist
  rw [hM, hf, dist_eq _ _ _ h, div_pos _ _ h, div_pos _ _ h]

include h hf hζ in
/-- The threshold. -/
theorem thr_eq : kThr ζ (kMx ζ) (τ : EReal) (Ideal.log p) = rowThr z (τ : EReal) p := by
  obtain ⟨M, hM⟩ := fold_max_real f
  have hz : z = fun v => (f v : EReal) := funext hf
  have hR : rowMax z = (M : EReal) := by rw [hz]; exact hM
  unfold kThr rowThr
  rw [kMx_eq ζ z hζ, hR]
  simp only [hζ, hf, kE_eq τ h]
  simp only [div_pos _ _ h, ← EReal.coe_mul, ← EReal.coe_sub, Ideal.exp_coe, coe_sum_real, Ideal.log_coe]
  have hS : 0 < ∑ v, Real.exp (f v * τ⁻¹ - M * τ⁻¹) := Finset.sum_pos (fun v _ => Real.exp_pos _) ⟨0, Finset.mem_univ _⟩
  rw [if_neg (not_le.2 hS), ← EReal.coe_add, ← EReal.coe_sub]
  exact sub_coe_eq _ _ _ (by ring)

include h hf hζ in
/-- The margin. -/
theorem mar_eq : kMar ζ (kMx ζ) (τ : EReal) (Ideal.log p) = rowMar z (τ : EReal) p := by
  obtain ⟨M, hM⟩ := fold_max_real f
  have hz : z = fun v => (f v : EReal) := funext hf
  have hR : rowMax z = (M : EReal) := by rw [hz]; exact hM
  unfold kMar rowMar
  rw [kMx_eq ζ z hζ, hR, div_pos _ _ h, one_mul, fold_min_mul _ _ (inv_pos.2 h)]
  simp only [hζ, abs_mul _ _ (inv_pos.2 h), kDist_eq z f τ p h M hR hf]

include h hf hζ in
/-- The masked log-probabilities. -/
theorem out_eq (v : Fin 16384) :
    kOut (kCut (kMx ζ) (τ : EReal) (Ideal.log p)) (kOff ζ (kMx ζ) (τ : EReal) (Ideal.log p)) (Ideal.div 1 (τ : EReal)) (ζ v.val) = rowOut z (τ : EReal) p v := by
  obtain ⟨M, hM⟩ := fold_max_real f
  have hz : z = fun v => (f v : EReal) := funext hf
  have hR : rowMax z = (M : EReal) := by rw [hz]; exact hM
  have hd : ∀ v, 0 ≤ z v - kCut (M : EReal) (τ : EReal) (Ideal.log p) ↔ 0 ≤ rowDist z (τ : EReal) p v := fun v => by
    rw [← kDist_eq z f τ p h M hR hf v, nonneg_mul _ _ (inv_pos.2 h)]
  have hc : kCut (M : EReal) (τ : EReal) (Ideal.log p) ≤ z v ↔ 0 ≤ rowDist z (τ : EReal) p v := by
    rw [← hd, hf, cut_le]
  have hk : ∀ v, kE (M : EReal) (τ : EReal) (z v) = Ideal.exp (Ideal.div (z v) (τ : EReal) - Ideal.div (M : EReal) (τ : EReal)) := fun v => by
    rw [hf, kE_eq τ h]
  unfold kOut kOff kK rowOut
  rw [kMx_eq ζ z hζ, hR]
  simp only [hζ, hk, hd, hc]
  simp only [div_pos _ _ h, one_mul]
end row
end Cert.Row
end
end
-- ==== Proof.Contract.lean ====
/- A logit: the kernel sums its products in one order, the reference in another; both sums are the same real. -/
module

public import proofs.«01_k».proof.Proof.KernelIdeal.ValChain
public import proofs.«01_k».proof.Proof.RowAlg

@[expose] public section
set_option maxRecDepth 16384
noncomputable section
open Idealize.ShloMosaic
namespace Cert.Contract
open Cert.Decode Cert.ReferenceIdeal.Val

/-- The reference's position of the kernel's, -/
def fwd (p : Fin 4096) : Fin 4096 := ⟨p.val / 128 % 2 * 2048 + (p.val / 256 * 128 + p.val % 128), by omega⟩
/-- and the kernel's of the reference's. -/
def bwd (p : Fin 4096) : Fin 4096 := ⟨p.val % 2048 / 128 * 256 + p.val / 2048 * 128 + p.val % 128, by omega⟩
/-- The two maps of positions are inverse. -/
theorem bwd_fwd : ∀ p, bwd (fwd p) = p := by decide +kernel
/-- The two maps of positions are inverse. -/
theorem fwd_bwd : ∀ p, fwd (bwd p) = p := by decide +kernel
/-- The positions correspond. -/
def perm : Fin 4096 ≃ Fin 4096 := ⟨fwd, bwd, bwd_fwd, fwd_bwd⟩

/-- The permuted position's byte. -/
theorem perm_q (p : Fin 4096) : (perm p).val % 2048 = KernelIdeal.ql p.val := by
  show (p.val / 128 % 2 * 2048 + (p.val / 256 * 128 + p.val % 128)) % 2048 = p.val / 256 * 128 + p.val % 128
  omega
/-- The permuted position's half. -/
theorem perm_h (p : Fin 4096) : (perm p).val / 2048 = KernelIdeal.qh p.val := by
  show (p.val / 128 % 2 * 2048 + (p.val / 256 * 128 + p.val % 128)) / 2048 = p.val / 128 % 2
  omega

/-- The clip's bound as a real. -/
theorem x448 : Ideal.ofBits .f32 1138753536#32 = ((448 : ℝ) : EReal) := by
  simp [Ideal.ofBits, Ideal.ieee]; simp only [← EReal.coe_mul]; exact congrArg _ (by norm_num)
/-- The clip's bound as a real. -/
theorem xm448 : Ideal.ofBits .f32 3286237184#32 = ((-448 : ℝ) : EReal) := by
  simp [Ideal.ofBits, Ideal.ieee]; simp only [← EReal.coe_mul]; exact congrArg _ (by norm_num)

/-- A clipped number is real. -/
theorem clip_real (x : EReal) : ∃ r : ℝ, KernelIdeal.clip x = (r : EReal) := by
  unfold KernelIdeal.clip
  rw [x448, xm448]
  induction x using EReal.rec with
  | bot => exact ⟨min 448 (-448), by rw [max_eq_left bot_le]; exact (EReal.coe_strictMono.monotone.map_min).symm⟩
  | top => exact ⟨448, by rw [max_eq_right le_top, min_eq_left le_top]⟩
  | coe x => exact ⟨min 448 (max (-448) x), by rw [EReal.coe_strictMono.monotone.map_min, EReal.coe_strictMono.monotone.map_max]⟩

/-- A sum of products of reals is real. -/
theorem sum_real (a b : Fin 4096 → EReal) (ha : ∀ p, ∃ r : ℝ, a p = (r : EReal)) (hb : ∀ p, ∃ r : ℝ, b p = (r : EReal)) : ∃ r : ℝ, ∑ p, a p * b p = (r : EReal) := by
  choose f hf using ha
  choose g hg using hb
  refine ⟨∑ p, f p * g p, ?_⟩
  rw [← Row.coe_sum_real]
  exact Finset.sum_congr rfl fun p _ => by rw [hf, hg, EReal.coe_mul]

section
variable (x : FVec Ideal ReferenceIdeal.S24x256x4096 .bf16) (sx : IVec ReferenceIdeal.S24x256x128 8) (w : IVec ReferenceIdeal.S16384x2048 8) (sw : IVec ReferenceIdeal.S16384x128 8)
  (hx : ∀ j, 1 ≤ (sx j).toNat ∧ (sx j).toNat ≤ 254) (hw : ∀ j, 1 ≤ (sw j).toNat ∧ (sw j).toNat ≤ 254)

include hx hw in
/-- The logits are real. -/
theorem z_real (b : Fin 24) (r : Fin 256) (v : Fin 16384) : ∃ f : ℝ, refZ x sx w sw (ix3 b r v) = (f : EReal) := by
  rw [refZ_at]
  refine sum_real _ _ (fun p => ?_) fun p => ?_
  · rw [refX_at x sx hx]
    obtain ⟨k, hk⟩ := clip_real (x (ix3 b r ⟨2 * (p.val % 2048) + p.val / 2048, by omega⟩))
    unfold KernelIdeal.clip at hk
    rw [hk, scale_eq _ (hx _).1 (hx _).2]
    exact ⟨_, (EReal.coe_mul _ _).symm⟩
  · rw [refW_at w sw hw, scale_eq _ (hw _).1 (hw _).2]
    exact ⟨_, (EReal.coe_mul _ _).symm⟩

include hx hw in
/-- The kernel's sum is the reference's. -/
theorem z_eq (b : Fin 24) (r : Fin 256) (v : Fin 16384) (A : (⟨2, ![6144, 4096]⟩ : Shape).Idx → EReal) (B : (⟨2, ![6144, 128]⟩ : Shape).Idx → BitVec 8) (R : Fin 6144)
    (hA : ∀ j, A (ix2 R j) = x (ix3 b r j)) (hB : ∀ j, B (ix2 R j) = sx (ix3 b r j)) :
    ∑ p : Fin 4096, KernelIdeal.xVal A B R p * KernelIdeal.wVal w sw v p = refZ x sx w sw (ix3 b r v) := by
  rw [refZ_at]
  refine Fintype.sum_equiv perm _ _ fun p => ?_
  rw [refX_at x sx hx, refW_at w sw hw]
  unfold KernelIdeal.xVal KernelIdeal.wVal KernelIdeal.clip
  simp only [perm_q, perm_h, hA, hB]
end
end Cert.Contract
end
end
-- ==== Proof.PreValid.lean ====
/- The precondition, read per element: every scale byte is between 1 and 254, every temperature is a positive real. -/
module

public import proofs.«01_k».proof.Pre_valid
public import Idealize.ShloMosaic.PureOps.Ideal
public import Idealize.ShloMosaic.Lib.ReduceAll
public import Idealize.ShloMosaic.Lib.Decide

@[expose] public section
set_option maxRecDepth 16384
noncomputable section
open Idealize.ShloMosaic
namespace Cert.Pre_valid

/-! ## The stated shape relations -/

/-- The shapes relate as stated. -/
theorem bcast_S_S24x256x128' : S_.BroadcastsInDim S24x256x128 (![] : Fin 0 → Fin S24x256x128.rank) := by decide
/-- The shapes relate as stated. -/
theorem reducesTo_S24x256x128_S_d0_1_2' : S24x256x128.ReducesTo [0, 1, 2] S_ := by decide
/-- The shapes relate as stated. -/
theorem h_S_' : 0 < S_.numel := by decide
/-- The shapes relate as stated. -/
theorem bcast_S_S16384x128' : S_.BroadcastsInDim S16384x128 (![] : Fin 0 → Fin S16384x128.rank) := by decide
/-- The shapes relate as stated. -/
theorem reducesTo_S16384x128_S_d0_1' : S16384x128.ReducesTo [0, 1] S_ := by decide
/-- The shapes relate as stated. -/
theorem bcast_S_S24x256' : S_.BroadcastsInDim S24x256 (![] : Fin 0 → Fin S24x256.rank) := by decide
/-- The shapes relate as stated. -/
theorem reducesTo_S24x256_S_d0_1' : S24x256.ReducesTo [0, 1] S_ := by decide

/-- The function's side conditions hold. -/
theorem facts : Facts :=
  ⟨bcast_S_S24x256x128', reducesTo_S24x256x128_S_d0_1_2', h_S_', bcast_S_S16384x128', reducesTo_S16384x128_S_d0_1', bcast_S_S24x256', reducesTo_S24x256_S_d0_1'⟩

/-- The test of a byte, read back. -/
theorem byte_bounds (x : BitVec 8) (h : IntOp.andi (IntOp.cmpi .uge x 1#8) (IntOp.cmpi .ule x 254#8) = 1#1) : 1 ≤ x.toNat ∧ x.toNat ≤ 254 := by
  revert x
  decide +kernel

/-- The test of a temperature, read back. -/
theorem pos_real (t : EReal) (h : IntOp.andi (FloatOps.cmpf (F := Ideal) (φ := .f32) .ogt t (Ideal.ofBits .f32 0x00000000#32)) (FloatOps.cmpf (F := Ideal) (φ := .f32) .olt t (Ideal.ofBits .f32 0x7F800000#32)) = 1#1) :
    ∃ τ : ℝ, 0 < τ ∧ t = (τ : EReal) := by
  obtain ⟨h0, h1⟩ := IntOp.andi_eq_one.1 h
  have e0 : Ideal.ofBits .f32 0x00000000#32 = 0 := by simp [Ideal.ofBits, Ideal.ieee]
  have e1 : Ideal.ofBits .f32 0x7F800000#32 = ⊤ := by simp [Ideal.ofBits, Ideal.ieee]
  rw [e0] at h0
  rw [e1] at h1
  have g0 : 0 < t := by
    by_contra hn
    revert h0
    simp [FloatOps.cmpf, Ideal.cmp, hn]
  have g1 : t < ⊤ := by
    by_contra hn
    revert h1
    simp [FloatOps.cmpf, Ideal.cmp, hn]
  refine ⟨t.toReal, ?_, (EReal.coe_toReal g1.ne (ne_bot_of_gt g0)).symm⟩
  exact EReal.toReal_pos g0 g1.ne

/-- What the precondition says of the arguments. -/
theorem read [Facts] (a0 : FVec Ideal S24x256x4096 .fp8e4m3) (a1 : IVec S24x256x128 8) (a2 : IVec S16384x2048 8) (a3 : IVec S16384x128 8) (a4 a5 : FVec Ideal S24x256 .f32)
    (h : fn (F := Ideal) a0 a1 a2 a3 a4 a5 = fun _ => 1#1) :
    (∀ j, 1 ≤ (a1 j).toNat ∧ (a1 j).toNat ≤ 254) ∧ (∀ j, 1 ≤ (a3 j).toNat ∧ (a3 j).toNat ≤ 254) ∧ ∀ j, ∃ τ : ℝ, 0 < τ ∧ a4 j = (τ : EReal) := by
  haveI : Subsingleton S_.Idx := ⟨fun a b => funext fun i => i.elim0⟩
  have h' := congrFun h (fun i : Fin 0 => i.elim0)
  obtain ⟨h12, h3⟩ := IntOp.andi_eq_one.1 h'
  obtain ⟨h1, h2⟩ := IntOp.andi_eq_one.1 h12
  exact ⟨fun j => byte_bounds _ (Host.reduce_andi_all _ _ _ _ _ h1 j), fun j => byte_bounds _ (Host.reduce_andi_all _ _ _ _ _ h2 j),
    fun j => pos_real _ (Host.reduce_andi_all _ _ _ _ _ h3 j)⟩
end Cert.Pre_valid
end
end
-- ==== Proof.ReferenceIdeal.Run.lean ====
/- The reference's run: every execution ends with its results at their terms and the arguments as launched. -/
module

public import proofs.«01_k».proof.Proof.ReferenceIdeal.Terms
public import Idealize.ShloMosaic.Lib.Pipeline.ValueKit
public import Idealize.ShloMosaic.Lib.Pipeline.Covers
public import Idealize.ShloMosaic.Lib.Pointwise

@[expose] public section
set_option maxRecDepth 16384
noncomputable section
open Idealize.ShloMosaic Idealize.ShloMosaic.TcCoe Idealize.SL.Sem
namespace Cert.ReferenceIdeal.Val
open Cert.ReferenceIdeal Cert.ReferenceIdeal.Gen
variable (m : (ℓ : Loc nD τ sig) → Buf (Elt Ideal) ℓ) (ρ : Dev nD → PrngReg)

/-- The block that the window shows at a grid point. -/
theorem idx0_0 : ∀ t : Fin cfg0.N, win0_0.index t = ![0, 0, 0] := (by decide +kernel : ∀ t : Fin grid0.N, win0_0.index t = ![0, 0, 0])
/-- The block that the window shows at a grid point. -/
theorem idx0_1 : ∀ t : Fin cfg0.N, win0_1.index t = ![0, 0, 0] := (by decide +kernel : ∀ t : Fin grid0.N, win0_1.index t = ![0, 0, 0])

/-- The cast region leaves the activations as they are. -/
theorem cast_arr (c : Dev nD) : (dats m 0 c).arrAt 1 (cfgs 0).N = (m ((c.tc : Thread nD τ).loc main_arg0) : FVec Ideal S24x256x4096 .bf16) := by
  refine (dats m 0 c).arrAt_eq_of_covers 1 _ (by decide +kernel) fun t _ y => ?_
  blk_simp
  rw [after0_1]; frame_out
  obtain ⟨a, b, l, rfl⟩ : ∃ (a : Fin 24) (b : Fin 256) (l : Fin 4096), y = ix3 a b l := ⟨y 0, y 1, y 2, by funext c; match c with | ⟨0, _⟩ => rfl | ⟨1, _⟩ => rfl | ⟨2, _⟩ => rfl⟩
  pointwise [k0_pay1]
  blk_point [iblk, V, idx0_0 t, idx0_1 t]

/-- What the host operations find: the arrays the region left over the launched contents. -/
abbrev VT (c : Dev nD) : Valuation τ sig (Elt Ideal) :=
  Pipeline.withArrays (cfgs 0).spec c (V0 m c) fun w => (dats m 0 c).arrAt w (cfgs 0).N

/-- An array after the cast's call. -/
theorem vt_x (c : Dev nD) : VT m c (Proc.devRef .tc main_v0) = (m ((c.tc : Thread nD τ).loc main_arg0) : FVec Ideal S24x256x4096 .bf16) := by
  refine (Pipeline.withArrays_arr (cfgs 0).spec (by decide) c _ _ 1).trans (cast_arr m c)
/-- An array after the cast's call. -/
theorem vt_ne (c : Dev nD) (b : Ref sig .tc) (hb : ∀ w, Pipeline.arrRef (cfgs 0).spec w ≠ b) : VT m c (Proc.devRef .tc b) = V0 m c (Proc.devRef .tc b) :=
  Pipeline.withArrays_of_ne (cfgs 0).spec c _ _ b hb
/-- An array after the cast's call. -/
theorem vt_c (c : Dev nD) : VT m c (Proc.devRef .tc main_c) = shifts := by
  rw [vt_ne m c main_c (by decide)]
  rfl
/-- An array after the cast's call. -/
theorem vt_1 (c : Dev nD) : VT m c (Proc.devRef .tc main_arg1) = m ((c.tc : Thread nD τ).loc main_arg1) := by
  rw [vt_ne m c main_arg1 (by decide)]
  rfl
/-- An array after the cast's call. -/
theorem vt_2 (c : Dev nD) : VT m c (Proc.devRef .tc main_arg2) = m ((c.tc : Thread nD τ).loc main_arg2) := by
  rw [vt_ne m c main_arg2 (by decide)]
  rfl
/-- An array after the cast's call. -/
theorem vt_3 (c : Dev nD) : VT m c (Proc.devRef .tc main_arg3) = m ((c.tc : Thread nD τ).loc main_arg3) := by
  rw [vt_ne m c main_arg3 (by decide)]
  rfl
/-- An array after the cast's call. -/
theorem vt_4 (c : Dev nD) : VT m c (Proc.devRef .tc main_arg4) = m ((c.tc : Thread nD τ).loc main_arg4) := by
  rw [vt_ne m c main_arg4 (by decide)]
  rfl
/-- An array after the cast's call. -/
theorem vt_5 (c : Dev nD) : VT m c (Proc.devRef .tc main_arg5) = m ((c.tc : Thread nD τ).loc main_arg5) := by
  rw [vt_ne m c main_arg5 (by decide)]
  rfl

/-- The logits the reference computes. -/
def Z (c : Dev nD) : FVec Ideal S24x256x16384 .f32 :=
  refZ (m ((c.tc : Thread nD τ).loc main_arg0)) (m ((c.tc : Thread nD τ).loc main_arg1)) (m ((c.tc : Thread nD τ).loc main_arg2)) (m ((c.tc : Thread nD τ).loc main_arg3))

/-- The logits of the arguments. -/
theorem zV_eq (c : Dev nD) : zV (VT m c) = Z m c := by
  unfold zV Z
  rw [vt_x, vt_1, vt_2, vt_3]

/-- The reference's run. -/
theorem run : θ_run defs (onTc (τ := τ) main) ⟨m, fun _ => 0, ρ⟩ (fun r => ∀ c : Dev nD,
    (r.2.mem ((c.tc : Thread nD τ).loc main_v93) = refOut (Z m c) (m ((c.tc : Thread nD τ).loc main_arg4)) (m ((c.tc : Thread nD τ).loc main_arg5))
      ∧ r.2.mem ((c.tc : Thread nD τ).loc main_v80) = refThr (Z m c) (m ((c.tc : Thread nD τ).loc main_arg4)) (m ((c.tc : Thread nD τ).loc main_arg5))
      ∧ r.2.mem ((c.tc : Thread nD τ).loc main_v95) = refMar (Z m c) (m ((c.tc : Thread nD τ).loc main_arg4)) (m ((c.tc : Thread nD τ).loc main_arg5)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  run_from run_main m ρ
  · exact (tail0 (VT m c) (vt_c m c)).trans (by rw [zV_eq, vt_4, vt_5])
  · exact (tail1 (VT m c) (vt_c m c)).trans (by rw [zV_eq, vt_4, vt_5])
  · exact (tail2 (VT m c) (vt_c m c)).trans (by rw [zV_eq, vt_4, vt_5])
  · exact W_main_arg1 m (dats m) c
  · exact W_main_arg2 m (dats m) c
  · exact W_main_arg3 m (dats m) c
  · exact W_main_arg4 m (dats m) c
  · exact W_main_arg5 m (dats m) c

end Cert.ReferenceIdeal.Val
end
end
-- ==== Proof.Algebraic.lean ====
/- The kernel's three results are the reference's, over the extended reals. -/
module

public import proofs.«01_k».proof.Defs
public import proofs.«01_k».proof.Proof.Contract
public import proofs.«01_k».proof.Proof.PreValid
public import proofs.«01_k».proof.Proof.ReferenceIdeal.Run

@[expose] public section
set_option maxRecDepth 16384
noncomputable section
open Idealize.ShloMosaic Idealize.ShloMosaic.TcCoe Idealize.SL.Sem
namespace Cert.KernelIdeal
open Cert.KernelIdeal Cert.KernelIdeal.Gen Cert.ReferenceIdeal.Val

variable (m : (ℓ : Loc nD τ sig) → Buf (Elt Ideal) ℓ) (c : Dev nD)

/-- The arguments, -/
def A0 : FVec Ideal ReferenceIdeal.S24x256x4096 .bf16 := m ((c.tc : Thread nD τ).loc main_arg0)
def A1 : IVec ReferenceIdeal.S24x256x128 8 := m ((c.tc : Thread nD τ).loc main_arg1)
def A2 : IVec ReferenceIdeal.S16384x2048 8 := m ((c.tc : Thread nD τ).loc main_arg2)
def A3 : IVec ReferenceIdeal.S16384x128 8 := m ((c.tc : Thread nD τ).loc main_arg3)
def A4 : FVec Ideal ReferenceIdeal.S24x256 .f32 := m ((c.tc : Thread nD τ).loc main_arg4)
def A5 : FVec Ideal ReferenceIdeal.S24x256 .f32 := m ((c.tc : Thread nD τ).loc main_arg5)
/-- and the reference's logits of them. -/
def AZ : FVec Ideal ReferenceIdeal.S24x256x16384 .f32 := refZ (A0 m c) (A1 m c) (A2 m c) (A3 m c)

/-- A row of the flattened batch. -/
abbrev rowOf (b : Fin 24) (r : Fin 256) : Fin 6144 := ⟨256 * b.val + r.val, by omega⟩

/-- What the precondition says of the launched arguments. -/
structure Good : Prop where
  h1 : ∀ j, 1 ≤ (A1 m c j).toNat ∧ (A1 m c j).toNat ≤ 254
  h3 : ∀ j, 1 ≤ (A3 m c j).toNat ∧ (A3 m c j).toNat ≤ 254
  h4 : ∀ j, ∃ t : ℝ, 0 < t ∧ A4 m c j = (t : EReal)

variable (hg : Good m c) (b : Fin 24) (r : Fin 256)

/-- A logit as the kernel sums it. -/
theorem kZ_at (X : Vec Ideal S6144x4096 .bf16) (W : Vec Ideal S16384x4096 .bf16) (R : Fin 6144) (v : Fin 16384) :
    R2.kZ X W R v.val = ∑ p : Fin 4096, X (ix2 R p) * W (ix2 v p) := by
  unfold R2.kZ
  rw [dif_pos v.isLt]
include hg in
/-- A logit is the reference's, -/
theorem logit_eq (v : Fin 16384) : R2.kZ (atRefs (W3 m) c main_v6) (atRefs (W3 m) c main_v5) (rowOf b r) v.val = AZ m c (ix3 b r v) := by
  show R2.kZ (W3 m c main_v6) (W3 m c main_v5) (rowOf b r) v.val = _
  rw [w3_v6, w3_v5, kZ_at]
  exact Contract.z_eq (A0 m c) (A1 m c) (A2 m c) (A3 m c) hg.h1 hg.h3 b r v _ _ (rowOf b r) (row_read _ b r) (row_read' _ b r)

/-- a row's temperature, -/
theorem temp_eq : atRefs (W3 m) c main_v2 (ix2 (rowOf b r) 0) = A4 m c (ix2 b r) := by
  show (W3 m c main_v2 : FVec Ideal S6144x1 .f32) (ix2 (rowOf b r) 0) = _
  rw [w3_v2]
  exact col_read _ b r
/-- and the logarithm of its probability cut. -/
theorem logp_eq : atRefs (W3 m) c main_v4 (ix2 (rowOf b r) 0) = Ideal.log (A5 m c (ix2 b r)) := by
  show (W3 m c main_v4 : FVec Ideal S6144x1 .f32) (ix2 (rowOf b r) 0) = _
  rw [w3_v4]
  exact col_read _ b r

include hg in
/-- A masked log-probability, -/
theorem hOut_eq (v : Fin 16384) : R2.hOut (atRefs (W3 m)) c (rowOf b r) v.val = refOut (AZ m c) (A4 m c) (A5 m c) (ix3 b r v) := by
  obtain ⟨t, ht, e⟩ := hg.h4 (ix2 b r)
  choose f hf using fun v => Contract.z_real (A0 m c) (A1 m c) (A2 m c) (A3 m c) hg.h1 hg.h3 b r v
  rw [out_at]
  unfold R2.hOut
  rw [temp_eq, logp_eq, e]
  exact Row.out_eq _ (fun v => AZ m c (ix3 b r v)) f t _ ht hf (logit_eq m c hg b r) v
include hg in
/-- a row's threshold, -/
theorem hThr_eq : R2.hThr (atRefs (W3 m)) c (rowOf b r) = refThr (AZ m c) (A4 m c) (A5 m c) (ix2 b r) := by
  obtain ⟨t, ht, e⟩ := hg.h4 (ix2 b r)
  choose f hf using fun v => Contract.z_real (A0 m c) (A1 m c) (A2 m c) (A3 m c) hg.h1 hg.h3 b r v
  rw [thr_at]
  unfold R2.hThr
  rw [temp_eq, logp_eq, e]
  exact Row.thr_eq _ (fun v => AZ m c (ix3 b r v)) f t _ ht hf (logit_eq m c hg b r)
include hg in
/-- a row's margin. -/
theorem hMar_eq : R2.hMar (atRefs (W3 m)) c (rowOf b r) = refMar (AZ m c) (A4 m c) (A5 m c) (ix2 b r) := by
  obtain ⟨t, ht, e⟩ := hg.h4 (ix2 b r)
  choose f hf using fun v => Contract.z_real (A0 m c) (A1 m c) (A2 m c) (A3 m c) hg.h1 hg.h3 b r v
  rw [mar_at]
  unfold R2.hMar
  rw [temp_eq, logp_eq, e]
  exact Row.mar_eq _ (fun v => AZ m c (ix3 b r v)) f t _ ht hf (logit_eq m c hg b r)

include hg in
/-- The first result, -/
theorem res0 : (W5 m c main_v8 : FVec Ideal S24x256x16384 .bf16) = refOut (AZ m c) (A4 m c) (A5 m c) := by
  rw [w5_v8, w4_v7_0]
  funext y
  obtain ⟨b, r, v, rfl⟩ := R2.exists_ix3 y
  exact (out_read _ b r v).trans (hOut_eq m c hg b r v)
include hg in
/-- the second, -/
theorem res1 : (W5 m c main_v9 : FVec Ideal S24x256 .f32) = refThr (AZ m c) (A4 m c) (A5 m c) := by
  rw [w5_v9, w4_v7_1]
  funext y
  obtain ⟨b, r, rfl⟩ := exists_ix2 y
  exact (outc_read _ b r).trans (hThr_eq m c hg b r)
include hg in
/-- the third. -/
theorem res2 : (W5 m c main_v10 : FVec Ideal S24x256 .f32) = refMar (AZ m c) (A4 m c) (A5 m c) := by
  rw [w5_v10, w4_v7_2]
  funext y
  obtain ⟨b, r, rfl⟩ := exists_ix2 y
  exact (outc_read _ b r).trans (hMar_eq m c hg b r)
end Cert.KernelIdeal

namespace Cert.Proof
open Cert.ReferenceIdeal.Val
attribute [local instance] Cert.Pre_valid.facts

/-- The precondition, of the launched arguments. -/
theorem good (m : (ℓ : Loc KernelIdeal.nD KernelIdeal.τ KernelIdeal.sig) → Buf (Elt Ideal) ℓ) (h : Pre_KernelIdeal_valid m) (c : Dev KernelIdeal.nD) : KernelIdeal.Good m c := by
  obtain ⟨h1, h3, h4⟩ := Pre_valid.read _ _ _ _ _ _ (h c)
  exact ⟨h1, h3, h4⟩

/-- Kernel and reference end with equal results. -/
theorem algebraic : algebraic_KernelIdeal_ReferenceIdeal_pre_valid (hKernelIdeal := KernelIdeal.Gen.facts) (hReferenceIdeal := ReferenceIdeal.Gen.facts) (hPre_valid := Pre_valid.facts) := by
  intro m g m' g' hpre hargs
  refine ⟨fun c => refOut (KernelIdeal.AZ m c) (KernelIdeal.A4 m c) (KernelIdeal.A5 m c), fun c => refThr (KernelIdeal.AZ m c) (KernelIdeal.A4 m c) (KernelIdeal.A5 m c),
    fun c => refMar (KernelIdeal.AZ m c) (KernelIdeal.A4 m c) (KernelIdeal.A5 m c), ?_, ?_⟩
  · refine (θ_run KernelIdeal.defs _ _).mono (fun s h c => ?_) (KernelIdeal.run m g)
    obtain ⟨⟨a0, a1, a2, a3, a4, a5⟩, h8, h9, h10⟩ := h.1 c
    exact ⟨h8.trans (KernelIdeal.res0 m c (good m hpre c)), h9.trans (KernelIdeal.res1 m c (good m hpre c)), h10.trans (KernelIdeal.res2 m c (good m hpre c)), a0, a1, a2, a3, a4, a5⟩
  · refine (θ_run ReferenceIdeal.defs _ _).mono (fun s h c => ?_) (ReferenceIdeal.Val.run m' g')
    obtain ⟨⟨h0, h1, h2⟩, args⟩ := h c
    obtain ⟨a0, a1, a2, a3, a4, a5⟩ := hargs c
    have hz : ReferenceIdeal.Val.Z m' c = KernelIdeal.AZ m c := by
      unfold ReferenceIdeal.Val.Z
      rw [a0, a1, a2, a3]
      rfl
    rw [hz, a4, a5] at h0 h1 h2
    exact ⟨h0, h1, h2, args⟩
end Cert.Proof
end
end
-- ==== Proof.lean ====
module

public import proofs.«01_k».proof.Defs
public import proofs.«01_k».proof.Proof.Gen.ReferenceIdeal.Frame
public import proofs.«01_k».proof.Proof.Kernel.Run
public import proofs.«01_k».proof.Proof.KernelIdeal.Run
public import proofs.«01_k».proof.Proof.Algebraic

@[expose] public section

noncomputable section

namespace Cert.Proof

/-- The claim: the programs' stated facts, then each conjunct. -/
theorem claim : Cert.Claim :=
  ⟨Cert.Kernel.Gen.facts, Cert.KernelIdeal.Gen.facts, Cert.ReferenceIdeal.Gen.facts, Cert.Pre_valid.facts,
    fun m ρ _ => Cert.Kernel.frame m ρ,
    fun m ρ _ => Cert.KernelIdeal.frame m ρ, fun m ρ _ => Cert.KernelIdeal.frame m ρ,
    fun m ρ _ => Cert.ReferenceIdeal.Gen.frame m ρ, fun m ρ _ => Cert.ReferenceIdeal.Gen.frame m ρ,
    trivial, algebraic⟩

end Cert.Proof

end
